-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v90_0)) (v1 : (c : Dev Cert.Kernel5Ideal.nD) → Buf (Elt Ideal) ((c.tc : Thread Cert.Kernel5Ideal.nD Cert.Kernel5Ideal.τ).loc Cert.Kernel5Ideal.main_v90_1)) (v2 : (c : Dev Cert.Kernel5Ideal.nD) → Buf (Elt Ideal) ((c.tc : Thread Cert.Kernel5Ideal.nD Cert.Kernel5Ideal.τ).loc Cert.Kernel5Ideal.main_v90_2)) (v3 : (c : Dev Cert.Kernel5Ideal.nD) → Buf (Elt Ideal) ((c.tc : Thread Cert.Kernel5Ideal.nD Cert.Kernel5Ideal.τ).loc Cert.Kernel5Ideal.main_v90_3)) (v4 : (c : Dev Cert.Kernel5Ideal.nD) → Buf (Elt Ideal) ((c.tc : Thread Cert.Kernel5Ideal.nD Cert.Kernel5Ideal.τ).loc Cert.Kernel5Ideal.main_v90_4)) (v5 : (c : Dev Cert.Kernel5Ideal.nD) → Buf (Elt Ideal) ((c.tc : Thread Cert.Kernel5Ideal.nD Cert.Kernel5Ideal.τ).loc Cert.Kernel5Ideal.main_v90_5)) (v6 : (c : Dev Cert.Kernel5Ideal.nD) → Buf (Elt Ideal) ((c.tc : Thread Cert.Kernel5Ideal.nD Cert.Kernel5Ideal.τ).loc Cert.Kernel5Ideal.main_v90_6)) (v7 : (c : Dev Cert.Kernel5Ideal.nD) → Buf (Elt Ideal) ((c.tc : Thread Cert.Kernel5Ideal.nD Cert.Kernel5Ideal.τ).loc Cert.Kernel5Ideal.main_v90_7)) (v8 : (c : Dev Cert.Kernel5Ideal.nD) → Buf (Elt Ideal) ((c.tc : Thread Cert.Kernel5Ideal.nD Cert.Kernel5Ideal.τ).loc Cert.Kernel5Ideal.main_v90_8)) (v9 : (c : Dev Cert.Kernel5Ideal.nD) → Buf (Elt Ideal) ((c.tc : Thread Cert.Kernel5Ideal.nD Cert.Kernel5Ideal.τ).loc Cert.Kernel5Ideal.main_v90_9)) (v10 : (c : Dev Cert.Kernel5Ideal.nD) → Buf (Elt Ideal) ((c.tc : Thread Cert.Kernel5Ideal.nD Cert.Kernel5Ideal.τ).loc Cert.Kernel5Ideal.main_v90_10)) (v11 : (c : Dev Cert.Kernel5Ideal.nD) → Buf (Elt Ideal) ((c.tc : Thread Cert.Kernel5Ideal.nD Cert.Kernel5Ideal.τ).loc Cert.Kernel5Ideal.main_v90_11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v90_0) = v0 c
          ∧ r.2.mem ((c.tc : Thread Cert.Kernel5Ideal.nD Cert.Kernel5Ideal.τ).loc Cert.Kernel5Ideal.main_v90_1) = v1 c
          ∧ r.2.mem ((c.tc : Thread Cert.Kernel5Ideal.nD Cert.Kernel5Ideal.τ).loc Cert.Kernel5Ideal.main_v90_2) = v2 c
          ∧ r.2.mem ((c.tc : Thread Cert.Kernel5Ideal.nD Cert.Kernel5Ideal.τ).loc Cert.Kernel5Ideal.main_v90_3) = v3 c
          ∧ r.2.mem ((c.tc : Thread Cert.Kernel5Ideal.nD Cert.Kernel5Ideal.τ).loc Cert.Kernel5Ideal.main_v90_4) = v4 c
          ∧ r.2.mem ((c.tc : Thread Cert.Kernel5Ideal.nD Cert.Kernel5Ideal.τ).loc Cert.Kernel5Ideal.main_v90_5) = v5 c
          ∧ r.2.mem ((c.tc : Thread Cert.Kernel5Ideal.nD Cert.Kernel5Ideal.τ).loc Cert.Kernel5Ideal.main_v90_6) = v6 c
          ∧ r.2.mem ((c.tc : Thread Cert.Kernel5Ideal.nD Cert.Kernel5Ideal.τ).loc Cert.Kernel5Ideal.main_v90_7) = v7 c
          ∧ r.2.mem ((c.tc : Thread Cert.Kernel5Ideal.nD Cert.Kernel5Ideal.τ).loc Cert.Kernel5Ideal.main_v90_8) = v8 c
          ∧ r.2.mem ((c.tc : Thread Cert.Kernel5Ideal.nD Cert.Kernel5Ideal.τ).loc Cert.Kernel5Ideal.main_v90_9) = v9 c
          ∧ r.2.mem ((c.tc : Thread Cert.Kernel5Ideal.nD Cert.Kernel5Ideal.τ).loc Cert.Kernel5Ideal.main_v90_10) = v10 c
          ∧ r.2.mem ((c.tc : Thread Cert.Kernel5Ideal.nD Cert.Kernel5Ideal.τ).loc Cert.Kernel5Ideal.main_v90_11) = v11 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v118) = v0 c
          ∧ r.2.mem ((c.tc : Thread Cert.Reference5Ideal.nD Cert.Reference5Ideal.τ).loc Cert.Reference5Ideal.main_v122) = v1 c
          ∧ r.2.mem ((c.tc : Thread Cert.Reference5Ideal.nD Cert.Reference5Ideal.τ).loc Cert.Reference5Ideal.main_v125) = v2 c
          ∧ r.2.mem ((c.tc : Thread Cert.Reference5Ideal.nD Cert.Reference5Ideal.τ).loc Cert.Reference5Ideal.main_v127) = v3 c
          ∧ r.2.mem ((c.tc : Thread Cert.Reference5Ideal.nD Cert.Reference5Ideal.τ).loc Cert.Reference5Ideal.main_v128) = v4 c
          ∧ r.2.mem ((c.tc : Thread Cert.Reference5Ideal.nD Cert.Reference5Ideal.τ).loc Cert.Reference5Ideal.main_v133) = v5 c
          ∧ r.2.mem ((c.tc : Thread Cert.Reference5Ideal.nD Cert.Reference5Ideal.τ).loc Cert.Reference5Ideal.main_v135) = v6 c
          ∧ r.2.mem ((c.tc : Thread Cert.Reference5Ideal.nD Cert.Reference5Ideal.τ).loc Cert.Reference5Ideal.main_v137) = v7 c
          ∧ r.2.mem ((c.tc : Thread Cert.Reference5Ideal.nD Cert.Reference5Ideal.τ).loc Cert.Reference5Ideal.main_v140) = v8 c
          ∧ r.2.mem ((c.tc : Thread Cert.Reference5Ideal.nD Cert.Reference5Ideal.τ).loc Cert.Reference5Ideal.main_v142) = v9 c
          ∧ r.2.mem ((c.tc : Thread Cert.Reference5Ideal.nD Cert.Reference5Ideal.τ).loc Cert.Reference5Ideal.main_v145) = v10 c
          ∧ r.2.mem ((c.tc : Thread Cert.Reference5Ideal.nD Cert.Reference5Ideal.τ).loc Cert.Reference5Ideal.main_v147) = v11 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
-- ==== Pre_finite.lean ====
abbrev S8x2048x4x128 : Shape := ⟨4, ![8, 2048, 4, 128]⟩
abbrev S8x256x1024 : Shape := ⟨3, ![8, 256, 1024]⟩
abbrev S1024x1024 : Shape := ⟨2, ![1024, 1024]⟩
abbrev S_ : Shape := ⟨0, ![]⟩

class Facts : Prop where
  bcast_S_S8x2048x4x128 : S_.BroadcastsInDim S8x2048x4x128 (![] : Fin 0 → Fin S8x2048x4x128.rank)
  reducesTo_S8x2048x4x128_S_d0_1_2_3 : S8x2048x4x128.ReducesTo [0, 1, 2, 3] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x2048x4x128 .f32) (main_arg1 : FVec F S8x256x1024 .f32) (main_arg2 : FVec F S1024x1024 .f32) : IVec S_ 1 :=
  let main_v0 : FVec F S8x2048x4x128 .f32 := Host.absf main_arg0
  let main_cst : FVec F S_ .f32 := constant S_ .f32 0x7F800000#32
  let main_v1 : FVec F S8x2048x4x128 .f32 := broadcastInDim S8x2048x4x128 ![] bcast_S_S8x2048x4x128 main_cst
  let main_v2 : IVec S8x2048x4x128 1 := cmpf .olt main_v0 main_v1
  let main_c : IVec S_ 1 := constantI S_ 1 1#1
  let main_v3 : IVec S_ 1 := (fun x v => Host.reduce IntOp.andi x v reducesTo_S8x2048x4x128_S_d0_1_2_3 h_S_) main_v2 main_c
  let main_v4 : FVec F S8x256x1024 .f32 := Host.absf main_arg1
  let main_cst_0 : FVec F S_ .f32 := constant S_ .f32 0x7F800000#32
  let main_v5 : FVec F S8x256x1024 .f32 := broadcastInDim S8x256x1024 ![] bcast_S_S8x256x1024 main_cst_0
  let main_v6 : IVec S8x256x1024 1 := cmpf .olt main_v4 main_v5
  let main_c_1 : IVec S_ 1 := constantI S_ 1 1#1
  let main_v7 : IVec S_ 1 := (fun x v => Host.reduce IntOp.andi x v reducesTo_S8x256x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8x2048x4x64 : Shape := ⟨4, ![8, 2048, 4, 64]⟩
abbrev S8x2048x512 : Shape := ⟨3, ![8, 2048, 512]⟩
abbrev S512 : Shape := ⟨1, ![512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S128x4x128 : Shape := ⟨3, ![128, 4, 128]⟩
abbrev S128x512 : Shape := ⟨2, ![128, 512]⟩
abbrev S4x64x128 : Shape := ⟨3, ![4, 64, 128]⟩
abbrev S128x128x256 : Shape := ⟨3, ![128, 128, 256]⟩
abbrev S1x128x256 : Shape := ⟨3, ![1, 128, 256]⟩
abbrev S16384x256 : Shape := ⟨2, ![16384, 256]⟩
abbrev S256x16384 : Shape := ⟨2, ![256, 16384]⟩
abbrev S16384x4x64 : Shape := ⟨3, ![16384, 4, 64]⟩
abbrev S16384x4x128 : Shape := ⟨3, ![16384, 4, 128]⟩
abbrev S16384x512 : Shape := ⟨2, ![16384, 512]⟩
abbrev S1x512 : Shape := ⟨2, ![1, 512]⟩
abbrev S1024x512 : Shape := ⟨2, ![1024, 512]⟩
abbrev S256x1024 : Shape := ⟨2, ![256, 1024]⟩
abbrev S1x64x128 : Shape := ⟨3, ![1, 64, 128]⟩
abbrev S64x128 : Shape := ⟨2, ![64, 128]⟩
abbrev S256x128 : Shape := ⟨2, ![256, 128]⟩
abbrev S256x512 : Shape := ⟨2, ![256, 512]⟩

abbrev nBuf : Space → Nat
  | .hbm => 99
  | .vmem => 18
  | .smem => 0
  | _ => 0

abbrev bufTy : (tb : Table) → Fin (tcTables nBuf tb) → BufTy
  | .hbm, ⟨0, _⟩ => ⟨S8x2048x4x64, .f32⟩
  | .hbm, ⟨1, _⟩ => ⟨S8x2048x4x64, .f32⟩
  | .hbm, ⟨2, _⟩ => ⟨S8x2048x512, .f32⟩
  | .hbm, ⟨3, _⟩ => ⟨S8x2048x512, .f32⟩
  | .hbm, ⟨4, _⟩ => ⟨S512, .f32⟩
  | .hbm, ⟨5, _⟩ => ⟨S512, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S128, .i32⟩
  | .hbm, ⟨18, _⟩ => ⟨S128x1, .i32⟩
  | .hbm, ⟨19, _⟩ => ⟨S1x128, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S1x128x128, .i32⟩
  | .hbm, ⟨24, _⟩ => ⟨S_, .i32⟩
  | .hbm, ⟨25, _⟩ => ⟨S1x128x128, .i32⟩
  | .hbm, ⟨26, _⟩ => ⟨S1x128x128, .i1⟩
  | .hbm, ⟨27, _⟩ => ⟨S_, .i32⟩
  | .hbm, ⟨28, _⟩ => ⟨S128x128, .i32⟩
  | .hbm, ⟨29, _⟩ => ⟨S128x128, .i32⟩
  | .hbm, ⟨30, _⟩ => ⟨S1x128x128, .i32⟩
  | .hbm, ⟨31, _⟩ => ⟨S4x1x1, .f32⟩
  | .hbm, ⟨32, _⟩ => ⟨S1x128x128, .f32⟩
  | .hbm, ⟨33, _⟩ => ⟨S4x128x128, .f32⟩
  | .hbm, ⟨34, _⟩ => ⟨S4x128x128, .f32⟩
  | .hbm, ⟨35, _⟩ => ⟨S4x128x128, .f32⟩
  | .hbm, ⟨36, _⟩ => ⟨S4x128x128, .f32⟩
  | .hbm, ⟨37, _⟩ => ⟨S_, .f32⟩
  | .hbm, ⟨38, _⟩ => ⟨S_, .f32⟩
  | .hbm, ⟨39, _⟩ => ⟨S4x128x128, .i1⟩
  | .hbm, ⟨40, _⟩ => ⟨S4x128x128, .f32⟩
  | .hbm, ⟨41, _⟩ => ⟨S4x128x128, .f32⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S1x128, .i32⟩
  | .hbm, ⟨46, _⟩ => ⟨S4x1, .f32⟩
  | .hbm, ⟨47, _⟩ => ⟨S1x128, .f32⟩
  | .hbm, ⟨48, _⟩ => ⟨S4x128, .f32⟩
  | .hbm, ⟨49, _⟩ => ⟨S4x128, .f32⟩
  | .hbm, ⟨50, _⟩ => ⟨S4x128, .f32⟩
  | .hbm, ⟨51, _⟩ => ⟨S4x128, .f32⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S1x128, .i32⟩
  | .hbm, ⟨56, _⟩ => ⟨S4x1, .f32⟩
  | .hbm, ⟨57, _⟩ => ⟨S1x128, .f32⟩
  | .hbm, ⟨58, _⟩ => ⟨S4x128, .f32⟩
  | .hbm, ⟨59, _⟩ => ⟨S4x128, .f32⟩
  | .hbm, ⟨60, _⟩ => ⟨S4x128, .f32⟩
  | .hbm, ⟨61, _⟩ => ⟨S4x128, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S128x4, .f32⟩
  | .hbm, ⟨67, _⟩ => ⟨S128x4x64, .f32⟩
  | .hbm, ⟨68, _⟩ => ⟨S128x256, .f32⟩
  | .hbm, ⟨69, _⟩ => ⟨S128x4, .f32⟩
  | .hbm, ⟨70, _⟩ => ⟨S128x4x128, .f32⟩
  | .hbm, ⟨71, _⟩ => ⟨S128x512, .f32⟩
  | .hbm, ⟨72, _⟩ => ⟨S4x1x1, .f32⟩
  | .hbm, ⟨73, _⟩ => ⟨S4x64x128, .f32⟩
  | .hbm, ⟨74, _⟩ => ⟨S128x128x256, .f32⟩
  | .hbm, ⟨75, _⟩ => ⟨S1x128x256, .f32⟩
  | .hbm, ⟨76, _⟩ => ⟨S128x128x256, .f32⟩
  | .hbm, ⟨77, _⟩ => ⟨S128x128x256, .f32⟩
  | .hbm, ⟨78, _⟩ => ⟨S16384x256, .f32⟩
  | .hbm, ⟨79, _⟩ => ⟨S256x16384, .f32⟩
  | .hbm, ⟨80, _⟩ => ⟨S256x16384, .bf16⟩
  | .hbm, ⟨81, _⟩ => ⟨S16384x4x64, .f32⟩
  | .hbm, ⟨82, _⟩ => ⟨S_, .i32⟩
  | .hbm, ⟨83, _⟩ => ⟨S_, .f32⟩
  | .hbm, ⟨84, _⟩ => ⟨S16384x4x128, .f32⟩
  | .hbm, ⟨85, _⟩ => ⟨S16384x512, .f32⟩
  | .hbm, ⟨86, _⟩ => ⟨S16384x512, .bf16⟩
  | .hbm, ⟨87, _⟩ => ⟨S16384x4x64, .f32⟩
  | .hbm, ⟨88, _⟩ => ⟨S_, .i32⟩
  | .hbm, ⟨89, _⟩ => ⟨S_, .f32⟩
  | .hbm, ⟨90, _⟩ => ⟨S16384x4x128, .f32⟩
  | .hbm, ⟨91, _⟩ => ⟨S16384x512, .f32⟩
  | .hbm, ⟨92, _⟩ => ⟨S16384x512, .bf16⟩
  | .hbm, ⟨93, _⟩ => ⟨S16384x512, .f32⟩
  | .hbm, ⟨94, _⟩ => ⟨S16384x512, .bf16⟩
  | .hbm, ⟨95, _⟩ => ⟨S16384x512, .f32⟩
  | .hbm, ⟨96, _⟩ => ⟨S1x512, .f32⟩
  | .hbm, ⟨97, _⟩ => ⟨S1x512, .f32⟩
  | .hbm, ⟨98, _⟩ => ⟨S16384x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S256x1024, .bf16⟩
  | .local _ .vmem, ⟨5, _⟩ => ⟨S256x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S4x128x128, .f32⟩
  | .local _ .vmem, ⟨11, _⟩ => ⟨S128x512, .f32⟩
  | .local _ .vmem, ⟨12, _⟩ => ⟨S4x64x128, .f32⟩
  | .local _ .vmem, ⟨13, _⟩ => ⟨S1x512, .f32⟩
  | .local _ .vmem, ⟨14, _⟩ => ⟨S1x512, .f32⟩
  | .local _ .vmem, ⟨15, _⟩ => ⟨S1024x512, .bf16⟩
  | .local _ .vmem, ⟨16, _⟩ => ⟨S1024x512, .bf16⟩
  | .local _ .vmem, ⟨17, _⟩ => ⟨S4x64x128, .f32⟩
  | _, _ => ⟨S8x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_7 : Ref sig .tc := ⟨.hbm, 82, rfl⟩
abbrev main_call1_v0 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_8 : Ref sig .tc := ⟨.hbm, 88, rfl⟩
abbrev main_call2_v0 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x2048x4x64 : Shape := ⟨4, ![8, 2048, 4, 64]⟩
abbrev S8x2048x512 : Shape := ⟨3, ![8, 2048, 512]⟩
abbrev S512 : Shape := ⟨1, ![512]⟩
abbrev S4 : Shape := ⟨1, ![4]⟩
abbrev S_ : Shape := ⟨0, ![]⟩
abbrev S128 : Shape := ⟨1, ![128]⟩
abbrev S1x128 : Shape := ⟨2, ![1, 128]⟩
abbrev S4x1 : Shape := ⟨2, ![4, 1]⟩
abbrev S4x128 : Shape := ⟨2, ![4, 128]⟩
abbrev S8x16x128x4x64 : Shape := ⟨5, ![8, 16, 128, 4, 64]⟩
abbrev S8x16x128x4x128 : Shape := ⟨5, ![8, 16, 128, 4, 128]⟩
abbrev S128x4 : Shape := ⟨2, ![128, 4]⟩
abbrev S1x1x128x4x1 : Shape := ⟨5, ![1, 1, 128, 4, 1]⟩
abbrev S8x16x4x64x128 : Shape := ⟨5, ![8, 16, 4, 64, 128]⟩
abbrev S8x4x64x128 : Shape := ⟨4, ![8, 4, 64, 128]⟩
abbrev S16x8x4x64x128 : Shape := ⟨5, ![16, 8, 4, 64, 128]⟩
abbrev S1x8x4x64x128 : Shape := ⟨5, ![1, 8, 4, 64, 128]⟩
abbrev S1x4x1x1 : Shape := ⟨4, ![1, 4, 1, 1]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S8x16x4x128x128 : Shape := ⟨5, ![8, 16, 4, 128, 128]⟩
abbrev S1x1x4x128x128 : Shape := ⟨5, ![1, 1, 4, 128, 128]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x512 : Shape := ⟨3, ![1, 1, 512]⟩
abbrev S16384x512 : Shape := ⟨2, ![16384, 512]⟩

abbrev nBuf : Space → Nat
  | .hbm => 176
  | .vmem => 0
  | .smem => 0
  | _ => 0

abbrev hbmTy0_0 (i : Nat) : BufTy := match i % 128 with
  | 0 => ⟨S8x2048x4x64, .f32⟩
  | 1 => ⟨S8x2048x4x64, .f32⟩
  | 2 => ⟨S8x2048x512, .f32⟩
  | 3 => ⟨S8x2048x512, .f32⟩
  | 4 => ⟨S512, .f32⟩
  | 5 => ⟨S512, .f32⟩
  | 6 => ⟨S4, .f32⟩
  | 7 => ⟨S_, .f32⟩
  | 8 => ⟨S4, .f32⟩
  | 9 => ⟨S4, .f32⟩
  | 10 => ⟨S_, .f32⟩
  | 11 => ⟨S4, .f32⟩
  | 12 => ⟨S4, .f32⟩
  | 13 => ⟨S_, .f32⟩
  | 14 => ⟨S4, .f32⟩
  | 15 => ⟨S4, .f32⟩
  | 16 => ⟨S4, .f32⟩
  | 17 => ⟨S128, .i32⟩
  | 18 => ⟨S_, .i32⟩
  | 19 => ⟨S128, .i32⟩
  | 20 => ⟨S128, .i32⟩
  | 21 => ⟨S1x128, .i32⟩
  | 22 => ⟨S4x1, .f32⟩
  | 23 => ⟨S1x128, .f32⟩
  | 24 => ⟨S4x128, .f32⟩
  | 25 => ⟨S4x128, .f32⟩
  | 26 => ⟨S4x128, .f32⟩
  | 27 => ⟨S4x128, .f32⟩
  | 28 => ⟨S_, .f32⟩
  | 29 => ⟨S4, .f32⟩
  | 30 => ⟨S4, .f32⟩
  | 31 => ⟨S4, .f32⟩
  | 32 => ⟨S8x16x128x4x64, .f32⟩
  | 33 => ⟨S8x16x128x4x128, .f32⟩
  | 34 => ⟨S128x4, .f32⟩
  | 35 => ⟨S1x1x128x4x1, .f32⟩
  | 36 => ⟨S8x16x128x4x64, .f32⟩
  | 37 => ⟨S8x16x128x4x64, .f32⟩
  | 38 => ⟨S8x16x4x64x128, .f32⟩
  | 39 => ⟨S_, .f32⟩
  | 40 => ⟨S8x4x64x128, .f32⟩
  | 41 => ⟨S16x8x4x64x128, .f32⟩
  | 42 => ⟨S_, .f32⟩
  | 43 => ⟨S16x8x4x64x128, .f32⟩
  | 44 => ⟨S_, .i32⟩
  | 45 => ⟨S16x8x4x64x128, .f32⟩
  | 46 => ⟨S4, .f32⟩
  | 47 => ⟨S_, .i32⟩
  | 48 => ⟨S8x4x64x128, .f32⟩
  | 49 => ⟨S16x8x4x64x128, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S1x8x4x64x128, .f32⟩
  | 57 => ⟨S8x4x64x128, .f32⟩
  | 58 => ⟨S1x4x1x1, .f32⟩
  | 59 => ⟨S8x4x64x128, .f32⟩
  | 60 => ⟨S8x4x64x128, .f32⟩
  | 61 => ⟨S8x4x64x128, .f32⟩
  | 62 => ⟨S1x8x4x64x128, .f32⟩
  | 63 => ⟨S_, .i32⟩
  | 64 => ⟨S_, .i32⟩
  | 65 => ⟨S_, .i32⟩
  | 66 => ⟨S_, .i32⟩
  | 67 => ⟨S16x8x4x64x128, .f32⟩
  | 68 => ⟨S_, .i32⟩
  | 69 => ⟨S_, .i32⟩
  | 70 => ⟨S8x16x4x64x128, .f32⟩
  | 71 => ⟨S4, .f32⟩
  | 72 => ⟨S_, .f32⟩
  | 73 => ⟨S4, .f32⟩
  | 74 => ⟨S4, .f32⟩
  | 75 => ⟨S_, .f32⟩
  | 76 => ⟨S4, .f32⟩
  | 77 => ⟨S4, .f32⟩
  | 78 => ⟨S_, .f32⟩
  | 79 => ⟨S4, .f32⟩
  | 80 => ⟨S4, .f32⟩
  | 81 => ⟨S4, .f32⟩
  | 82 => ⟨S128, .i32⟩
  | 83 => ⟨S128x1, .i32⟩
  | 84 => ⟨S1x128, .i32⟩
  | 85 => ⟨S128x128, .i32⟩
  | 86 => ⟨S128x128, .i32⟩
  | 87 => ⟨S128x128, .i32⟩
  | 88 => ⟨S1x128x128, .i32⟩
  | 89 => ⟨S_, .i32⟩
  | 90 => ⟨S1x128x128, .i32⟩
  | 91 => ⟨S1x128x128, .i1⟩
  | 92 => ⟨S_, .i32⟩
  | 93 => ⟨S128x128, .i32⟩
  | 94 => ⟨S128x128, .i32⟩
  | 95 => ⟨S1x128x128, .i32⟩
  | 96 => ⟨S4x1x1, .f32⟩
  | 97 => ⟨S1x128x128, .f32⟩
  | 98 => ⟨S4x128x128, .f32⟩
  | 99 => ⟨S4x128x128, .f32⟩
  | 100 => ⟨S4x128x128, .f32⟩
  | 101 => ⟨S4x128x128, .f32⟩
  | 102 => ⟨S_, .f32⟩
  | 103 => ⟨S_, .f32⟩
  | 104 => ⟨S4x128x128, .i1⟩
  | 105 => ⟨S4x128x128, .f32⟩
  | 106 => ⟨S4x128x128, .f32⟩
  | 107 => ⟨S_, .i32⟩
  | 108 => ⟨S128, .i32⟩
  | 109 => ⟨S128, .i32⟩
  | 110 => ⟨S1x128, .i32⟩
  | 111 => ⟨S4x1, .f32⟩
  | 112 => ⟨S1x128, .f32⟩
  | 113 => ⟨S4x128, .f32⟩
  | 114 => ⟨S4x128, .f32⟩
  | 115 => ⟨S4x128, .f32⟩
  | 116 => ⟨S4x128, .f32⟩
  | 117 => ⟨S8x16x128x4x64, .f32⟩
  | 118 => ⟨S8x16x128x4x64, .f32⟩
  | 119 => ⟨S8x16x128x4x128, .f32⟩
  | 120 => ⟨S8x16x4x128x128, .f32⟩
  | 121 => ⟨S1x1x4x128x128, .f32⟩
  | 122 => ⟨S8x16x4x128x128, .f32⟩
  | 123 => ⟨S8x16x4x128x128, .f32⟩
  | 124 => ⟨S8x16x4x128x128, .f32⟩
  | 125 => ⟨S8x16x128x4x128, .f32⟩
  | 126 => ⟨S128x4, .f32⟩
  | 127 => ⟨S1x1x128x4x1, .f32⟩
  | _ => ⟨S8x2048x4x64, .f32⟩

abbrev hbmTy0_1 (i : Nat) : BufTy := match i % 128 with
  | 0 => ⟨S8x16x128x4x64, .f32⟩
  | 1 => ⟨S8x16x128x4x64, .f32⟩
  | 2 => ⟨S8x16x4x128x128, .f32⟩
  | 3 => ⟨S8x16x128x4x128, .f32⟩
  | 4 => ⟨S8x16x128x4x128, .f32⟩
  | 5 => ⟨S8x2048x4x128, .f32⟩
  | 6 => ⟨S_, .f32⟩
  | 7 => ⟨S8x2048x4, .f32⟩
  | 8 => ⟨S8x2048x4x1, .f32⟩
  | 9 => ⟨S_, .f32⟩
  | 10 => ⟨S8x2048x4x1, .f32⟩
  | 11 => ⟨S8x2048x4x1, .f32⟩
  | 12 => ⟨S8x2048x4x128, .f32⟩
  | 13 => ⟨S8x2048x4x128, .f32⟩
  | 14 => ⟨S8x2048x4x128, .f32⟩
  | 15 => ⟨S_, .f32⟩
  | 16 => ⟨S8x2048x4, .f32⟩
  | 17 => ⟨S8x2048x4x1, .f32⟩
  | 18 => ⟨S_, .f32⟩
  | 19 => ⟨S8x2048x4x1, .f32⟩
  | 20 => ⟨S8x2048x4x1, .f32⟩
  | 21 => ⟨S8x2048x4x128, .f32⟩
  | 22 => ⟨S8x2048x4x128, .f32⟩
  | 23 => ⟨S_, .f32⟩
  | 24 => ⟨S8x2048x4x1, .f32⟩
  | 25 => ⟨S8x2048x4x1, .f32⟩
  | 26 => ⟨S8x2048x4x1, .f32⟩
  | 27 => ⟨S8x2048x4x128, .f32⟩
  | 28 => ⟨S8x2048x4x128, .f32⟩
  | 29 => ⟨S8x2048x512, .f32⟩
  | 30 => ⟨S1x1x512, .f32⟩
  | 31 => ⟨S8x2048x512, .f32⟩
  | 32 => ⟨S8x2048x512, .f32⟩
  | 33 => ⟨S1x1x512, .f32⟩
  | 34 => ⟨S8x2048x512, .f32⟩
  | 35 => ⟨S8x2048x512, .f32⟩
  | 36 => ⟨S8x2048x512, .f32⟩
  | 37 => ⟨S8x2048x512, .f32⟩
  | 38 => ⟨S_, .f32⟩
  | 39 => ⟨S8x2048x512, .f32⟩
  | 40 => ⟨S8x2048x512, .f32⟩
  | 41 => ⟨S_, .f32⟩
  | 42 => ⟨S8x2048x512, .f32⟩
  | 43 => ⟨S8x2048x512, .f32⟩
  | 44 => ⟨S8x2048x512, .f32⟩
  | 45 => ⟨S8x2048x512, .f32⟩
  | 46 => ⟨S16384x512, .f32⟩
  | 47 => ⟨S16384x512, .bf16⟩
  | _ => ⟨S8x2048x4x64, .f32⟩

abbrev hbmTy (i : Nat) : BufTy := match i / 128 with
  | 0 => hbmTy0_0 i
  | 1 => hbmTy0_1 i
  | _ => ⟨S8x2048x4x64, .f32⟩

abbrev bufTy : (tb : Table) → Fin (tcTables nBuf tb) → BufTy
  | .hbm, ⟨i, _⟩ => hbmTy i
  | _, _ => ⟨S8x2048x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_c_5 : Ref sig .tc := ⟨.hbm, 44, rfl⟩
abbrev main_v31_0 : Ref sig .tc := ⟨.hbm, 45, rfl⟩
abbrev main_v31_1 : Ref sig .tc := ⟨.hbm, 46, rfl⟩
abbrev main_v31_2 : Ref sig .tc := ⟨.hbm, 47, rfl⟩
abbrev main_v31_3 : Ref sig .tc := ⟨.hbm, 48, rfl⟩
abbrev main_v31_4 : Ref sig .tc := ⟨.hbm, 49, rfl⟩
abbrev main_while0c_c_22 : Ref sig .tc := ⟨.hbm, 50, rfl⟩
abbrev main_while0c_v115 : Ref sig .tc := ⟨.hbm, 51, rfl⟩
abbrev main_while0b_call0_c : Ref sig .tc := ⟨.hbm, 52, rfl⟩
abbrev main_while0b_call0_c_0 : Ref sig .tc := ⟨.hbm, 53, rfl⟩
abbrev main_while0b_call0_c_1 : Ref sig .tc := ⟨.hbm, 54, rfl⟩
abbrev main_while0b_call0_c_2 : Ref sig .tc := ⟨.hbm, 55, rfl⟩
abbrev main_while0b_call0_v0 : Ref sig .tc := ⟨.hbm, 56, rfl⟩
abbrev main_while0b_v115 : Ref sig .tc := ⟨.hbm, 57, rfl⟩
abbrev main_while0b_v116 : Ref sig .tc := ⟨.hbm, 58, rfl⟩
abbrev main_while0b_v117 : Ref sig .tc := ⟨.hbm, 59, rfl⟩
abbrev main_while0b_v118 : Ref sig .tc := ⟨.hbm, 60, rfl⟩
abbrev main_while0b_v119 : Ref sig .tc := ⟨.hbm, 61, rfl⟩
abbrev main_while0b_call1_v0 : Ref sig .tc := ⟨.hbm, 62, rfl⟩
abbrev main_while0b_call1_c : Ref sig .tc := ⟨.hbm, 63, rfl⟩
abbrev main_while0b_call1_c_0 : Ref sig .tc := ⟨.hbm, 64, rfl⟩
abbrev main_while0b_call1_c_1 : Ref sig .tc := ⟨.hbm, 65, rfl⟩
abbrev main_while0b_call1_c_2 : Ref sig .tc := ⟨.hbm, 66, rfl⟩
abbrev main_while0b_v120 : Ref sig .tc := ⟨.hbm, 67, rfl⟩
abbrev main_while0b_c_22 : Ref sig .tc := ⟨.hbm, 68, rfl⟩
abbrev main_while0b_v121 : Ref sig .tc := ⟨.hbm, 69, rfl⟩
abbrev main_v32 : Ref sig .tc := ⟨.hbm, 70, rfl⟩
abbrev main_v33 : Ref sig .tc := ⟨.hbm, 71, rfl⟩
abbrev main_cst_6 : Ref sig .tc := ⟨.hbm, 72, rfl⟩
abbrev main_v34 : Ref sig .tc := ⟨.hbm, 73, rfl⟩
abbrev main_v35 : Ref sig .tc := ⟨.hbm, 74, rfl⟩
abbrev main_cst_7 : Ref sig .tc := ⟨.hbm, 75, rfl⟩
abbrev main_v36 : Ref sig .tc := ⟨.hbm, 76, rfl⟩
abbrev main_v37 : Ref sig .tc := ⟨.hbm, 77, rfl⟩
abbrev main_cst_8 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_c_9 : Ref sig .tc := ⟨.hbm, 89, rfl⟩
abbrev main_v48 : Ref sig .tc := ⟨.hbm, 90, rfl⟩
abbrev main_v49 : Ref sig .tc := ⟨.hbm, 91, rfl⟩
abbrev main_c_10 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_11 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_v59 : Ref sig .tc := ⟨.hbm, 106, rfl⟩
abbrev main_c_12 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_13 : Ref sig .tc := ⟨.hbm, 134, rfl⟩
abbrev main_v86 : Ref sig .tc := ⟨.hbm, 135, rfl⟩
abbrev main_v87 : Ref sig .tc := ⟨.hbm, 136, rfl⟩
abbrev main_cst_14 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_15 : Ref sig .tc := ⟨.hbm, 143, rfl⟩
abbrev main_v93 : Ref sig .tc := ⟨.hbm, 144, rfl⟩
abbrev main_v94 : Ref sig .tc := ⟨.hbm, 145, rfl⟩
abbrev main_cst_16 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_17 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_call3_v0 : Ref sig .tc := ⟨.hbm, 164, rfl⟩
abbrev main_call3_v1 : Ref sig .tc := ⟨.hbm, 165, rfl⟩
abbrev main_call3_cst : Ref sig .tc := ⟨.hbm, 166, rfl⟩
abbrev main_call3_v2 : Ref sig .tc := ⟨.hbm, 167, rfl⟩
abbrev main_call3_v3 : Ref sig .tc := ⟨.hbm, 168, rfl⟩
abbrev main_call3_cst_0 : Ref sig .tc := ⟨.hbm, 169, rfl⟩
abbrev main_call3_v4 : Ref sig .tc := ⟨.hbm, 170, rfl⟩
abbrev main_call3_v5 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8x2048x1024 : Shape := ⟨3, ![8, 2048, 1024]⟩
abbrev S1024x5632 : Shape := ⟨2, ![1024, 5632]⟩
abbrev S2816x1024 : Shape := ⟨2, ![2816, 1024]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1024x2816 : Shape := ⟨2, ![1024, 2816]⟩
abbrev S1024x512 : Shape := ⟨2, ![1024, 512]⟩
abbrev S1024x256 : Shape := ⟨2, ![1024, 256]⟩
abbrev S1024x1 : Shape := ⟨2, ![1024, 1]⟩

abbrev nBuf : Space → Nat
  | .hbm => 11
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x2048x1024 : Shape := ⟨3, ![8, 2048, 1024]⟩
abbrev S1024x5632 : Shape := ⟨2, ![1024, 5632]⟩
abbrev S2816x1024 : Shape := ⟨2, ![2816, 1024]⟩
abbrev S1024 : Shape := ⟨1, ![1024]⟩
abbrev S8x2048x5632 : Shape := ⟨3, ![8, 2048, 5632]⟩
abbrev S8x2048x2816 : Shape := ⟨3, ![8, 2048, 2816]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8x2048x5632, .f32⟩
  | .hbm, ⟨6, _⟩ => ⟨S8x2048x2816, .f32⟩
  | .hbm, ⟨7, _⟩ => ⟨S8x2048x2816, .f32⟩
  | .hbm, ⟨8, _⟩ => ⟨S8x2048x2816, .f32⟩
  | .hbm, ⟨9, _⟩ => ⟨S8x2048x2816, .f32⟩
  | .hbm, ⟨10, _⟩ => ⟨S_, .f32⟩
  | .hbm, ⟨11, _⟩ => ⟨S8x2048x2816, .f32⟩
  | .hbm, ⟨12, _⟩ => ⟨S8x2048x2816, .f32⟩
  | .hbm, ⟨13, _⟩ => ⟨S_, .f32⟩
  | .hbm, ⟨14, _⟩ => ⟨S8x2048x2816, .f32⟩
  | .hbm, ⟨15, _⟩ => ⟨S8x2048x2816, .f32⟩
  | .hbm, ⟨16, _⟩ => ⟨S8x2048x2816, .f32⟩
  | .hbm, ⟨17, _⟩ => ⟨S8x2048x2816, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x1, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S1x1x1024, .f32⟩
  | .hbm, ⟨53, _⟩ => ⟨S8x2048x1024, .f32⟩
  | .hbm, ⟨54, _⟩ => ⟨S8x2048x1024, .f32⟩
  | .hbm, ⟨55, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S1024x7240 : Shape := ⟨2, ![1024, 7240]⟩
abbrev S512x1024 : Shape := ⟨2, ![512, 1024]⟩
abbrev S1024x1024 : Shape := ⟨2, ![1024, 1024]⟩
abbrev S1024 : Shape := ⟨1, ![1024]⟩
abbrev S16384x1024 : Shape := ⟨2, ![16384, 1024]⟩
abbrev S16384x512 : Shape := ⟨2, ![16384, 512]⟩
abbrev S1024x3072 : Shape := ⟨2, ![1024, 3072]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 27
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S1024x7240, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x7240, .bf16⟩
  | .hbm, ⟨12, _⟩ => ⟨S16384x1024, .f32⟩
  | .hbm, ⟨13, _⟩ => ⟨S16384x512, .f32⟩
  | .hbm, ⟨14, _⟩ => ⟨S16384x512, .bf16⟩
  | .hbm, ⟨15, _⟩ => ⟨S16384x512, .f32⟩
  | .hbm, ⟨16, _⟩ => ⟨S16384x512, .bf16⟩
  | .hbm, ⟨17, _⟩ => ⟨S16384x512, .f32⟩
  | .hbm, ⟨18, _⟩ => ⟨S16384x512, .bf16⟩
  | .hbm, ⟨19, _⟩ => ⟨S1024x3072, .bf16⟩
  | .hbm, ⟨20, _⟩ => ⟨S512x1024, .bf16⟩
  | .hbm, ⟨21, _⟩ => ⟨S512x1024, .bf16⟩
  | .hbm, ⟨22, _⟩ => ⟨S512x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x3072, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8x2048x1024 : Shape := ⟨3, ![8, 2048, 1024]⟩
abbrev S8x2048x512 : Shape := ⟨3, ![8, 2048, 512]⟩
abbrev S1024x7240 : Shape := ⟨2, ![1024, 7240]⟩
abbrev S512x1024 : Shape := ⟨2, ![512, 1024]⟩
abbrev S1024x1024 : Shape := ⟨2, ![1024, 1024]⟩
abbrev S1024 : Shape := ⟨1, ![1024]⟩
abbrev S1024x3072 : Shape := ⟨2, ![1024, 3072]⟩
abbrev S8x2048x3072 : Shape := ⟨3, ![8, 2048, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S1024x7240, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x3072, .f32⟩
  | .hbm, ⟨12, _⟩ => ⟨S8x2048x3072, .f32⟩
  | .hbm, ⟨13, _⟩ => ⟨S8x2048x3072, .f32⟩
  | .hbm, ⟨14, _⟩ => ⟨S8x2048x3072, .f32⟩
  | .hbm, ⟨15, _⟩ => ⟨S_, .f32⟩
  | .hbm, ⟨16, _⟩ => ⟨S8x2048x3072, .f32⟩
  | .hbm, ⟨17, _⟩ => ⟨S8x2048x3072, .f32⟩
  | .hbm, ⟨18, _⟩ => ⟨S_, .f32⟩
  | .hbm, ⟨19, _⟩ => ⟨S8x2048x3072, .f32⟩
  | .hbm, ⟨20, _⟩ => ⟨S8x2048x3072, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1, .f32⟩
  | .hbm, ⟨58, _⟩ => ⟨S8x2048x1024, .f32⟩
  | .hbm, ⟨59, _⟩ => ⟨S8x2048x1024, .f32⟩
  | .hbm, ⟨60, _⟩ => ⟨S1x1x1024, .f32⟩
  | .hbm, ⟨61, _⟩ => ⟨S8x2048x1024, .f32⟩
  | .hbm, ⟨62, _⟩ => ⟨S8x2048x1024, .f32⟩
  | .hbm, ⟨63, _⟩ => ⟨S1x1x1024, .f32⟩
  | .hbm, ⟨64, _⟩ => ⟨S8x2048x1024, .f32⟩
  | .hbm, ⟨65, _⟩ => ⟨S8x2048x1024, .f32⟩
  | .hbm, ⟨66, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Kernel4.lean ====
abbrev S8x2048x4x128 : Shape := ⟨4, ![8, 2048, 4, 128]⟩
abbrev S8x256x1024 : Shape := ⟨3, ![8, 256, 1024]⟩
abbrev S1024x1024 : Shape := ⟨2, ![1024, 1024]⟩
abbrev S16384x512 : Shape := ⟨2, ![16384, 512]⟩
abbrev S2048x1024 : Shape := ⟨2, ![2048, 1024]⟩
abbrev S2048x512 : Shape := ⟨2, ![2048, 512]⟩
abbrev S256x1024 : Shape := ⟨2, ![256, 1024]⟩
abbrev S2048x128 : Shape := ⟨2, ![2048, 128]⟩
abbrev S256x128 : Shape := ⟨2, ![256, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x4x128, .f32⟩
  | .hbm, ⟨1, _⟩ => ⟨S8x256x1024, .f32⟩
  | .hbm, ⟨2, _⟩ => ⟨S1024x1024, .f32⟩
  | .hbm, ⟨3, _⟩ => ⟨S16384x512, .f32⟩
  | .hbm, ⟨4, _⟩ => ⟨S16384x512, .bf16⟩
  | .hbm, ⟨5, _⟩ => ⟨S2048x1024, .f32⟩
  | .hbm, ⟨6, _⟩ => ⟨S1024x1024, .bf16⟩
  | .hbm, ⟨7, _⟩ => ⟨S16384x512, .bf16⟩
  | .local _ .vmem, ⟨0, _⟩ => ⟨S2048x512, .bf16⟩
  | .local _ .vmem, ⟨1, _⟩ => ⟨S2048x512, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S2048x512, .bf16⟩
  | .local _ .vmem, ⟨6, _⟩ => ⟨S2048x512, .bf16⟩
  | .local _ .vmem, ⟨7, _⟩ => ⟨S256x1024, .bf16⟩
  | _, _ => ⟨S8x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x2048x4x128 : Shape := ⟨4, ![8, 2048, 4, 128]⟩
abbrev S8x256x1024 : Shape := ⟨3, ![8, 256, 1024]⟩
abbrev S1024x1024 : Shape := ⟨2, ![1024, 1024]⟩
abbrev S8x256x512 : Shape := ⟨3, ![8, 256, 512]⟩
abbrev S8x256x4x128 : Shape := ⟨4, ![8, 256, 4, 128]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S16384x512 : Shape := ⟨2, ![16384, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x4x128, .f32⟩
  | .hbm, ⟨1, _⟩ => ⟨S8x256x1024, .f32⟩
  | .hbm, ⟨2, _⟩ => ⟨S1024x1024, .f32⟩
  | .hbm, ⟨3, _⟩ => ⟨S8x256x1024, .f32⟩
  | .hbm, ⟨4, _⟩ => ⟨S8x256x512, .f32⟩
  | .hbm, ⟨5, _⟩ => ⟨S8x256x512, .f32⟩
  | .hbm, ⟨6, _⟩ => ⟨S8x256x4x128, .f32⟩
  | .hbm, ⟨7, _⟩ => ⟨S8x256x4x128, .f32⟩
  | .hbm, ⟨8, _⟩ => ⟨S8x4x2048x256, .f32⟩
  | .hbm, ⟨9, _⟩ => ⟨S_, .f32⟩
  | .hbm, ⟨10, _⟩ => ⟨S8x4x2048x256, .f32⟩
  | .hbm, ⟨11, _⟩ => ⟨S8x4x2048x256, .f32⟩
  | .hbm, ⟨12, _⟩ => ⟨S_, .f32⟩
  | .hbm, ⟨13, _⟩ => ⟨S8x4x2048, .f32⟩
  | .hbm, ⟨14, _⟩ => ⟨S_, .f32⟩
  | .hbm, ⟨15, _⟩ => ⟨S8x4x2048, .f32⟩
  | .hbm, ⟨16, _⟩ => ⟨S8x4x2048, .f32⟩
  | .hbm, ⟨17, _⟩ => ⟨S8x4x2048x1, .f32⟩
  | .hbm, ⟨18, _⟩ => ⟨S8x4x2048x256, .f32⟩
  | .hbm, ⟨19, _⟩ => ⟨S8x4x2048x256, .f32⟩
  | .hbm, ⟨20, _⟩ => ⟨S8x4x2048x256, .f32⟩
  | .hbm, ⟨21, _⟩ => ⟨S_, .f32⟩
  | .hbm, ⟨22, _⟩ => ⟨S8x4x2048, .f32⟩
  | .hbm, ⟨23, _⟩ => ⟨S8x4x2048x1, .f32⟩
  | .hbm, ⟨24, _⟩ => ⟨S8x4x2048x256, .f32⟩
  | .hbm, ⟨25, _⟩ => ⟨S8x4x2048x256, .f32⟩
  | .hbm, ⟨26, _⟩ => ⟨S8x4x128x2048, .f32⟩
  | .hbm, ⟨27, _⟩ => ⟨S8x2048x4x128, .f32⟩
  | .hbm, ⟨28, _⟩ => ⟨S16384x512, .f32⟩
  | .hbm, ⟨29, _⟩ => ⟨S16384x512, .bf16⟩
  | _, _ => ⟨S8x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024x7240 : Shape := ⟨2, ![1024, 7240]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S128x4x128 : Shape := ⟨3, ![128, 4, 128]⟩
abbrev S128x512 : Shape := ⟨2, ![128, 512]⟩
abbrev S4x64x128 : Shape := ⟨3, ![4, 64, 128]⟩
abbrev S1024x512 : Shape := ⟨2, ![1024, 512]⟩
abbrev S1024x128 : Shape := ⟨2, ![1024, 128]⟩
abbrev S1024x640 : Shape := ⟨2, ![1024, 640]⟩
abbrev S640x1024 : Shape := ⟨2, ![640, 1024]⟩
abbrev S1x128x1x256 : Shape := ⟨4, ![1, 128, 1, 256]⟩
abbrev S8x128x1x256 : Shape := ⟨4, ![8, 128, 1, 256]⟩
abbrev S1024x256 : Shape := ⟨2, ![1024, 256]⟩
abbrev S16384x1024 : Shape := ⟨2, ![16384, 1024]⟩
abbrev S16384x512 : Shape := ⟨2, ![16384, 512]⟩
abbrev S256x16384 : Shape := ⟨2, ![256, 16384]⟩
abbrev S512x16384 : Shape := ⟨2, ![512, 16384]⟩
abbrev S64x640x256 : Shape := ⟨3, ![64, 640, 256]⟩
abbrev S128x16384 : Shape := ⟨2, ![128, 16384]⟩
abbrev S16384x256 : Shape := ⟨2, ![16384, 256]⟩
abbrev S1024x1024 : Shape := ⟨2, ![1024, 1024]⟩
abbrev S1024x3584 : Shape := ⟨2, ![1024, 3584]⟩
abbrev S256x1024 : Shape := ⟨2, ![256, 1024]⟩
abbrev S512x1024 : Shape := ⟨2, ![512, 1024]⟩
abbrev S4x640x256 : Shape := ⟨3, ![4, 640, 256]⟩
abbrev S128x1024 : Shape := ⟨2, ![128, 1024]⟩
abbrev S16x256 : Shape := ⟨2, ![16, 256]⟩
abbrev S64x256 : Shape := ⟨2, ![64, 256]⟩
abbrev S1x64x256 : Shape := ⟨3, ![1, 64, 256]⟩
abbrev S1x16x256 : Shape := ⟨3, ![1, 16, 256]⟩

abbrev nBuf : Space → Nat
  | .hbm => 118
  | .vmem => 34
  | .smem => 0
  | _ => 0

abbrev bufTy : (tb : Table) → Fin (tcTables nBuf tb) → BufTy
  | .hbm, ⟨0, _⟩ => ⟨S8x2048x1024, .f32⟩
  | .hbm, ⟨1, _⟩ => ⟨S1024x7240, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S2048, .i32⟩
  | .hbm, ⟨11, _⟩ => ⟨S2048, .f32⟩
  | .hbm, ⟨12, _⟩ => ⟨S2048x1, .f32⟩
  | .hbm, ⟨13, _⟩ => ⟨S1x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x64, .f32⟩
  | .hbm, ⟨20, _⟩ => ⟨S1x2048x1x64, .f32⟩
  | .hbm, ⟨21, _⟩ => ⟨S1x2048x4x64, .f32⟩
  | .hbm, ⟨22, _⟩ => ⟨S2048x256, .f32⟩
  | .hbm, ⟨23, _⟩ => ⟨S2048x32, .f32⟩
  | .hbm, ⟨24, _⟩ => ⟨S2048x64, .f32⟩
  | .hbm, ⟨25, _⟩ => ⟨S1x2048x1x64, .f32⟩
  | .hbm, ⟨26, _⟩ => ⟨S1x2048x4x64, .f32⟩
  | .hbm, ⟨27, _⟩ => ⟨S2048x256, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S128, .i32⟩
  | .hbm, ⟨40, _⟩ => ⟨S128x1, .i32⟩
  | .hbm, ⟨41, _⟩ => ⟨S1x128, .i32⟩
  | .hbm, ⟨42, _⟩ => ⟨S128x128, .i32⟩
  | .hbm, ⟨43, _⟩ => ⟨S128x128, .i32⟩
  | .hbm, ⟨44, _⟩ => ⟨S128x128, .i32⟩
  | .hbm, ⟨45, _⟩ => ⟨S1x128x128, .i32⟩
  | .hbm, ⟨46, _⟩ => ⟨S_, .i32⟩
  | .hbm, ⟨47, _⟩ => ⟨S1x128x128, .i32⟩
  | .hbm, ⟨48, _⟩ => ⟨S1x128x128, .i1⟩
  | .hbm, ⟨49, _⟩ => ⟨S_, .i32⟩
  | .hbm, ⟨50, _⟩ => ⟨S128x128, .i32⟩
  | .hbm, ⟨51, _⟩ => ⟨S128x128, .i32⟩
  | .hbm, ⟨52, _⟩ => ⟨S1x128x128, .i32⟩
  | .hbm, ⟨53, _⟩ => ⟨S4x1x1, .f32⟩
  | .hbm, ⟨54, _⟩ => ⟨S1x128x128, .f32⟩
  | .hbm, ⟨55, _⟩ => ⟨S4x128x128, .f32⟩
  | .hbm, ⟨56, _⟩ => ⟨S4x128x128, .f32⟩
  | .hbm, ⟨57, _⟩ => ⟨S4x128x128, .f32⟩
  | .hbm, ⟨58, _⟩ => ⟨S4x128x128, .f32⟩
  | .hbm, ⟨59, _⟩ => ⟨S_, .f32⟩
  | .hbm, ⟨60, _⟩ => ⟨S_, .f32⟩
  | .hbm, ⟨61, _⟩ => ⟨S4x128x128, .i1⟩
  | .hbm, ⟨62, _⟩ => ⟨S4x128x128, .f32⟩
  | .hbm, ⟨63, _⟩ => ⟨S4x128x128, .f32⟩
  | .hbm, ⟨64, _⟩ => ⟨S_, .i32⟩
  | .hbm, ⟨65, _⟩ => ⟨S128, .i32⟩
  | .hbm, ⟨66, _⟩ => ⟨S128, .i32⟩
  | .hbm, ⟨67, _⟩ => ⟨S1x128, .i32⟩
  | .hbm, ⟨68, _⟩ => ⟨S4x1, .f32⟩
  | .hbm, ⟨69, _⟩ => ⟨S1x128, .f32⟩
  | .hbm, ⟨70, _⟩ => ⟨S4x128, .f32⟩
  | .hbm, ⟨71, _⟩ => ⟨S4x128, .f32⟩
  | .hbm, ⟨72, _⟩ => ⟨S4x128, .f32⟩
  | .hbm, ⟨73, _⟩ => ⟨S4x128, .f32⟩
  | .hbm, ⟨74, _⟩ => ⟨S_, .i32⟩
  | .hbm, ⟨75, _⟩ => ⟨S128, .i32⟩
  | .hbm, ⟨76, _⟩ => ⟨S128, .i32⟩
  | .hbm, ⟨77, _⟩ => ⟨S1x128, .i32⟩
  | .hbm, ⟨78, _⟩ => ⟨S4x1, .f32⟩
  | .hbm, ⟨79, _⟩ => ⟨S1x128, .f32⟩
  | .hbm, ⟨80, _⟩ => ⟨S4x128, .f32⟩
  | .hbm, ⟨81, _⟩ => ⟨S4x128, .f32⟩
  | .hbm, ⟨82, _⟩ => ⟨S4x128, .f32⟩
  | .hbm, ⟨83, _⟩ => ⟨S4x128, .f32⟩
  | .hbm, ⟨84, _⟩ => ⟨S_, .f32⟩
  | .hbm, ⟨85, _⟩ => ⟨S4, .f32⟩
  | .hbm, ⟨86, _⟩ => ⟨S4, .f32⟩
  | .hbm, ⟨87, _⟩ => ⟨S4, .f32⟩
  | .hbm, ⟨88, _⟩ => ⟨S128x4, .f32⟩
  | .hbm, ⟨89, _⟩ => ⟨S128x4x64, .f32⟩
  | .hbm, ⟨90, _⟩ => ⟨S128x256, .f32⟩
  | .hbm, ⟨91, _⟩ => ⟨S128x4, .f32⟩
  | .hbm, ⟨92, _⟩ => ⟨S128x4x128, .f32⟩
  | .hbm, ⟨93, _⟩ => ⟨S128x512, .f32⟩
  | .hbm, ⟨94, _⟩ => ⟨S4x1x1, .f32⟩
  | .hbm, ⟨95, _⟩ => ⟨S4x64x128, .f32⟩
  | .hbm, ⟨96, _⟩ => ⟨S1024x7240, .bf16⟩
  | .hbm, ⟨97, _⟩ => ⟨S1024x512, .bf16⟩
  | .hbm, ⟨98, _⟩ => ⟨S1024x512, .bf16⟩
  | .hbm, ⟨99, _⟩ => ⟨S1024x128, .bf16⟩
  | .hbm, ⟨100, _⟩ => ⟨S1024x640, .bf16⟩
  | .hbm, ⟨101, _⟩ => ⟨S640x1024, .bf16⟩
  | .hbm, ⟨102, _⟩ => ⟨S1x128x1x256, .f32⟩
  | .hbm, ⟨103, _⟩ => ⟨S8x128x1x256, .f32⟩
  | .hbm, ⟨104, _⟩ => ⟨S1024x256, .f32⟩
  | .hbm, ⟨105, _⟩ => ⟨S16384x1024, .f32⟩
  | .hbm, ⟨106, _⟩ => ⟨S16384x512, .bf16⟩
  | .hbm, ⟨107, _⟩ => ⟨S16384x512, .bf16⟩
  | .hbm, ⟨108, _⟩ => ⟨S256x16384, .bf16⟩
  | .hbm, ⟨109, _⟩ => ⟨S16384x512, .bf16⟩
  | .hbm, ⟨110, _⟩ => ⟨S16384x512, .f32⟩
  | .hbm, ⟨111, _⟩ => ⟨S512x16384, .bf16⟩
  | .hbm, ⟨112, _⟩ => ⟨S16384x1024, .bf16⟩
  | .hbm, ⟨113, _⟩ => ⟨S64x640x256, .bf16⟩
  | .hbm, ⟨114, _⟩ => ⟨S512x16384, .bf16⟩
  | .hbm, ⟨115, _⟩ => ⟨S16384x512, .bf16⟩
  | .hbm, ⟨116, _⟩ => ⟨S128x16384, .f32⟩
  | .hbm, ⟨117, _⟩ => ⟨S16384x256, .bf16⟩
  | .local _ .vmem, ⟨0, _⟩ => ⟨S1024x1024, .f32⟩
  | .local _ .vmem, ⟨1, _⟩ => ⟨S1024x1024, .f32⟩
  | .local _ .vmem, ⟨2, _⟩ => ⟨S1024x3584, .bf16⟩
  | .local _ .vmem, ⟨3, _⟩ => ⟨S1024x512, .bf16⟩
  | .local _ .vmem, ⟨4, _⟩ => ⟨S640x1024, .bf16⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S256x1024, .bf16⟩
  | .local _ .vmem, ⟨15, _⟩ => ⟨S256x1024, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .f32⟩
  | .local _ .vmem, ⟨19, _⟩ => ⟨S1024x512, .f32⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1024x1024, .bf16⟩
  | .local _ .vmem, ⟨24, _⟩ => ⟨S4x640x256, .bf16⟩
  | .local _ .vmem, ⟨25, _⟩ => ⟨S4x640x256, .bf16⟩
  | .local _ .vmem, ⟨26, _⟩ => ⟨S512x1024, .bf16⟩
  | .local _ .vmem, ⟨27, _⟩ => ⟨S512x1024, .bf16⟩
  | .local _ .vmem, ⟨28, _⟩ => ⟨S1024x512, .bf16⟩
  | .local _ .vmem, ⟨29, _⟩ => ⟨S1024x512, .bf16⟩
  | .local _ .vmem, ⟨30, _⟩ => ⟨S128x1024, .f32⟩
  | .local _ .vmem, ⟨31, _⟩ => ⟨S128x1024, .f32⟩
  | .local _ .vmem, ⟨32, _⟩ => ⟨S1024x256, .bf16⟩
  | .local _ .vmem, ⟨33, _⟩ => ⟨S1024x256, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c : Ref sig .tc := ⟨.hbm, 46, rfl⟩
abbrev main_v39 : Ref sig .tc := ⟨.hbm, 47, rfl⟩
abbrev main_v40 : Ref sig .tc := ⟨.hbm, 48, rfl⟩
abbrev main_c_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v50 : Ref sig .tc := ⟨.hbm, 63, rfl⟩
abbrev main_c_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_7 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_8 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90_0 : Ref sig .tc := ⟨.hbm, 106, rfl⟩
abbrev main_v90_1 : Ref sig .tc := ⟨.hbm, 107, rfl⟩
abbrev main_v90_2 : Ref sig .tc := ⟨.hbm, 108, rfl⟩
abbrev main_v90_3 : Ref sig .tc := ⟨.hbm, 109, rfl⟩
abbrev main_v90_4 : Ref sig .tc := ⟨.hbm, 110, rfl⟩
abbrev main_v90_5 : Ref sig .tc := ⟨.hbm, 111, rfl⟩
abbrev main_v90_6 : Ref sig .tc := ⟨.hbm, 112, rfl⟩
abbrev main_v90_7 : Ref sig .tc := ⟨.hbm, 113, rfl⟩
abbrev main_v90_8 : Ref sig .tc := ⟨.hbm, 114, rfl⟩
abbrev main_v90_9 : Ref sig .tc := ⟨.hbm, 115, rfl⟩
abbrev main_v90_10 : Ref sig .tc := ⟨.hbm, 116, rfl⟩
abbrev main_v90_11 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x640x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference5Ideal.lean ====
abbrev S8x2048x1024 : Shape := ⟨3, ![8, 2048, 1024]⟩
abbrev S1024x7240 : Shape := ⟨2, ![1024, 7240]⟩
abbrev S8x2048x7240 : Shape := ⟨3, ![8, 2048, 7240]⟩
abbrev S8x2048x256 : Shape := ⟨3, ![8, 2048, 256]⟩
abbrev S8x2048x512 : Shape := ⟨3, ![8, 2048, 512]⟩
abbrev S8x2048x64 : Shape := ⟨3, ![8, 2048, 64]⟩
abbrev S8x2048x8 : Shape := ⟨3, ![8, 2048, 8]⟩
abbrev S8x2048x3072 : Shape := ⟨3, ![8, 2048, 3072]⟩
abbrev S2048 : Shape := ⟨1, ![2048]⟩
abbrev S8x2048x4x64 : Shape := ⟨4, ![8, 2048, 4, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x4x32 : Shape := ⟨4, ![8, 2048, 4, 32]⟩
abbrev S128 : Shape := ⟨1, ![128]⟩
abbrev S1x128 : Shape := ⟨2, ![1, 128]⟩
abbrev S4 : Shape := ⟨1, ![4]⟩
abbrev S4x1 : Shape := ⟨2, ![4, 1]⟩
abbrev S4x128 : Shape := ⟨2, ![4, 128]⟩
abbrev S8x16x128x4x64 : Shape := ⟨5, ![8, 16, 128, 4, 64]⟩
abbrev S128x4 : Shape := ⟨2, ![128, 4]⟩
abbrev S1x1x128x4x1 : Shape := ⟨5, ![1, 1, 128, 4, 1]⟩
abbrev S8x2048x4x128 : Shape := ⟨4, ![8, 2048, 4, 128]⟩
abbrev S8x2048x4x256 : Shape := ⟨4, ![8, 2048, 4, 256]⟩
abbrev S8x2048x1x64 : Shape := ⟨4, ![8, 2048, 1, 64]⟩
abbrev S64x256x8x64 : Shape := ⟨4, ![64, 256, 8, 64]⟩
abbrev S64x8x64x256 : Shape := ⟨4, ![64, 8, 64, 256]⟩
abbrev S64x8x16x256 : Shape := ⟨4, ![64, 8, 16, 256]⟩
abbrev S64x8x80x256 : Shape := ⟨4, ![64, 8, 80, 256]⟩
abbrev S16384x512 : Shape := ⟨2, ![16384, 512]⟩
abbrev S16384x256 : Shape := ⟨2, ![16384, 256]⟩
abbrev S256x16384 : Shape := ⟨2, ![256, 16384]⟩
abbrev S512x16384 : Shape := ⟨2, ![512, 16384]⟩
abbrev S16384x1024 : Shape := ⟨2, ![16384, 1024]⟩
abbrev S64x640x256 : Shape := ⟨3, ![64, 640, 256]⟩
abbrev S8x2048x128 : Shape := ⟨3, ![8, 2048, 128]⟩
abbrev S16384x128 : Shape := ⟨2, ![16384, 128]⟩
abbrev S128x16384 : Shape := ⟨2, ![128, 16384]⟩

abbrev nBuf : Space → Nat
  | .hbm => 167
  | .vmem => 0
  | .smem => 0
  | _ => 0

abbrev hbmTy0_0 (i : Nat) : BufTy := match i % 128 with
  | 0 => ⟨S8x2048x1024, .f32⟩
  | 1 => ⟨S1024x7240, .f32⟩
  | 2 => ⟨S8x2048x7240, .f32⟩
  | 3 => ⟨S8x2048x256, .f32⟩
  | 4 => ⟨S8x2048x256, .f32⟩
  | 5 => ⟨S8x2048x512, .f32⟩
  | 6 => ⟨S8x2048x512, .f32⟩
  | 7 => ⟨S8x2048x512, .f32⟩
  | 8 => ⟨S8x2048x512, .f32⟩
  | 9 => ⟨S8x2048x512, .f32⟩
  | 10 => ⟨S8x2048x512, .f32⟩
  | 11 => ⟨S8x2048x64, .f32⟩
  | 12 => ⟨S8x2048x8, .f32⟩
  | 13 => ⟨S8x2048x512, .f32⟩
  | 14 => ⟨S8x2048x3072, .f32⟩
  | 15 => ⟨S2048, .i32⟩
  | 16 => ⟨S8x2048x4x64, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S2048, .f32⟩
  | 26 => ⟨S2048x1, .f32⟩
  | 27 => ⟨S1x32, .f32⟩
  | 28 => ⟨S2048x32, .f32⟩
  | 29 => ⟨S2048x32, .f32⟩
  | 30 => ⟨S2048x32, .f32⟩
  | 31 => ⟨S2048x32, .f32⟩
  | 32 => ⟨S1x2048x1x32, .f32⟩
  | 33 => ⟨S2048x32, .f32⟩
  | 34 => ⟨S1x2048x1x32, .f32⟩
  | 35 => ⟨S8x2048x4x32, .f32⟩
  | 36 => ⟨S8x2048x4x32, .f32⟩
  | 37 => ⟨S8x2048x4x32, .f32⟩
  | 38 => ⟨S8x2048x4x32, .f32⟩
  | 39 => ⟨S8x2048x4x32, .f32⟩
  | 40 => ⟨S8x2048x4x32, .f32⟩
  | 41 => ⟨S8x2048x4x32, .f32⟩
  | 42 => ⟨S8x2048x4x32, .f32⟩
  | 43 => ⟨S8x2048x4x32, .f32⟩
  | 44 => ⟨S8x2048x4x32, .f32⟩
  | 45 => ⟨S8x2048x4x32, .f32⟩
  | 46 => ⟨S8x2048x4x32, .f32⟩
  | 47 => ⟨S8x2048x4x64, .f32⟩
  | 48 => ⟨S8x2048x4x64, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S2048, .f32⟩
  | 58 => ⟨S2048x1, .f32⟩
  | 59 => ⟨S1x32, .f32⟩
  | 60 => ⟨S2048x32, .f32⟩
  | 61 => ⟨S2048x32, .f32⟩
  | 62 => ⟨S2048x32, .f32⟩
  | 63 => ⟨S2048x32, .f32⟩
  | 64 => ⟨S1x2048x1x32, .f32⟩
  | 65 => ⟨S2048x32, .f32⟩
  | 66 => ⟨S1x2048x1x32, .f32⟩
  | 67 => ⟨S8x2048x4x32, .f32⟩
  | 68 => ⟨S8x2048x4x32, .f32⟩
  | 69 => ⟨S8x2048x4x32, .f32⟩
  | 70 => ⟨S8x2048x4x32, .f32⟩
  | 71 => ⟨S8x2048x4x32, .f32⟩
  | 72 => ⟨S8x2048x4x32, .f32⟩
  | 73 => ⟨S8x2048x4x32, .f32⟩
  | 74 => ⟨S8x2048x4x32, .f32⟩
  | 75 => ⟨S8x2048x4x32, .f32⟩
  | 76 => ⟨S8x2048x4x32, .f32⟩
  | 77 => ⟨S8x2048x4x32, .f32⟩
  | 78 => ⟨S8x2048x4x32, .f32⟩
  | 79 => ⟨S8x2048x4x64, .f32⟩
  | 80 => ⟨S_, .f32⟩
  | 81 => ⟨S8x2048x4x64, .f32⟩
  | 82 => ⟨S8x2048x4x64, .f32⟩
  | 83 => ⟨S128, .i32⟩
  | 84 => ⟨S_, .i32⟩
  | 85 => ⟨S128, .i32⟩
  | 86 => ⟨S128, .i32⟩
  | 87 => ⟨S1x128, .i32⟩
  | 88 => ⟨S4, .f32⟩
  | 89 => ⟨S_, .f32⟩
  | 90 => ⟨S4, .f32⟩
  | 91 => ⟨S4, .f32⟩
  | 92 => ⟨S_, .f32⟩
  | 93 => ⟨S4, .f32⟩
  | 94 => ⟨S4, .f32⟩
  | 95 => ⟨S_, .f32⟩
  | 96 => ⟨S4, .f32⟩
  | 97 => ⟨S4, .f32⟩
  | 98 => ⟨S4, .f32⟩
  | 99 => ⟨S4x1, .f32⟩
  | 100 => ⟨S1x128, .f32⟩
  | 101 => ⟨S4x128, .f32⟩
  | 102 => ⟨S4x128, .f32⟩
  | 103 => ⟨S4x128, .f32⟩
  | 104 => ⟨S4x128, .f32⟩
  | 105 => ⟨S8x16x128x4x64, .f32⟩
  | 106 => ⟨S128x4, .f32⟩
  | 107 => ⟨S1x1x128x4x1, .f32⟩
  | 108 => ⟨S8x16x128x4x64, .f32⟩
  | 109 => ⟨S8x16x128x4x64, .f32⟩
  | 110 => ⟨S8x2048x256, .f32⟩
  | 111 => ⟨S8x2048x4x128, .f32⟩
  | 112 => ⟨S8x2048x4x64, .f32⟩
  | 113 => ⟨S_, .f32⟩
  | 114 => ⟨S8x2048x4x64, .f32⟩
  | 115 => ⟨S_, .f32⟩
  | 116 => ⟨S8x2048x4x64, .f32⟩
  | 117 => ⟨S8x2048x4x64, .f32⟩
  | 118 => ⟨S8x2048x4x256, .f32⟩
  | 119 => ⟨S_, .f32⟩
  | 120 => ⟨S8x2048x1x64, .f32⟩
  | 121 => ⟨S8x2048x64, .f32⟩
  | 122 => ⟨S_, .f32⟩
  | 123 => ⟨S8x2048x1x64, .f32⟩
  | 124 => ⟨S8x2048x64, .f32⟩
  | 125 => ⟨S8x2048x256, .f32⟩
  | 126 => ⟨S64x256x8x64, .f32⟩
  | 127 => ⟨S64x8x64x256, .f32⟩
  | _ => ⟨S8x2048x1024, .f32⟩

abbrev hbmTy0_1 (i : Nat) : BufTy := match i % 128 with
  | 0 => ⟨S_, .f32⟩
  | 1 => ⟨S64x8x16x256, .f32⟩
  | 2 => ⟨S64x8x80x256, .f32⟩
  | 3 => ⟨S_, .f32⟩
  | 4 => ⟨S8x2048x4x64, .f32⟩
  | 5 => ⟨S8x2048x4x128, .f32⟩
  | 6 => ⟨S16384x512, .f32⟩
  | 7 => ⟨S16384x512, .bf16⟩
  | 8 => ⟨S_, .f32⟩
  | 9 => ⟨S8x2048x4x64, .f32⟩
  | 10 => ⟨S8x2048x4x128, .f32⟩
  | 11 => ⟨S16384x512, .f32⟩
  | 12 => ⟨S16384x512, .bf16⟩
  | 13 => ⟨S16384x256, .f32⟩
  | 14 => ⟨S256x16384, .f32⟩
  | 15 => ⟨S256x16384, .bf16⟩
  | 16 => ⟨S16384x512, .f32⟩
  | 17 => ⟨S16384x512, .bf16⟩
  | 18 => ⟨S16384x512, .f32⟩
  | 19 => ⟨S_, .f32⟩
  | 20 => ⟨S8x2048x512, .f32⟩
  | 21 => ⟨S8x2048x512, .f32⟩
  | 22 => ⟨S16384x512, .f32⟩
  | 23 => ⟨S512x16384, .f32⟩
  | 24 => ⟨S512x16384, .bf16⟩
  | 25 => ⟨S16384x1024, .f32⟩
  | 26 => ⟨S16384x1024, .bf16⟩
  | 27 => ⟨S64x640x256, .f32⟩
  | 28 => ⟨S64x640x256, .bf16⟩
  | 29 => ⟨S16384x512, .f32⟩
  | 30 => ⟨S512x16384, .f32⟩
  | 31 => ⟨S512x16384, .bf16⟩
  | 32 => ⟨S16384x512, .f32⟩
  | 33 => ⟨S16384x512, .bf16⟩
  | 34 => ⟨S8x2048x128, .f32⟩
  | 35 => ⟨S16384x128, .f32⟩
  | 36 => ⟨S128x16384, .f32⟩
  | 37 => ⟨S16384x256, .f32⟩
  | 38 => ⟨S16384x256, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_cst_1 : Ref sig .tc := ⟨.hbm, 51, rfl⟩
abbrev main_v47 : Ref sig .tc := ⟨.hbm, 52, rfl⟩
abbrev main_v48 : Ref sig .tc := ⟨.hbm, 53, rfl⟩
abbrev main_cst_2 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_cst_3 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_c : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_cst_4 : Ref sig .tc := ⟨.hbm, 89, rfl⟩
abbrev main_v81 : Ref sig .tc := ⟨.hbm, 90, rfl⟩
abbrev main_v82 : Ref sig .tc := ⟨.hbm, 91, rfl⟩
abbrev main_cst_5 : Ref sig .tc := ⟨.hbm, 92, rfl⟩
abbrev main_v83 : Ref sig .tc := ⟨.hbm, 93, rfl⟩
abbrev main_v84 : Ref sig .tc := ⟨.hbm, 94, rfl⟩
abbrev main_cst_6 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_cst_7 : Ref sig .tc := ⟨.hbm, 113, rfl⟩
abbrev main_v102 : Ref sig .tc := ⟨.hbm, 114, rfl⟩
abbrev main_cst_8 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_cst_9 : Ref sig .tc := ⟨.hbm, 119, rfl⟩
abbrev main_v106 : Ref sig .tc := ⟨.hbm, 120, rfl⟩
abbrev main_v107 : Ref sig .tc := ⟨.hbm, 121, rfl⟩
abbrev main_cst_10 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_cst_11 : Ref sig .tc := ⟨.hbm, 128, rfl⟩
abbrev main_v113 : Ref sig .tc := ⟨.hbm, 129, rfl⟩
abbrev main_v114 : Ref sig .tc := ⟨.hbm, 130, rfl⟩
abbrev main_cst_12 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_cst_13 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_cst_14 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩

abbrev nD : Nat := 1
abbrev τ : Topo := Topo.v7x

variable {F : FTy → Type} [FloatOps F]
-- ==== Proof.Layer.Scalars.lean ====
/- Facts about single extended reals that the layer's calls share: the values of a few literals, the sigmoid
   written with a hyperbolic tangent, and a factor moved over a sum. -/
module

public import Idealize.ShloMosaic.PureOps.Ideal.Laws
public import Mathlib.Analysis.SpecialFunctions.Trigonometric.Basic

@[expose] public section

set_option maxRecDepth 16384

noncomputable section

namespace Cert.Layer

open Idealize.ShloMosaic

/-- The literal `0.5`. -/
theorem ofBits_half : Ideal.ofBits .f32 0x3F000000#32 = ((1 / 2 : ℝ) : EReal) := by
  simp [Ideal.ofBits, Ideal.ieee, -EReal.coe_mul]
  norm_num

/-- The literal `1.0`. -/
theorem ofBits_one : Ideal.ofBits .f32 0x3F800000#32 = (1 : EReal) := by
  simp [Ideal.ofBits, Ideal.ieee, -EReal.coe_mul]
  norm_num

/-- The sigmoid of a real, from the hyperbolic tangent of its half. -/
theorem real_half_tanh (r : ℝ) : 1 / 2 * Real.tanh (1 / 2 * r) + 1 / 2 = (1 + Real.exp (-r))⁻¹ := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = a at *
  generalize Real.exp (-(1 / 2 * r)) = b at *
  have hb : a = b⁻¹ := eq_inv_of_mul_eq_one_left h2
  subst hb
  field_simp
  ring

/-- The sigmoid as the kernels compute it, `0.5 * tanh (0.5 * x) + 0.5`, is `1 / (1 + exp (-x))` at every extended
    real: at `-∞` both are `0`, at `+∞` both are `1`. -/
theorem half_tanh (x : EReal) :
    Ideal.ofBits .f32 0x3F000000#32 * Ideal.tanh (Ideal.ofBits .f32 0x3F000000#32 * x) + Ideal.ofBits .f32 0x3F000000#32
      = Ideal.div 1 (1 + Ideal.exp (-x)) := by
  rw [ofBits_half]
  induction x using EReal.rec with
  | bot =>
    rw [EReal.coe_mul_bot_of_pos (by norm_num), Ideal.tanh_bot, EReal.neg_bot, Ideal.exp_top]
    have h : (1 : EReal) + ⊤ = ⊤ := EReal.add_top_of_ne_bot (by decide)
    rw [h, Ideal.div, if_neg (by simp), EReal.inv_top, mul_zero]
    rw [show (-1 : EReal) = ((-1 : ℝ) : EReal) by simp, ← EReal.coe_mul, ← EReal.coe_add]
    norm_num
  | top =>
    rw [EReal.coe_mul_top_of_pos (by norm_num), Ideal.tanh_top, EReal.neg_top, Ideal.exp_bot, add_zero]
    rw [Ideal.div, if_neg (by simp), show (1 : EReal) = ((1 : ℝ) : EReal) by simp, ← EReal.coe_inv, ← EReal.coe_mul,
      ← EReal.coe_mul, ← EReal.coe_add]
    norm_num
  | coe r =>
    rw [← EReal.coe_mul, Ideal.tanh_coe, ← EReal.coe_mul, ← EReal.coe_add, ← EReal.coe_neg, Ideal.exp_coe]
    rw [show (1 : EReal) = ((1 : ℝ) : EReal) by simp, ← EReal.coe_add]
    have hp : (1 : ℝ) + Real.exp (-r) ≠ 0 := by have := Real.exp_pos (-r); positivity
    rw [Ideal.div, if_neg (EReal.coe_eq_zero.not.mpr hp), ← EReal.coe_inv, ← EReal.coe_mul, one_mul, real_half_tanh]

/-- A factor that is a real number and not negative moves over a sum. -/
theorem sum_mul_real {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

end Cert.Layer

end
-- ==== Proof.Layer.Rows.lean ====
/- The row functions the layer's calls share, as plain functions of rows of extended reals: the layer norm of a row,
   the gated activation of the feed-forward call, and the feed-forward call's residual row. -/
module

public import proofs.«01_k».proof.Proof.Layer.Scalars

@[expose] public section

set_option maxRecDepth 16384

noncomputable section

namespace Cert.Layer

open Idealize.ShloMosaic

/-- `1 / (1 + exp (-x))`. -/
def sigmoid (x : EReal) : EReal := Ideal.div 1 (1 + Ideal.exp (-x))

/-- The mean of a row of 1024 elements. -/
def mean1024 (y : Fin 1024 → EReal) : EReal := Ideal.div (∑ k, y k) (Ideal.ofBits .f32 0x44800000#32)

/-- The layer norm of a row of 1024 elements, at one column with gain `g` and offset `b`. -/
def lnRow (y : Fin 1024 → EReal) (g b : EReal) (j : Fin 1024) : EReal :=
  (y j - mean1024 y) * Ideal.rsqrt (mean1024 (fun k => (y k - mean1024 y) * (y k - mean1024 y)) + Ideal.ofBits .f32 0x3727C5AC#32) * g + b

/-- One gated activation: `silu a * u`. -/
def gated (a u : EReal) : EReal := a * sigmoid a * u

/-- The gated activation with the sigmoid written through the hyperbolic tangent. -/
theorem gated_tanh (a u : EReal) :
    a * (Ideal.ofBits .f32 0x3F000000#32 * Ideal.tanh (Ideal.ofBits .f32 0x3F000000#32 * a) + Ideal.ofBits .f32 0x3F000000#32) * u = gated a u := by
  rw [half_tanh]; rfl

/-- The hidden row of the feed-forward call: of the projection's 5632 columns the first half is activated, the second
    half multiplies. -/
def hiddenRow (x : Fin 1024 → EReal) (w : Fin 1024 → Fin 5632 → EReal) (n : Fin 2816) : EReal :=
  gated (∑ k, x k * w k ⟨n.val, by have := n.isLt; omega⟩) (∑ k, x k * w k ⟨2816 + n.val, by have := n.isLt; omega⟩)

/-- The residual row of the feed-forward call: `α x + ½ f`, the row the layer norm takes. -/
def ffnRow (x : Fin 1024 → EReal) (w : Fin 1024 → Fin 5632 → EReal) (w2 : Fin 2816 → Fin 1024 → EReal) (j : Fin 1024) : EReal :=
  Ideal.ofBits .f32 0x3F9837F0#32 * x j + Ideal.ofBits .f32 0x3F000000#32 * ∑ n, hiddenRow x w n * w2 n j

/-- Equal rows, gains and offsets have equal normalizations. -/
theorem lnRow_congr {y y' : Fin 1024 → EReal} {g g' b b' : EReal} (hy : y = y') (hg : g = g') (hb : b = b') (j : Fin 1024) :
    lnRow y g b j = lnRow y' g' b' j := by rw [hy, hg, hb]

/-- Equal inputs and weights have equal feed-forward rows. -/
theorem ffnRow_congr {x x' : Fin 1024 → EReal} {w w' : Fin 1024 → Fin 5632 → EReal} {v v' : Fin 2816 → Fin 1024 → EReal}
    (hx : x = x') (hw : w = w') (hv : v = v') : ffnRow x w v = ffnRow x' w' v' := by rw [hx, hw, hv]

/-- The gated sum of the three mixers' projections, at one of its 1024 columns: the gates are the three thirds of one
    projection's columns. -/
def mergedRow (h : Fin 1024 → EReal) (o1 o2 o3 : Fin 512 → EReal) (wg : Fin 1024 → Fin 3072 → EReal)
    (w1 w2 w3 : Fin 512 → Fin 1024 → EReal) (n : Fin 1024) : EReal :=
  sigmoid (∑ k, h k * wg k ⟨n.val, by have := n.isLt; omega⟩) * (∑ e, o1 e * w1 e n)
    + sigmoid (∑ k, h k * wg k ⟨1024 + n.val, by have := n.isLt; omega⟩) * (∑ e, o2 e * w2 e n)
    + sigmoid (∑ k, h k * wg k ⟨2048 + n.val, by have := n.isLt; omega⟩) * (∑ e, o3 e * w3 e n)

/-- The residual row of the merge: `α h` and the output projection of the gated sum. -/
def mixRow (h : Fin 1024 → EReal) (a : Fin 1024 → EReal) (wo : Fin 1024 → Fin 1024 → EReal) (j : Fin 1024) : EReal :=
  Ideal.ofBits .f32 0x3F9837F0#32 * h j + ∑ n, a n * wo n j

/-- Equal parts have equal gated sums. -/
theorem mergedRow_congr {h h' : Fin 1024 → EReal} {o1 o1' o2 o2' o3 o3' : Fin 512 → EReal} {wg wg' : Fin 1024 → Fin 3072 → EReal}
    {w1 w1' w2 w2' w3 w3' : Fin 512 → Fin 1024 → EReal} (eh : h = h') (e1 : o1 = o1') (e2 : o2 = o2') (e3 : o3 = o3')
    (eg : wg = wg') (f1 : w1 = w1') (f2 : w2 = w2') (f3 : w3 = w3') :
    mergedRow h o1 o2 o3 wg w1 w2 w3 = mergedRow h' o1' o2' o3' wg' w1' w2' w3' := by rw [eh, e1, e2, e3, eg, f1, f2, f3]

/-- Equal parts have equal residual rows. -/
theorem mixRow_congr {h h' a a' : Fin 1024 → EReal} {w w' : Fin 1024 → Fin 1024 → EReal} (eh : h = h') (ea : a = a') (ew : w = w') :
    mixRow h a w = mixRow h' a' w' := by rw [eh, ea, ew]

end Cert.Layer

end
-- ==== Proof.Layer.RetRows.lean ====
/- The retention call's row functions: the output of one token and head before its group norm (the attention inside the
   chunk plus the decayed read of the state before the chunk), and the group norm with the gate. -/
module

public import proofs.«01_k».proof.Proof.Layer.Rows

@[expose] public section

set_option maxRecDepth 16384

noncomputable section

namespace Cert.Layer

open Idealize.ShloMosaic

/-- The mean of a row of 128 elements. -/
def mean128 (o : Fin 128 → EReal) : EReal := Ideal.div (∑ k, o k) (Ideal.ofBits .f32 0x43000000#32)

/-- The group norm of a head's row `o` at column `e`, with gain and offset, times the gate's `silu`. -/
def gnRow (o : Fin 128 → EReal) (gate gain offset : EReal) (e : Fin 128) : EReal :=
  gate * sigmoid gate
    * ((o e - mean128 o) * Ideal.rsqrt (mean128 (fun k => (o k - mean128 o) * (o k - mean128 o)) + Ideal.ofBits .f32 0x3727C5AC#32)
        * gain + offset)

/-- A token's row of one head: the scores inside the chunk, weighted by the decay `din`, on the values, and the query
    on the state before the chunk, weighted by `qdec`. -/
def retRow (q : Fin 64 → EReal) (k : Fin 128 → Fin 64 → EReal) (din : Fin 128 → EReal) (v : Fin 128 → Fin 128 → EReal)
    (st : Fin 64 → Fin 128 → EReal) (qdec : Fin 128 → EReal) (e : Fin 128) : EReal :=
  (∑ c, (∑ d, q d * k c d) * din c * v c e) + (∑ d, q d * st d e) * qdec e

/-- Equal rows and coefficients have equal group norms. -/
theorem gnRow_congr {o o' : Fin 128 → EReal} {a a' b b' c c' : EReal} (ho : o = o') (ha : a = a') (hb : b = b') (hc : c = c')
    (e : Fin 128) : gnRow o a b c e = gnRow o' a' b' c' e := by rw [ho, ha, hb, hc]

/-- Equal queries, keys, decays, values and states have equal rows. -/
theorem retRow_congr {q q' : Fin 64 → EReal} {k k' : Fin 128 → Fin 64 → EReal} {din din' : Fin 128 → EReal}
    {v v' : Fin 128 → Fin 128 → EReal} {st st' : Fin 64 → Fin 128 → EReal} {qdec qdec' : Fin 128 → EReal} (hq : q = q')
    (hk : k = k') (hdin : din = din') (hv : v = v') (hst : st = st') (hqdec : qdec = qdec') :
    retRow q k din v st qdec = retRow q' k' din' v' st' qdec' := by rw [hq, hk, hdin, hv, hst, hqdec]

/-- A sum of 128 terms whose upper half vanishes is the sum of its lower half. -/
theorem sum_lower (f : Fin 128 → EReal) (h : ∀ d : Fin 64, f ⟨64 + d.val, by omega⟩ = 0) :
    ∑ k, f k = ∑ d : Fin 64, f ⟨d.val, by omega⟩ := by
  refine (Fin.sum_univ_add (a := 64) (b := 64) f).trans ?_
  rw [show (∑ i : Fin 64, f (Fin.natAdd 64 i)) = 0 from Finset.sum_eq_zero fun i _ => h i, add_zero]
  rfl

end Cert.Layer

end
-- ==== Proof.Layer.RetTile.lean ====
/- One tile of the retention kernel's body, a chunk of 128 tokens and one of the four heads: the output tile as a row
   function of the tile's loads, and the state's step from chunk to chunk. The body repeats the same operations for
   every chunk, so the first chunk's serve as the definitions. The query's and the key's 128 lanes are read as loaded,
   64 of them and 64 of padding. -/
module

public import proofs.«01_k».proof.Proof.Layer.RetRows
public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

namespace Cert.KernelIdeal.Ret

open Cert.KernelIdeal Cert.KernelIdeal.Gen Cert.Layer Idealize.ShloMosaic Idealize.ShloMosaic.TcCoe Idealize.SL.Sem

/-- The row of a tile over the 128 loaded lanes, the state padded with zeros below its 64 rows. -/
def padRow (q : Fin 128 → EReal) (k : Fin 128 → Fin 128 → EReal) (din : Fin 128 → EReal) (v : Fin 128 → Fin 128 → EReal)
    (st : Fin 64 → Fin 128 → EReal) (qdec : Fin 128 → EReal) (e : Fin 128) : EReal :=
  (∑ c, (∑ d, q d * k c d) * din c * v c e)
    + ((∑ d : Fin 64, q ⟨d.val, by omega⟩ * st d e) + ∑ d : Fin 64, q ⟨64 + d.val, by omega⟩ * 0) * qdec e

/-- With zeros in the query's upper lanes the row is the head's own. -/
theorem padRow_eq (q : Fin 128 → EReal) (k : Fin 128 → Fin 128 → EReal) (din : Fin 128 → EReal) (v : Fin 128 → Fin 128 → EReal)
    (st : Fin 64 → Fin 128 → EReal) (qdec : Fin 128 → EReal) (hq : ∀ d : Fin 64, q ⟨64 + d.val, by omega⟩ = 0) :
    padRow q k din v st qdec
      = retRow (fun d => q ⟨d.val, by omega⟩) (fun c d => k c ⟨d.val, by omega⟩) din v st qdec := by
  funext e
  unfold padRow retRow
  refine congrArg₂ (fun a b : EReal => a + b * qdec e) (Finset.sum_congr rfl fun c _ => congrArg (fun a : EReal => a * din c * v c e) ?_) ?_
  · exact sum_lower _ fun d => by rw [hq d, zero_mul]
  · simp only [mul_zero, Finset.sum_const_zero, add_zero]

/-- The step of head 0's state over a chunk. -/
def step0 (kdt : FVec Ideal S256x128 .bf16) (v : FVec Ideal S128x512 .bf16) (cd : FVec Ideal S1x64x128 .f32) (st : FVec Ideal S64x128 .f32) :
    FVec Ideal S64x128 .f32 := k0_pay15 st (k0_pay13 kdt v) cd

theorem step0_at (kdt : FVec Ideal S256x128 .bf16) (v : FVec Ideal S128x512 .bf16) (cd : FVec Ideal S1x64x128 .f32)
    (st : FVec Ideal S64x128 .f32) (d : Fin 64) (e : Fin 128) :
    step0 kdt v cd st (ix2 d e) = cd (ix3 0 d e) * st (ix2 d e)
      + ∑ i : Fin 128, kdt (ix2 ⟨0 * 64 + d.val, by omega⟩ i) * v (ix2 i ⟨0 * 128 + e.val, by omega⟩) := by
  unfold step0
  pointwise [k0_pay15, k0_pay13]

/-- The output tile of head 0. -/
def tile0 (g : FVec Ideal S128x512 .f32) (q k v : FVec Ideal S128x128 .bf16) (din : FVec Ideal S1x128x128 .f32)
    (qdec : FVec Ideal S128x512 .f32) (gain offset : FVec Ideal S1x512 .f32) (st : FVec Ideal S64x128 .f32) : FVec Ideal S128x128 .bf16 :=
  k0_pay18 (k0_pay12 g) (k0_pay16 (k0_pay4 qdec) (k0_pay5 gain) st k0_pay11 (k0_pay14 q) v k din) (k0_pay17 (k0_pay6 offset))

theorem tile0_at (g : FVec Ideal S128x512 .f32) (q k v : FVec Ideal S128x128 .bf16) (din : FVec Ideal S1x128x128 .f32)
    (qdec : FVec Ideal S128x512 .f32) (gain offset : FVec Ideal S1x512 .f32) (st : FVec Ideal S64x128 .f32) (r e : Fin 128) :
    tile0 g q k v din qdec gain offset st (ix2 r e)
      = gnRow (padRow (fun d => q (ix2 r d)) (fun c d => k (ix2 c d)) (fun c => din (ix3 0 r c)) (fun c e => v (ix2 c e))
            (fun d e => st (ix2 d e)) (fun e => qdec (ix2 r ⟨0 * 128 + e.val, by omega⟩)))
          (g (ix2 r ⟨0 * 128 + e.val, by omega⟩)) (gain (ix2 0 ⟨0 * 128 + e.val, by omega⟩))
          (offset (ix2 0 ⟨0 * 128 + e.val, by omega⟩)) e := by
  unfold tile0
  pointwise [k0_pay18, k0_pay12, k0_pay16, k0_pay4, k0_pay5, k0_pay11, k0_pay14, k0_pay17, k0_pay6]
  rfl

/-- The step of head 1's state over a chunk. -/
def step1 (kdt : FVec Ideal S256x128 .bf16) (v : FVec Ideal S128x512 .bf16) (cd : FVec Ideal S1x64x128 .f32) (st : FVec Ideal S64x128 .f32) :
    FVec Ideal S64x128 .f32 := k0_pay19 st (k0_pay13 kdt v) cd

theorem step1_at (kdt : FVec Ideal S256x128 .bf16) (v : FVec Ideal S128x512 .bf16) (cd : FVec Ideal S1x64x128 .f32)
    (st : FVec Ideal S64x128 .f32) (d : Fin 64) (e : Fin 128) :
    step1 kdt v cd st (ix2 d e) = cd (ix3 0 d e) * st (ix2 d e)
      + ∑ i : Fin 128, kdt (ix2 ⟨1 * 64 + d.val, by omega⟩ i) * v (ix2 i ⟨1 * 128 + e.val, by omega⟩) := by
  unfold step1
  pointwise [k0_pay19, k0_pay13]

/-- The output tile of head 1. -/
def tile1 (g : FVec Ideal S128x512 .f32) (q k v : FVec Ideal S128x128 .bf16) (din : FVec Ideal S1x128x128 .f32)
    (qdec : FVec Ideal S128x512 .f32) (gain offset : FVec Ideal S1x512 .f32) (st : FVec Ideal S64x128 .f32) : FVec Ideal S128x128 .bf16 :=
  k0_pay22 (k0_pay5 gain) (k0_pay6 offset) (k0_pay12 g) (k0_pay20 (k0_pay4 qdec) st k0_pay11 q v k din) (k0_pay21 (k0_pay4 qdec) st k0_pay11 q v k din)

theorem tile1_at (g : FVec Ideal S128x512 .f32) (q k v : FVec Ideal S128x128 .bf16) (din : FVec Ideal S1x128x128 .f32)
    (qdec : FVec Ideal S128x512 .f32) (gain offset : FVec Ideal S1x512 .f32) (st : FVec Ideal S64x128 .f32) (r e : Fin 128) :
    tile1 g q k v din qdec gain offset st (ix2 r e)
      = gnRow (padRow (fun d => q (ix2 r d)) (fun c d => k (ix2 c d)) (fun c => din (ix3 0 r c)) (fun c e => v (ix2 c e))
            (fun d e => st (ix2 d e)) (fun e => qdec (ix2 r ⟨1 * 128 + e.val, by omega⟩)))
          (g (ix2 r ⟨1 * 128 + e.val, by omega⟩)) (gain (ix2 0 ⟨1 * 128 + e.val, by omega⟩))
          (offset (ix2 0 ⟨1 * 128 + e.val, by omega⟩)) e := by
  unfold tile1
  pointwise [k0_pay22, k0_pay5, k0_pay6, k0_pay12, k0_pay20, k0_pay4, k0_pay11, k0_pay21]
  rfl

/-- The step of head 2's state over a chunk. -/
def step2 (kdt : FVec Ideal S256x128 .bf16) (v : FVec Ideal S128x512 .bf16) (cd : FVec Ideal S1x64x128 .f32) (st : FVec Ideal S64x128 .f32) :
    FVec Ideal S64x128 .f32 := k0_pay28 (k0_pay26 st cd) (k0_pay27 (k0_pay13 kdt v))

theorem step2_at (kdt : FVec Ideal S256x128 .bf16) (v : FVec Ideal S128x512 .bf16) (cd : FVec Ideal S1x64x128 .f32)
    (st : FVec Ideal S64x128 .f32) (d : Fin 64) (e : Fin 128) :
    step2 kdt v cd st (ix2 d e) = cd (ix3 0 d e) * st (ix2 d e)
      + ∑ i : Fin 128, kdt (ix2 ⟨2 * 64 + d.val, by omega⟩ i) * v (ix2 i ⟨2 * 128 + e.val, by omega⟩) := by
  unfold step2
  pointwise [k0_pay28, k0_pay26, k0_pay27, k0_pay13]

/-- The output tile of head 2. -/
def tile2 (g : FVec Ideal S128x512 .f32) (q k v : FVec Ideal S128x128 .bf16) (din : FVec Ideal S1x128x128 .f32)
    (qdec : FVec Ideal S128x512 .f32) (gain offset : FVec Ideal S1x512 .f32) (st : FVec Ideal S64x128 .f32) : FVec Ideal S128x128 .bf16 :=
  k0_pay29 (k0_pay5 gain) (k0_pay6 offset) (k0_pay12 g) (k0_pay24 q v k din) (k0_pay25 (k0_pay4 qdec) st k0_pay11 q)

theorem tile2_at (g : FVec Ideal S128x512 .f32) (q k v : FVec Ideal S128x128 .bf16) (din : FVec Ideal S1x128x128 .f32)
    (qdec : FVec Ideal S128x512 .f32) (gain offset : FVec Ideal S1x512 .f32) (st : FVec Ideal S64x128 .f32) (r e : Fin 128) :
    tile2 g q k v din qdec gain offset st (ix2 r e)
      = gnRow (padRow (fun d => q (ix2 r d)) (fun c d => k (ix2 c d)) (fun c => din (ix3 0 r c)) (fun c e => v (ix2 c e))
            (fun d e => st (ix2 d e)) (fun e => qdec (ix2 r ⟨2 * 128 + e.val, by omega⟩)))
          (g (ix2 r ⟨2 * 128 + e.val, by omega⟩)) (gain (ix2 0 ⟨2 * 128 + e.val, by omega⟩))
          (offset (ix2 0 ⟨2 * 128 + e.val, by omega⟩)) e := by
  unfold tile2
  pointwise [k0_pay29, k0_pay5, k0_pay6, k0_pay12, k0_pay24, k0_pay25, k0_pay4, k0_pay11, k0_pay23]
  rfl

/-- The step of head 3's state over a chunk. -/
def step3 (kdt : FVec Ideal S256x128 .bf16) (v : FVec Ideal S128x512 .bf16) (cd : FVec Ideal S1x64x128 .f32) (st : FVec Ideal S64x128 .f32) :
    FVec Ideal S64x128 .f32 := k0_pay33 st (k0_pay13 kdt v) cd

theorem step3_at (kdt : FVec Ideal S256x128 .bf16) (v : FVec Ideal S128x512 .bf16) (cd : FVec Ideal S1x64x128 .f32)
    (st : FVec Ideal S64x128 .f32) (d : Fin 64) (e : Fin 128) :
    step3 kdt v cd st (ix2 d e) = cd (ix3 0 d e) * st (ix2 d e)
      + ∑ i : Fin 128, kdt (ix2 ⟨3 * 64 + d.val, by omega⟩ i) * v (ix2 i ⟨3 * 128 + e.val, by omega⟩) := by
  unfold step3
  pointwise [k0_pay33, k0_pay13]

/-- The output tile of head 3. -/
def tile3 (g : FVec Ideal S128x512 .f32) (q k v : FVec Ideal S128x128 .bf16) (din : FVec Ideal S1x128x128 .f32)
    (qdec : FVec Ideal S128x512 .f32) (gain offset : FVec Ideal S1x512 .f32) (st : FVec Ideal S64x128 .f32) : FVec Ideal S128x128 .bf16 :=
  k0_pay34 (k0_pay4 qdec) (k0_pay5 gain) (k0_pay6 offset) st k0_pay11 (k0_pay12 g) (k0_pay30 q) (k0_pay31 v) (k0_pay32 q k din) (constant S128x128 .f32 0x00000000#32)

theorem tile3_at (g : FVec Ideal S128x512 .f32) (q k v : FVec Ideal S128x128 .bf16) (din : FVec Ideal S1x128x128 .f32)
    (qdec : FVec Ideal S128x512 .f32) (gain offset : FVec Ideal S1x512 .f32) (st : FVec Ideal S64x128 .f32) (r e : Fin 128) :
    tile3 g q k v din qdec gain offset st (ix2 r e)
      = gnRow (padRow (fun d => q (ix2 r d)) (fun c d => k (ix2 c d)) (fun c => din (ix3 0 r c)) (fun c e => v (ix2 c e))
            (fun d e => st (ix2 d e)) (fun e => qdec (ix2 r ⟨3 * 128 + e.val, by omega⟩)))
          (g (ix2 r ⟨3 * 128 + e.val, by omega⟩)) (gain (ix2 0 ⟨3 * 128 + e.val, by omega⟩))
          (offset (ix2 0 ⟨3 * 128 + e.val, by omega⟩)) e := by
  unfold tile3
  pointwise [k0_pay34, k0_pay4, k0_pay5, k0_pay6, k0_pay11, k0_pay12, k0_pay30, k0_pay31, k0_pay32]
  rfl

end Cert.KernelIdeal.Ret

end
-- ==== Proof.Layer.RetState.lean ====
/- What the retention kernel's body leaves at one grid point, of the point's input blocks and the state `S` it starts
   from: the eight chunks' states, the state it hands on, and the output block's rows. -/
module

public import proofs.«01_k».proof.Proof.Layer.RetTile

@[expose] public section

set_option maxRecDepth 16384

noncomputable section

namespace Cert.KernelIdeal.Ret

open Cert.KernelIdeal Cert.KernelIdeal.Gen Cert.Layer Idealize.ShloMosaic Idealize.ShloMosaic.TcCoe Idealize.SL.Sem

/-- What chunk `j` of a block adds to head `h`'s state. -/
def chunkKv (kdt : FVec Ideal S256x1024 .bf16) (v : FVec Ideal S1024x512 .bf16) (j : ℕ) (h : Fin 4) (d : Fin 64) (e : Fin 128) : EReal :=
  ∑ i : Fin 128, kdt (ix2 ⟨h.val * 64 + d.val, by omega⟩ ⟨(j * 128 + i.val) % 1024, by omega⟩)
    * v (ix2 ⟨(j * 128 + i.val) % 1024, by omega⟩ ⟨h.val * 128 + e.val, by omega⟩)

/-- The state before chunk `j` of a block, from the state `S` before the block. -/
def chunkState (kdt : FVec Ideal S256x1024 .bf16) (v : FVec Ideal S1024x512 .bf16) (cdec : FVec Ideal S4x64x128 .f32)
    (S : FVec Ideal S4x64x128 .f32) : ℕ → Fin 4 → Fin 64 → Fin 128 → EReal
  | 0, h, d, e => S (ix3 h d e)
  | j + 1, h, d, e => cdec (ix3 h d e) * chunkState kdt v cdec S j h d e + chunkKv kdt v j h d e

/-- One head's state before chunk `j`. -/
def st (kdt : FVec Ideal S256x1024 .bf16) (v : FVec Ideal S1024x512 .bf16) (cdec : FVec Ideal S4x64x128 .f32)
    (S : FVec Ideal S4x64x128 .f32) (j : ℕ) (h : Fin 4) : FVec Ideal S64x128 .f32 := fun i => chunkState kdt v cdec S j h (i 0) (i 1)

variable (kdt : FVec Ideal S256x1024 .bf16) (v : FVec Ideal S1024x512 .bf16) (cdec : FVec Ideal S4x64x128 .f32) (S : FVec Ideal S4x64x128 .f32)

/-- Head 0's state steps to the next chunk's. -/
theorem step0_st (n p : ℕ) (hn : n < 8) (hp : p = n * 128) (i0 i1 i2) :
    step0 (View.ld (Val := Elt Ideal) (S := S256x1024) (e' := .bf16) kdt (Rect.unit (s := S256x1024) ![0, p] ![256, 128] i0)) (View.ld (Val := Elt Ideal) (S := S1024x512) (e' := .bf16) v (Rect.unit (s := S1024x512) ![p, 0] ![128, 512] i1))
      (View.ld (Val := Elt Ideal) (S := S4x64x128) (e' := .f32) cdec (Rect.unit (s := S4x64x128) ![0, 0, 0] ![1, 64, 128] i2)) (st kdt v cdec S n 0) = st kdt v cdec S (n + 1) 0 := by
  funext x
  obtain ⟨d, e, rfl⟩ : ∃ (d : Fin 64) (e : Fin 128), x = ix2 d e := ⟨x 0, x 1, by funext a; fin_cases a <;> rfl⟩
  refine (step0_at _ _ _ _ d e).trans ?_
  show _ = cdec (ix3 0 d e) * chunkState kdt v cdec S n 0 d e + chunkKv kdt v n 0 d e
  unfold chunkKv
  refine congrArg₂ (fun a b : EReal => a + b) (congrArg (fun a : EReal => a * _) ?_)
    (Finset.sum_congr rfl fun i _ => congrArg₂ (fun a b : EReal => a * b) ?_ ?_) <;> (pointwise; blk_ext)

/-- Head 1's state steps to the next chunk's. -/
theorem step1_st (n p : ℕ) (hn : n < 8) (hp : p = n * 128) (i0 i1 i2) :
    step1 (View.ld (Val := Elt Ideal) (S := S256x1024) (e' := .bf16) kdt (Rect.unit (s := S256x1024) ![0, p] ![256, 128] i0)) (View.ld (Val := Elt Ideal) (S := S1024x512) (e' := .bf16) v (Rect.unit (s := S1024x512) ![p, 0] ![128, 512] i1))
      (View.ld (Val := Elt Ideal) (S := S4x64x128) (e' := .f32) cdec (Rect.unit (s := S4x64x128) ![1, 0, 0] ![1, 64, 128] i2)) (st kdt v cdec S n 1) = st kdt v cdec S (n + 1) 1 := by
  funext x
  obtain ⟨d, e, rfl⟩ : ∃ (d : Fin 64) (e : Fin 128), x = ix2 d e := ⟨x 0, x 1, by funext a; fin_cases a <;> rfl⟩
  refine (step1_at _ _ _ _ d e).trans ?_
  show _ = cdec (ix3 1 d e) * chunkState kdt v cdec S n 1 d e + chunkKv kdt v n 1 d e
  unfold chunkKv
  refine congrArg₂ (fun a b : EReal => a + b) (congrArg (fun a : EReal => a * _) ?_)
    (Finset.sum_congr rfl fun i _ => congrArg₂ (fun a b : EReal => a * b) ?_ ?_) <;> (pointwise; blk_ext)

/-- Head 2's state steps to the next chunk's. -/
theorem step2_st (n p : ℕ) (hn : n < 8) (hp : p = n * 128) (i0 i1 i2) :
    step2 (View.ld (Val := Elt Ideal) (S := S256x1024) (e' := .bf16) kdt (Rect.unit (s := S256x1024) ![0, p] ![256, 128] i0)) (View.ld (Val := Elt Ideal) (S := S1024x512) (e' := .bf16) v (Rect.unit (s := S1024x512) ![p, 0] ![128, 512] i1))
      (View.ld (Val := Elt Ideal) (S := S4x64x128) (e' := .f32) cdec (Rect.unit (s := S4x64x128) ![2, 0, 0] ![1, 64, 128] i2)) (st kdt v cdec S n 2) = st kdt v cdec S (n + 1) 2 := by
  funext x
  obtain ⟨d, e, rfl⟩ : ∃ (d : Fin 64) (e : Fin 128), x = ix2 d e := ⟨x 0, x 1, by funext a; fin_cases a <;> rfl⟩
  refine (step2_at _ _ _ _ d e).trans ?_
  show _ = cdec (ix3 2 d e) * chunkState kdt v cdec S n 2 d e + chunkKv kdt v n 2 d e
  unfold chunkKv
  refine congrArg₂ (fun a b : EReal => a + b) (congrArg (fun a : EReal => a * _) ?_)
    (Finset.sum_congr rfl fun i _ => congrArg₂ (fun a b : EReal => a * b) ?_ ?_) <;> (pointwise; blk_ext)

/-- Head 3's state steps to the next chunk's. -/
theorem step3_st (n p : ℕ) (hn : n < 8) (hp : p = n * 128) (i0 i1 i2) :
    step3 (View.ld (Val := Elt Ideal) (S := S256x1024) (e' := .bf16) kdt (Rect.unit (s := S256x1024) ![0, p] ![256, 128] i0)) (View.ld (Val := Elt Ideal) (S := S1024x512) (e' := .bf16) v (Rect.unit (s := S1024x512) ![p, 0] ![128, 512] i1))
      (View.ld (Val := Elt Ideal) (S := S4x64x128) (e' := .f32) cdec (Rect.unit (s := S4x64x128) ![3, 0, 0] ![1, 64, 128] i2)) (st kdt v cdec S n 3) = st kdt v cdec S (n + 1) 3 := by
  funext x
  obtain ⟨d, e, rfl⟩ : ∃ (d : Fin 64) (e : Fin 128), x = ix2 d e := ⟨x 0, x 1, by funext a; fin_cases a <;> rfl⟩
  refine (step3_at _ _ _ _ d e).trans ?_
  show _ = cdec (ix3 3 d e) * chunkState kdt v cdec S n 3 d e + chunkKv kdt v n 3 d e
  unfold chunkKv
  refine congrArg₂ (fun a b : EReal => a + b) (congrArg (fun a : EReal => a * _) ?_)
    (Finset.sum_congr rfl fun i _ => congrArg₂ (fun a b : EReal => a * b) ?_ ?_) <;> (pointwise; blk_ext)

theorem st0_0 : k0_pay7 (View.ld (Val := Elt Ideal) (S := S4x64x128) (e' := .f32) S (Rect.unit (s := S4x64x128) ![0, 0, 0] ![1, 64, 128] inb_S4x64x128_S1x64x128_0_0_0)) = st kdt v cdec S 0 0 := by
  funext x
  obtain ⟨d, e, rfl⟩ : ∃ (d : Fin 64) (e : Fin 128), x = ix2 d e := ⟨x 0, x 1, by funext a; fin_cases a <;> rfl⟩
  show _ = S (ix3 0 d e)
  pointwise [k0_pay7]
  blk_ext

theorem st1_0 : k0_pay15 (st kdt v cdec S 0 0) (k0_pay13 (View.ld (Val := Elt Ideal) (S := S256x1024) (e' := .bf16) kdt (Rect.unit (s := S256x1024) ![0, 0] ![256, 128] inb_S256x1024_S256x128_0_0)) (View.ld (Val := Elt Ideal) (S := S1024x512) (e' := .bf16) v (Rect.unit (s := S1024x512) ![0, 0] ![128, 512] inb_S1024x512_S128x512_0_0))) (View.ld (Val := Elt Ideal) (S := S4x64x128) (e' := .f32) cdec (Rect.unit (s := S4x64x128) ![0, 0, 0] ![1, 64, 128] inb_S4x64x128_S1x64x128_0_0_0)) = st kdt v cdec S 1 0 :=
  step0_st kdt v cdec S 0 0 (by omega) rfl _ _ _

theorem st2_0 : k0_pay38 (st kdt v cdec S 1 0) (k0_pay36 (View.ld (Val := Elt Ideal) (S := S256x1024) (e' := .bf16) kdt (Rect.unit (s := S256x1024) ![0, 128] ![256, 128] inb_S256x1024_S256x128_0_128))) (View.ld (Val := Elt Ideal) (S := S1024x512) (e' := .bf16) v (Rect.unit (s := S1024x512) ![128, 0] ![128, 512] inb_S1024x512_S128x512_128_0)) (View.ld (Val := Elt Ideal) (S := S4x64x128) (e' := .f32) cdec (Rect.unit (s := S4x64x128) ![0, 0, 0] ![1, 64, 128] inb_S4x64x128_S1x64x128_0_0_0)) = st kdt v cdec S 2 0 :=
  step0_st kdt v cdec S 1 128 (by omega) rfl _ _ _

theorem st3_0 : k0_pay58 (st kdt v cdec S 2 0) (View.ld (Val := Elt Ideal) (S := S256x1024) (e' := .bf16) kdt (Rect.unit (s := S256x1024) ![0, 256] ![256, 128] inb_S256x1024_S256x128_0_256)) (View.ld (Val := Elt Ideal) (S := S1024x512) (e' := .bf16) v (Rect.unit (s := S1024x512) ![256, 0] ![128, 512] inb_S1024x512_S128x512_256_0)) (View.ld (Val := Elt Ideal) (S := S4x64x128) (e' := .f32) cdec (Rect.unit (s := S4x64x128) ![0, 0, 0] ![1, 64, 128] inb_S4x64x128_S1x64x128_0_0_0)) = st kdt v cdec S 3 0 :=
  step0_st kdt v cdec S 2 256 (by omega) rfl _ _ _

theorem st4_0 : k0_pay81 (st kdt v cdec S 3 0) (k0_pay76 (View.ld (Val := Elt Ideal) (S := S256x1024) (e' := .bf16) kdt (Rect.unit (s := S256x1024) ![0, 384] ![256, 128] inb_S256x1024_S256x128_0_384)) (View.ld (Val := Elt Ideal) (S := S1024x512) (e' := .bf16) v (Rect.unit (s := S1024x512) ![384, 0] ![128, 512] inb_S1024x512_S128x512_384_0))) (k0_pay80 (View.ld (Val := Elt Ideal) (S := S4x64x128) (e' := .f32) cdec (Rect.unit (s := S4x64x128) ![0, 0, 0] ![1, 64, 128] inb_S4x64x128_S1x64x128_0_0_0))) = st kdt v cdec S 4 0 :=
  step0_st kdt v cdec S 3 384 (by omega) rfl _ _ _

theorem st5_0 : k0_pay103 (st kdt v cdec S 4 0) (k0_pay99 (View.ld (Val := Elt Ideal) (S := S256x1024) (e' := .bf16) kdt (Rect.unit (s := S256x1024) ![0, 512] ![256, 128] inb_S256x1024_S256x128_0_512)) (View.ld (Val := Elt Ideal) (S := S1024x512) (e' := .bf16) v (Rect.unit (s := S1024x512) ![512, 0] ![128, 512] inb_S1024x512_S128x512_512_0))) (View.ld (Val := Elt Ideal) (S := S4x64x128) (e' := .f32) cdec (Rect.unit (s := S4x64x128) ![0, 0, 0] ![1, 64, 128] inb_S4x64x128_S1x64x128_0_0_0)) = st kdt v cdec S 5 0 :=
  step0_st kdt v cdec S 4 512 (by omega) rfl _ _ _

theorem st6_0 : k0_pay122 (st kdt v cdec S 5 0) (k0_pay118 (View.ld (Val := Elt Ideal) (S := S256x1024) (e' := .bf16) kdt (Rect.unit (s := S256x1024) ![0, 640] ![256, 128] inb_S256x1024_S256x128_0_640)) (View.ld (Val := Elt Ideal) (S := S1024x512) (e' := .bf16) v (Rect.unit (s := S1024x512) ![640, 0] ![128, 512] inb_S1024x512_S128x512_640_0))) (View.ld (Val := Elt Ideal) (S := S4x64x128) (e' := .f32) cdec (Rect.unit (s := S4x64x128) ![0, 0, 0] ![1, 64, 128] inb_S4x64x128_S1x64x128_0_0_0)) = st kdt v cdec S 6 0 :=
  step0_st kdt v cdec S 5 640 (by omega) rfl _ _ _

theorem st7_0 : k0_pay139 (st kdt v cdec S 6 0) (k0_pay137 (View.ld (Val := Elt Ideal) (S := S256x1024) (e' := .bf16) kdt (Rect.unit (s := S256x1024) ![0, 768] ![256, 128] inb_S256x1024_S256x128_0_768)) (View.ld (Val := Elt Ideal) (S := S1024x512) (e' := .bf16) v (Rect.unit (s := S1024x512) ![768, 0] ![128, 512] inb_S1024x512_S128x512_768_0))) (View.ld (Val := Elt Ideal) (S := S4x64x128) (e' := .f32) cdec (Rect.unit (s := S4x64x128) ![0, 0, 0] ![1, 64, 128] inb_S4x64x128_S1x64x128_0_0_0)) = st kdt v cdec S 7 0 :=
  step0_st kdt v cdec S 6 768 (by omega) rfl _ _ _

theorem st8_0 : k0_pay162 (st kdt v cdec S 7 0) (k0_pay160 (View.ld (Val := Elt Ideal) (S := S256x1024) (e' := .bf16) kdt (Rect.unit (s := S256x1024) ![0, 896] ![256, 128] inb_S256x1024_S256x128_0_896))) (View.ld (Val := Elt Ideal) (S := S1024x512) (e' := .bf16) v (Rect.unit (s := S1024x512) ![896, 0] ![128, 512] inb_S1024x512_S128x512_896_0)) (View.ld (Val := Elt Ideal) (S := S4x64x128) (e' := .f32) cdec (Rect.unit (s := S4x64x128) ![0, 0, 0] ![1, 64, 128] inb_S4x64x128_S1x64x128_0_0_0)) = st kdt v cdec S 8 0 :=
  step0_st kdt v cdec S 7 896 (by omega) rfl _ _ _

theorem st0_1 : k0_pay8 (View.ld (Val := Elt Ideal) (S := S4x64x128) (e' := .f32) S (Rect.unit (s := S4x64x128) ![1, 0, 0] ![1, 64, 128] inb_S4x64x128_S1x64x128_1_0_0)) = st kdt v cdec S 0 1 := by
  funext x
  obtain ⟨d, e, rfl⟩ : ∃ (d : Fin 64) (e : Fin 128), x = ix2 d e := ⟨x 0, x 1, by funext a; fin_cases a <;> rfl⟩
  show _ = S (ix3 1 d e)
  pointwise [k0_pay8]
  blk_ext

theorem st1_1 : k0_pay19 (st kdt v cdec S 0 1) (k0_pay13 (View.ld (Val := Elt Ideal) (S := S256x1024) (e' := .bf16) kdt (Rect.unit (s := S256x1024) ![0, 0] ![256, 128] inb_S256x1024_S256x128_0_0)) (View.ld (Val := Elt Ideal) (S := S1024x512) (e' := .bf16) v (Rect.unit (s := S1024x512) ![0, 0] ![128, 512] inb_S1024x512_S128x512_0_0))) (View.ld (Val := Elt Ideal) (S := S4x64x128) (e' := .f32) cdec (Rect.unit (s := S4x64x128) ![1, 0, 0] ![1, 64, 128] inb_S4x64x128_S1x64x128_1_0_0)) = st kdt v cdec S 1 1 :=
  step1_st kdt v cdec S 0 0 (by omega) rfl _ _ _

theorem st2_1 : k0_pay42 (st kdt v cdec S 1 1) (k0_pay37 (k0_pay36 (View.ld (Val := Elt Ideal) (S := S256x1024) (e' := .bf16) kdt (Rect.unit (s := S256x1024) ![0, 128] ![256, 128] inb_S256x1024_S256x128_0_128))) (View.ld (Val := Elt Ideal) (S := S1024x512) (e' := .bf16) v (Rect.unit (s := S1024x512) ![128, 0] ![128, 512] inb_S1024x512_S128x512_128_0))) (View.ld (Val := Elt Ideal) (S := S4x64x128) (e' := .f32) cdec (Rect.unit (s := S4x64x128) ![1, 0, 0] ![1, 64, 128] inb_S4x64x128_S1x64x128_1_0_0)) = st kdt v cdec S 2 1 :=
  step1_st kdt v cdec S 1 128 (by omega) rfl _ _ _

theorem st3_1 : k0_pay65 (st kdt v cdec S 2 1) (k0_pay57 (View.ld (Val := Elt Ideal) (S := S256x1024) (e' := .bf16) kdt (Rect.unit (s := S256x1024) ![0, 256] ![256, 128] inb_S256x1024_S256x128_0_256)) (View.ld (Val := Elt Ideal) (S := S1024x512) (e' := .bf16) v (Rect.unit (s := S1024x512) ![256, 0] ![128, 512] inb_S1024x512_S128x512_256_0))) (View.ld (Val := Elt Ideal) (S := S4x64x128) (e' := .f32) cdec (Rect.unit (s := S4x64x128) ![1, 0, 0] ![1, 64, 128] inb_S4x64x128_S1x64x128_1_0_0)) = st kdt v cdec S 3 1 :=
  step1_st kdt v cdec S 2 256 (by omega) rfl _ _ _

theorem st4_1 : k0_pay86 (st kdt v cdec S 3 1) (k0_pay76 (View.ld (Val := Elt Ideal) (S := S256x1024) (e' := .bf16) kdt (Rect.unit (s := S256x1024) ![0, 384] ![256, 128] inb_S256x1024_S256x128_0_384)) (View.ld (Val := Elt Ideal) (S := S1024x512) (e' := .bf16) v (Rect.unit (s := S1024x512) ![384, 0] ![128, 512] inb_S1024x512_S128x512_384_0))) (View.ld (Val := Elt Ideal) (S := S4x64x128) (e' := .f32) cdec (Rect.unit (s := S4x64x128) ![1, 0, 0] ![1, 64, 128] inb_S4x64x128_S1x64x128_1_0_0)) = st kdt v cdec S 4 1 :=
  step1_st kdt v cdec S 3 384 (by omega) rfl _ _ _

theorem st5_1 : k0_pay107 (st kdt v cdec S 4 1) (k0_pay99 (View.ld (Val := Elt Ideal) (S := S256x1024) (e' := .bf16) kdt (Rect.unit (s := S256x1024) ![0, 512] ![256, 128] inb_S256x1024_S256x128_0_512)) (View.ld (Val := Elt Ideal) (S := S1024x512) (e' := .bf16) v (Rect.unit (s := S1024x512) ![512, 0] ![128, 512] inb_S1024x512_S128x512_512_0))) (View.ld (Val := Elt Ideal) (S := S4x64x128) (e' := .f32) cdec (Rect.unit (s := S4x64x128) ![1, 0, 0] ![1, 64, 128] inb_S4x64x128_S1x64x128_1_0_0)) = st kdt v cdec S 5 1 :=
  step1_st kdt v cdec S 4 512 (by omega) rfl _ _ _

theorem st6_1 : k0_pay124 (st kdt v cdec S 5 1) (k0_pay118 (View.ld (Val := Elt Ideal) (S := S256x1024) (e' := .bf16) kdt (Rect.unit (s := S256x1024) ![0, 640] ![256, 128] inb_S256x1024_S256x128_0_640)) (View.ld (Val := Elt Ideal) (S := S1024x512) (e' := .bf16) v (Rect.unit (s := S1024x512) ![640, 0] ![128, 512] inb_S1024x512_S128x512_640_0))) (View.ld (Val := Elt Ideal) (S := S4x64x128) (e' := .f32) cdec (Rect.unit (s := S4x64x128) ![1, 0, 0] ![1, 64, 128] inb_S4x64x128_S1x64x128_1_0_0)) = st kdt v cdec S 6 1 :=
  step1_st kdt v cdec S 5 640 (by omega) rfl _ _ _

theorem st7_1 : k0_pay143 (st kdt v cdec S 6 1) (k0_pay137 (View.ld (Val := Elt Ideal) (S := S256x1024) (e' := .bf16) kdt (Rect.unit (s := S256x1024) ![0, 768] ![256, 128] inb_S256x1024_S256x128_0_768)) (View.ld (Val := Elt Ideal) (S := S1024x512) (e' := .bf16) v (Rect.unit (s := S1024x512) ![768, 0] ![128, 512] inb_S1024x512_S128x512_768_0))) (View.ld (Val := Elt Ideal) (S := S4x64x128) (e' := .f32) cdec (Rect.unit (s := S4x64x128) ![1, 0, 0] ![1, 64, 128] inb_S4x64x128_S1x64x128_1_0_0)) = st kdt v cdec S 7 1 :=
  step1_st kdt v cdec S 6 768 (by omega) rfl _ _ _

theorem st8_1 : k0_pay166 (st kdt v cdec S 7 1) (k0_pay161 (k0_pay160 (View.ld (Val := Elt Ideal) (S := S256x1024) (e' := .bf16) kdt (Rect.unit (s := S256x1024) ![0, 896] ![256, 128] inb_S256x1024_S256x128_0_896))) (View.ld (Val := Elt Ideal) (S := S1024x512) (e' := .bf16) v (Rect.unit (s := S1024x512) ![896, 0] ![128, 512] inb_S1024x512_S128x512_896_0))) (View.ld (Val := Elt Ideal) (S := S4x64x128) (e' := .f32) cdec (Rect.unit (s := S4x64x128) ![1, 0, 0] ![1, 64, 128] inb_S4x64x128_S1x64x128_1_0_0)) = st kdt v cdec S 8 1 :=
  step1_st kdt v cdec S 7 896 (by omega) rfl _ _ _

theorem st0_2 : k0_pay9 (View.ld (Val := Elt Ideal) (S := S4x64x128) (e' := .f32) S (Rect.unit (s := S4x64x128) ![2, 0, 0] ![1, 64, 128] inb_S4x64x128_S1x64x128_2_0_0)) = st kdt v cdec S 0 2 := by
  funext x
  obtain ⟨d, e, rfl⟩ : ∃ (d : Fin 64) (e : Fin 128), x = ix2 d e := ⟨x 0, x 1, by funext a; fin_cases a <;> rfl⟩
  show _ = S (ix3 2 d e)
  pointwise [k0_pay9]
  blk_ext

theorem st1_2 : k0_pay28 (k0_pay26 (st kdt v cdec S 0 2) (View.ld (Val := Elt Ideal) (S := S4x64x128) (e' := .f32) cdec (Rect.unit (s := S4x64x128) ![2, 0, 0] ![1, 64, 128] inb_S4x64x128_S1x64x128_2_0_0))) (k0_pay27 (k0_pay13 (View.ld (Val := Elt Ideal) (S := S256x1024) (e' := .bf16) kdt (Rect.unit (s := S256x1024) ![0, 0] ![256, 128] inb_S256x1024_S256x128_0_0)) (View.ld (Val := Elt Ideal) (S := S1024x512) (e' := .bf16) v (Rect.unit (s := S1024x512) ![0, 0] ![128, 512] inb_S1024x512_S128x512_0_0)))) = st kdt v cdec S 1 2 :=
  step2_st kdt v cdec S 0 0 (by omega) rfl _ _ _

theorem st2_2 : k0_pay49 (st kdt v cdec S 1 2) (k0_pay37 (k0_pay36 (View.ld (Val := Elt Ideal) (S := S256x1024) (e' := .bf16) kdt (Rect.unit (s := S256x1024) ![0, 128] ![256, 128] inb_S256x1024_S256x128_0_128))) (View.ld (Val := Elt Ideal) (S := S1024x512) (e' := .bf16) v (Rect.unit (s := S1024x512) ![128, 0] ![128, 512] inb_S1024x512_S128x512_128_0))) (View.ld (Val := Elt Ideal) (S := S4x64x128) (e' := .f32) cdec (Rect.unit (s := S4x64x128) ![2, 0, 0] ![1, 64, 128] inb_S4x64x128_S1x64x128_2_0_0)) = st kdt v cdec S 2 2 :=
  step2_st kdt v cdec S 1 128 (by omega) rfl _ _ _

theorem st3_2 : k0_pay70 (st kdt v cdec S 2 2) (k0_pay57 (View.ld (Val := Elt Ideal) (S := S256x1024) (e' := .bf16) kdt (Rect.unit (s := S256x1024) ![0, 256] ![256, 128] inb_S256x1024_S256x128_0_256)) (View.ld (Val := Elt Ideal) (S := S1024x512) (e' := .bf16) v (Rect.unit (s := S1024x512) ![256, 0] ![128, 512] inb_S1024x512_S128x512_256_0))) (View.ld (Val := Elt Ideal) (S := S4x64x128) (e' := .f32) cdec (Rect.unit (s := S4x64x128) ![2, 0, 0] ![1, 64, 128] inb_S4x64x128_S1x64x128_2_0_0)) = st kdt v cdec S 3 2 :=
  step2_st kdt v cdec S 2 256 (by omega) rfl _ _ _

theorem st4_2 : k0_pay89 (st kdt v cdec S 3 2) (k0_pay76 (View.ld (Val := Elt Ideal) (S := S256x1024) (e' := .bf16) kdt (Rect.unit (s := S256x1024) ![0, 384] ![256, 128] inb_S256x1024_S256x128_0_384)) (View.ld (Val := Elt Ideal) (S := S1024x512) (e' := .bf16) v (Rect.unit (s := S1024x512) ![384, 0] ![128, 512] inb_S1024x512_S128x512_384_0))) (View.ld (Val := Elt Ideal) (S := S4x64x128) (e' := .f32) cdec (Rect.unit (s := S4x64x128) ![2, 0, 0] ![1, 64, 128] inb_S4x64x128_S1x64x128_2_0_0)) = st kdt v cdec S 4 2 :=
  step2_st kdt v cdec S 3 384 (by omega) rfl _ _ _

theorem st5_2 : k0_pay109 (st kdt v cdec S 4 2) (k0_pay99 (View.ld (Val := Elt Ideal) (S := S256x1024) (e' := .bf16) kdt (Rect.unit (s := S256x1024) ![0, 512] ![256, 128] inb_S256x1024_S256x128_0_512)) (View.ld (Val := Elt Ideal) (S := S1024x512) (e' := .bf16) v (Rect.unit (s := S1024x512) ![512, 0] ![128, 512] inb_S1024x512_S128x512_512_0))) (View.ld (Val := Elt Ideal) (S := S4x64x128) (e' := .f32) cdec (Rect.unit (s := S4x64x128) ![2, 0, 0] ![1, 64, 128] inb_S4x64x128_S1x64x128_2_0_0)) = st kdt v cdec S 5 2 :=
  step2_st kdt v cdec S 4 512 (by omega) rfl _ _ _

theorem st6_2 : k0_pay128 (st kdt v cdec S 5 2) (k0_pay118 (View.ld (Val := Elt Ideal) (S := S256x1024) (e' := .bf16) kdt (Rect.unit (s := S256x1024) ![0, 640] ![256, 128] inb_S256x1024_S256x128_0_640)) (View.ld (Val := Elt Ideal) (S := S1024x512) (e' := .bf16) v (Rect.unit (s := S1024x512) ![640, 0] ![128, 512] inb_S1024x512_S128x512_640_0))) (View.ld (Val := Elt Ideal) (S := S4x64x128) (e' := .f32) cdec (Rect.unit (s := S4x64x128) ![2, 0, 0] ![1, 64, 128] inb_S4x64x128_S1x64x128_2_0_0)) = st kdt v cdec S 6 2 :=
  step2_st kdt v cdec S 5 640 (by omega) rfl _ _ _

theorem st7_2 : k0_pay152 (k0_pay150 (st kdt v cdec S 6 2) (View.ld (Val := Elt Ideal) (S := S4x64x128) (e' := .f32) cdec (Rect.unit (s := S4x64x128) ![2, 0, 0] ![1, 64, 128] inb_S4x64x128_S1x64x128_2_0_0))) (k0_pay151 (k0_pay137 (View.ld (Val := Elt Ideal) (S := S256x1024) (e' := .bf16) kdt (Rect.unit (s := S256x1024) ![0, 768] ![256, 128] inb_S256x1024_S256x128_0_768)) (View.ld (Val := Elt Ideal) (S := S1024x512) (e' := .bf16) v (Rect.unit (s := S1024x512) ![768, 0] ![128, 512] inb_S1024x512_S128x512_768_0)))) = st kdt v cdec S 7 2 :=
  step2_st kdt v cdec S 6 768 (by omega) rfl _ _ _

theorem st8_2 : k0_pay173 (st kdt v cdec S 7 2) (k0_pay161 (k0_pay160 (View.ld (Val := Elt Ideal) (S := S256x1024) (e' := .bf16) kdt (Rect.unit (s := S256x1024) ![0, 896] ![256, 128] inb_S256x1024_S256x128_0_896))) (View.ld (Val := Elt Ideal) (S := S1024x512) (e' := .bf16) v (Rect.unit (s := S1024x512) ![896, 0] ![128, 512] inb_S1024x512_S128x512_896_0))) (View.ld (Val := Elt Ideal) (S := S4x64x128) (e' := .f32) cdec (Rect.unit (s := S4x64x128) ![2, 0, 0] ![1, 64, 128] inb_S4x64x128_S1x64x128_2_0_0)) = st kdt v cdec S 8 2 :=
  step2_st kdt v cdec S 7 896 (by omega) rfl _ _ _

theorem st0_3 : k0_pay10 (View.ld (Val := Elt Ideal) (S := S4x64x128) (e' := .f32) S (Rect.unit (s := S4x64x128) ![3, 0, 0] ![1, 64, 128] inb_S4x64x128_S1x64x128_3_0_0)) = st kdt v cdec S 0 3 := by
  funext x
  obtain ⟨d, e, rfl⟩ : ∃ (d : Fin 64) (e : Fin 128), x = ix2 d e := ⟨x 0, x 1, by funext a; fin_cases a <;> rfl⟩
  show _ = S (ix3 3 d e)
  pointwise [k0_pay10]
  blk_ext

theorem st1_3 : k0_pay33 (st kdt v cdec S 0 3) (k0_pay13 (View.ld (Val := Elt Ideal) (S := S256x1024) (e' := .bf16) kdt (Rect.unit (s := S256x1024) ![0, 0] ![256, 128] inb_S256x1024_S256x128_0_0)) (View.ld (Val := Elt Ideal) (S := S1024x512) (e' := .bf16) v (Rect.unit (s := S1024x512) ![0, 0] ![128, 512] inb_S1024x512_S128x512_0_0))) (View.ld (Val := Elt Ideal) (S := S4x64x128) (e' := .f32) cdec (Rect.unit (s := S4x64x128) ![3, 0, 0] ![1, 64, 128] inb_S4x64x128_S1x64x128_3_0_0)) = st kdt v cdec S 1 3 :=
  step3_st kdt v cdec S 0 0 (by omega) rfl _ _ _

theorem st2_3 : k0_pay54 (st kdt v cdec S 1 3) (k0_pay37 (k0_pay36 (View.ld (Val := Elt Ideal) (S := S256x1024) (e' := .bf16) kdt (Rect.unit (s := S256x1024) ![0, 128] ![256, 128] inb_S256x1024_S256x128_0_128))) (View.ld (Val := Elt Ideal) (S := S1024x512) (e' := .bf16) v (Rect.unit (s := S1024x512) ![128, 0] ![128, 512] inb_S1024x512_S128x512_128_0))) (View.ld (Val := Elt Ideal) (S := S4x64x128) (e' := .f32) cdec (Rect.unit (s := S4x64x128) ![3, 0, 0] ![1, 64, 128] inb_S4x64x128_S1x64x128_3_0_0)) = st kdt v cdec S 2 3 :=
  step3_st kdt v cdec S 1 128 (by omega) rfl _ _ _

theorem st3_3 : k0_pay72 (st kdt v cdec S 2 3) (k0_pay57 (View.ld (Val := Elt Ideal) (S := S256x1024) (e' := .bf16) kdt (Rect.unit (s := S256x1024) ![0, 256] ![256, 128] inb_S256x1024_S256x128_0_256)) (View.ld (Val := Elt Ideal) (S := S1024x512) (e' := .bf16) v (Rect.unit (s := S1024x512) ![256, 0] ![128, 512] inb_S1024x512_S128x512_256_0))) (View.ld (Val := Elt Ideal) (S := S4x64x128) (e' := .f32) cdec (Rect.unit (s := S4x64x128) ![3, 0, 0] ![1, 64, 128] inb_S4x64x128_S1x64x128_3_0_0)) = st kdt v cdec S 3 3 :=
  step3_st kdt v cdec S 2 256 (by omega) rfl _ _ _

theorem st4_3 : k0_pay93 (st kdt v cdec S 3 3) (k0_pay76 (View.ld (Val := Elt Ideal) (S := S256x1024) (e' := .bf16) kdt (Rect.unit (s := S256x1024) ![0, 384] ![256, 128] inb_S256x1024_S256x128_0_384)) (View.ld (Val := Elt Ideal) (S := S1024x512) (e' := .bf16) v (Rect.unit (s := S1024x512) ![384, 0] ![128, 512] inb_S1024x512_S128x512_384_0))) (View.ld (Val := Elt Ideal) (S := S4x64x128) (e' := .f32) cdec (Rect.unit (s := S4x64x128) ![3, 0, 0] ![1, 64, 128] inb_S4x64x128_S1x64x128_3_0_0)) = st kdt v cdec S 4 3 :=
  step3_st kdt v cdec S 3 384 (by omega) rfl _ _ _

theorem st5_3 : k0_pay113 (st kdt v cdec S 4 3) (k0_pay99 (View.ld (Val := Elt Ideal) (S := S256x1024) (e' := .bf16) kdt (Rect.unit (s := S256x1024) ![0, 512] ![256, 128] inb_S256x1024_S256x128_0_512)) (View.ld (Val := Elt Ideal) (S := S1024x512) (e' := .bf16) v (Rect.unit (s := S1024x512) ![512, 0] ![128, 512] inb_S1024x512_S128x512_512_0))) (View.ld (Val := Elt Ideal) (S := S4x64x128) (e' := .f32) cdec (Rect.unit (s := S4x64x128) ![3, 0, 0] ![1, 64, 128] inb_S4x64x128_S1x64x128_3_0_0)) = st kdt v cdec S 5 3 :=
  step3_st kdt v cdec S 4 512 (by omega) rfl _ _ _

theorem st6_3 : k0_pay134 (st kdt v cdec S 5 3) (k0_pay118 (View.ld (Val := Elt Ideal) (S := S256x1024) (e' := .bf16) kdt (Rect.unit (s := S256x1024) ![0, 640] ![256, 128] inb_S256x1024_S256x128_0_640)) (View.ld (Val := Elt Ideal) (S := S1024x512) (e' := .bf16) v (Rect.unit (s := S1024x512) ![640, 0] ![128, 512] inb_S1024x512_S128x512_640_0))) (View.ld (Val := Elt Ideal) (S := S4x64x128) (e' := .f32) cdec (Rect.unit (s := S4x64x128) ![3, 0, 0] ![1, 64, 128] inb_S4x64x128_S1x64x128_3_0_0)) = st kdt v cdec S 6 3 :=
  step3_st kdt v cdec S 5 640 (by omega) rfl _ _ _

theorem st7_3 : k0_pay157 (st kdt v cdec S 6 3) (k0_pay137 (View.ld (Val := Elt Ideal) (S := S256x1024) (e' := .bf16) kdt (Rect.unit (s := S256x1024) ![0, 768] ![256, 128] inb_S256x1024_S256x128_0_768)) (View.ld (Val := Elt Ideal) (S := S1024x512) (e' := .bf16) v (Rect.unit (s := S1024x512) ![768, 0] ![128, 512] inb_S1024x512_S128x512_768_0))) (View.ld (Val := Elt Ideal) (S := S4x64x128) (e' := .f32) cdec (Rect.unit (s := S4x64x128) ![3, 0, 0] ![1, 64, 128] inb_S4x64x128_S1x64x128_3_0_0)) = st kdt v cdec S 7 3 :=
  step3_st kdt v cdec S 6 768 (by omega) rfl _ _ _

theorem st8_3 : k0_pay178 (st kdt v cdec S 7 3) (k0_pay161 (k0_pay160 (View.ld (Val := Elt Ideal) (S := S256x1024) (e' := .bf16) kdt (Rect.unit (s := S256x1024) ![0, 896] ![256, 128] inb_S256x1024_S256x128_0_896))) (View.ld (Val := Elt Ideal) (S := S1024x512) (e' := .bf16) v (Rect.unit (s := S1024x512) ![896, 0] ![128, 512] inb_S1024x512_S128x512_896_0))) (View.ld (Val := Elt Ideal) (S := S4x64x128) (e' := .f32) cdec (Rect.unit (s := S4x64x128) ![3, 0, 0] ![1, 64, 128] inb_S4x64x128_S1x64x128_3_0_0)) = st kdt v cdec S 8 3 :=
  step3_st kdt v cdec S 7 896 (by omega) rfl _ _ _

end Cert.KernelIdeal.Ret

end
-- ==== Proof.Layer.RetBlock.lean ====
/- The retention kernel's grid points: the state a point leaves and the output block's rows, at a point that clears the
   state and at a point that takes the state the point before left. -/
module

public import proofs.«01_k».proof.Proof.Layer.RetState

@[expose] public section

set_option maxRecDepth 16384

noncomputable section

namespace Cert.KernelIdeal.Ret

open Cert.KernelIdeal Cert.KernelIdeal.Gen Cert.Layer Idealize.ShloMosaic Idealize.ShloMosaic.TcCoe Idealize.SL.Sem

/-- The output of a block at chunk `n`, head `h`, row `r` of the chunk and column `e` of the head. -/
def blockOut (q k : FVec Ideal S1024x512 .bf16) (kdt : FVec Ideal S256x1024 .bf16) (v : FVec Ideal S1024x512 .bf16)
    (g : FVec Ideal S1024x512 .f32) (din : FVec Ideal S4x128x128 .f32) (qdec : FVec Ideal S128x512 .f32)
    (cdec : FVec Ideal S4x64x128 .f32) (gain offset : FVec Ideal S1x512 .f32) (S : FVec Ideal S4x64x128 .f32)
    (n : Fin 8) (h : Fin 4) (r e : Fin 128) : EReal :=
  gnRow (padRow (fun d => q (ix2 ⟨n.val * 128 + r.val, by omega⟩ ⟨h.val * 128 + d.val, by omega⟩))
      (fun c d => k (ix2 ⟨n.val * 128 + c.val, by omega⟩ ⟨h.val * 128 + d.val, by omega⟩))
      (fun c => din (ix3 h r c))
      (fun c e => v (ix2 ⟨n.val * 128 + c.val, by omega⟩ ⟨h.val * 128 + e.val, by omega⟩))
      (chunkState kdt v cdec S n.val h)
      (fun e => qdec (ix2 r ⟨h.val * 128 + e.val, by omega⟩)))
    (g (ix2 ⟨n.val * 128 + r.val, by omega⟩ ⟨h.val * 128 + e.val, by omega⟩)) (gain (ix2 0 ⟨h.val * 128 + e.val, by omega⟩))
    (offset (ix2 0 ⟨h.val * 128 + e.val, by omega⟩)) e

/-- Equal rows have equal tile rows. -/
theorem padRow_congr {q q' : Fin 128 → EReal} {k k' : Fin 128 → Fin 128 → EReal} {din din' : Fin 128 → EReal}
    {v v' : Fin 128 → Fin 128 → EReal} {st st' : Fin 64 → Fin 128 → EReal} {qdec qdec' : Fin 128 → EReal} (hq : q = q')
    (hk : k = k') (hdin : din = din') (hv : v = v') (hst : st = st') (hqdec : qdec = qdec') :
    padRow q k din v st qdec = padRow q' k' din' v' st' qdec' := by rw [hq, hk, hdin, hv, hst, hqdec]

variable (q k : FVec Ideal S1024x512 .bf16) (kdt : FVec Ideal S256x1024 .bf16) (v : FVec Ideal S1024x512 .bf16)
    (g : FVec Ideal S1024x512 .f32) (din : FVec Ideal S4x128x128 .f32) (qdec : FVec Ideal S128x512 .f32)
    (cdec : FVec Ideal S4x64x128 .f32) (gain offset : FVec Ideal S1x512 .f32) (S : FVec Ideal S4x64x128 .f32)

/-- Head 0's tile of a chunk, of the block's loads. -/
theorem tile0_st (n : Fin 8) (p : ℕ) (hp : p = n.val * 128) (ig iq ik iv id) (r e : Fin 128) :
    tile0 (View.ld (Val := Elt Ideal) (S := S1024x512) (e' := .f32) g (Rect.unit (s := S1024x512) ![p, 0] ![128, 512] ig)) (View.ld (Val := Elt Ideal) (S := S1024x512) (e' := .bf16) q (Rect.unit (s := S1024x512) ![p, 0] ![128, 128] iq))
      (View.ld (Val := Elt Ideal) (S := S1024x512) (e' := .bf16) k (Rect.unit (s := S1024x512) ![p, 0] ![128, 128] ik)) (View.ld (Val := Elt Ideal) (S := S1024x512) (e' := .bf16) v (Rect.unit (s := S1024x512) ![p, 0] ![128, 128] iv))
      (View.ld (Val := Elt Ideal) (S := S4x128x128) (e' := .f32) din (Rect.unit (s := S4x128x128) ![0, 0, 0] ![1, 128, 128] id)) qdec gain offset (st kdt v cdec S n.val 0) (ix2 r e)
      = blockOut q k kdt v g din qdec cdec gain offset S n 0 r e := by
  refine (tile0_at _ _ _ _ _ _ _ _ _ r e).trans (gnRow_congr (padRow_congr ?_ ?_ ?_ ?_ rfl rfl) ?_ rfl rfl e)
  · funext d; pointwise; blk_ext
  · funext c d; pointwise; blk_ext
  · funext c; pointwise; blk_ext
  · funext c e; pointwise; blk_ext
  · pointwise; blk_ext

/-- Head 1's tile of a chunk, of the block's loads. -/
theorem tile1_st (n : Fin 8) (p : ℕ) (hp : p = n.val * 128) (ig iq ik iv id) (r e : Fin 128) :
    tile1 (View.ld (Val := Elt Ideal) (S := S1024x512) (e' := .f32) g (Rect.unit (s := S1024x512) ![p, 0] ![128, 512] ig)) (View.ld (Val := Elt Ideal) (S := S1024x512) (e' := .bf16) q (Rect.unit (s := S1024x512) ![p, 128] ![128, 128] iq))
      (View.ld (Val := Elt Ideal) (S := S1024x512) (e' := .bf16) k (Rect.unit (s := S1024x512) ![p, 128] ![128, 128] ik)) (View.ld (Val := Elt Ideal) (S := S1024x512) (e' := .bf16) v (Rect.unit (s := S1024x512) ![p, 128] ![128, 128] iv))
      (View.ld (Val := Elt Ideal) (S := S4x128x128) (e' := .f32) din (Rect.unit (s := S4x128x128) ![1, 0, 0] ![1, 128, 128] id)) qdec gain offset (st kdt v cdec S n.val 1) (ix2 r e)
      = blockOut q k kdt v g din qdec cdec gain offset S n 1 r e := by
  refine (tile1_at _ _ _ _ _ _ _ _ _ r e).trans (gnRow_congr (padRow_congr ?_ ?_ ?_ ?_ rfl rfl) ?_ rfl rfl e)
  · funext d; pointwise; blk_ext
  · funext c d; pointwise; blk_ext
  · funext c; pointwise; blk_ext
  · funext c e; pointwise; blk_ext
  · pointwise; blk_ext

/-- Head 2's tile of a chunk, of the block's loads. -/
theorem tile2_st (n : Fin 8) (p : ℕ) (hp : p = n.val * 128) (ig iq ik iv id) (r e : Fin 128) :
    tile2 (View.ld (Val := Elt Ideal) (S := S1024x512) (e' := .f32) g (Rect.unit (s := S1024x512) ![p, 0] ![128, 512] ig)) (View.ld (Val := Elt Ideal) (S := S1024x512) (e' := .bf16) q (Rect.unit (s := S1024x512) ![p, 256] ![128, 128] iq))
      (View.ld (Val := Elt Ideal) (S := S1024x512) (e' := .bf16) k (Rect.unit (s := S1024x512) ![p, 256] ![128, 128] ik)) (View.ld (Val := Elt Ideal) (S := S1024x512) (e' := .bf16) v (Rect.unit (s := S1024x512) ![p, 256] ![128, 128] iv))
      (View.ld (Val := Elt Ideal) (S := S4x128x128) (e' := .f32) din (Rect.unit (s := S4x128x128) ![2, 0, 0] ![1, 128, 128] id)) qdec gain offset (st kdt v cdec S n.val 2) (ix2 r e)
      = blockOut q k kdt v g din qdec cdec gain offset S n 2 r e := by
  refine (tile2_at _ _ _ _ _ _ _ _ _ r e).trans (gnRow_congr (padRow_congr ?_ ?_ ?_ ?_ rfl rfl) ?_ rfl rfl e)
  · funext d; pointwise; blk_ext
  · funext c d; pointwise; blk_ext
  · funext c; pointwise; blk_ext
  · funext c e; pointwise; blk_ext
  · pointwise; blk_ext

/-- Head 3's tile of a chunk, of the block's loads. -/
theorem tile3_st (n : Fin 8) (p : ℕ) (hp : p = n.val * 128) (ig iq ik iv id) (r e : Fin 128) :
    tile3 (View.ld (Val := Elt Ideal) (S := S1024x512) (e' := .f32) g (Rect.unit (s := S1024x512) ![p, 0] ![128, 512] ig)) (View.ld (Val := Elt Ideal) (S := S1024x512) (e' := .bf16) q (Rect.unit (s := S1024x512) ![p, 384] ![128, 128] iq))
      (View.ld (Val := Elt Ideal) (S := S1024x512) (e' := .bf16) k (Rect.unit (s := S1024x512) ![p, 384] ![128, 128] ik)) (View.ld (Val := Elt Ideal) (S := S1024x512) (e' := .bf16) v (Rect.unit (s := S1024x512) ![p, 384] ![128, 128] iv))
      (View.ld (Val := Elt Ideal) (S := S4x128x128) (e' := .f32) din (Rect.unit (s := S4x128x128) ![3, 0, 0] ![1, 128, 128] id)) qdec gain offset (st kdt v cdec S n.val 3) (ix2 r e)
      = blockOut q k kdt v g din qdec cdec gain offset S n 3 r e := by
  refine (tile3_at _ _ _ _ _ _ _ _ _ r e).trans (gnRow_congr (padRow_congr ?_ ?_ ?_ ?_ rfl rfl) ?_ rfl rfl e)
  · funext d; pointwise; blk_ext
  · funext c d; pointwise; blk_ext
  · funext c; pointwise; blk_ext
  · funext c e; pointwise; blk_ext
  · pointwise; blk_ext

/-- The chunk, head, row and column of an output index in one of the 32 tiles. -/
theorem place {n : Fin 8} {h : Fin 4} {r e : Fin 128} {y : S1024x512.Idx} (hy0 : (y 0).val = n.val * 128 + r.val)
    (hy1 : (y 1).val = h.val * 128 + e.val) (z : S128x128.Idx) (a : Fin 8) (b : Fin 4) (h0 : (y 0).val = a.val * 128 + (z 0).val)
    (h1 : (y 1).val = b.val * 128 + (z 1).val) : n = a ∧ h = b ∧ z = ix2 r e := by
  have hz0 : (z 0).val < 128 := (z 0).isLt
  have hz1 : (z 1).val < 128 := (z 1).isLt
  refine ⟨Fin.ext (by omega), Fin.ext (by omega), ?_⟩
  funext i
  fin_cases i
  · exact Fin.ext (show (z 0).val = r.val by omega)
  · exact Fin.ext (show (z 1).val = e.val by omega)

variable (m : (ℓ : Loc nD τ sig) → Buf (Elt Ideal) ℓ)

/-- The state after a point that takes the state over. -/
theorem state_B (c : Dev nD) (t : Fin cfg0.N) (h0 : ¬t.val % 2 = 0) (hkdt : kdt = iblk m c 2 t) (hv : v = iblk m c 3 t)
    (hcdec : cdec = iblk m c 7 t)
    (hS : S = (outsAt0 m c (t.val - 1) (Nat.lt_of_le_of_lt (Nat.sub_le _ _) t.isLt)).2) (h : Fin 4) (d : Fin 64) (e : Fin 128) :
    (outsAt0 m c t.val t.isLt).2 (ix3 h d e) = chunkState kdt v cdec S 8 h d e := by
  generalize hy : (ix3 h d e : S4x64x128.Idx) = y
  have hy0 : (y 0).val = h.val := by rw [← hy]; rfl
  have hy1 : (y 1).val = d.val := by rw [← hy]; rfl
  have hy2 : (y 2).val = e.val := by rw [← hy]; rfl
  clear hy
  rw [outsAt0_B m c t h0]
  frame_out
  simp only [read_unread_whole]
  rw [← hkdt, ← hv, ← hcdec, ← hS]
  clear hkdt hv hcdec hS h0
  simp only [st0_0 kdt v cdec S, st0_1 kdt v cdec S, st0_2 kdt v cdec S, st0_3 kdt v cdec S, st1_0 kdt v cdec S, st1_1 kdt v cdec S, st1_2 kdt v cdec S, st1_3 kdt v cdec S, st2_0 kdt v cdec S, st2_1 kdt v cdec S, st2_2 kdt v cdec S, st2_3 kdt v cdec S, st3_0 kdt v cdec S, st3_1 kdt v cdec S, st3_2 kdt v cdec S, st3_3 kdt v cdec S, st4_0 kdt v cdec S, st4_1 kdt v cdec S, st4_2 kdt v cdec S, st4_3 kdt v cdec S, st5_0 kdt v cdec S, st5_1 kdt v cdec S, st5_2 kdt v cdec S, st5_3 kdt v cdec S, st6_0 kdt v cdec S, st6_1 kdt v cdec S, st6_2 kdt v cdec S, st6_3 kdt v cdec S, st7_0 kdt v cdec S, st7_1 kdt v cdec S, st7_2 kdt v cdec S, st7_3 kdt v cdec S, st8_0 kdt v cdec S, st8_1 kdt v cdec S, st8_2 kdt v cdec S, st8_3 kdt v cdec S]
  canon_tiles z hz using View.cover_of_tiledBy (s := S4x64x128) _ ![1, 64, 128] (by sl_kernel_rfl) y
  · obtain rfl : h = 3 := Fin.ext (show h.val = 3 by omega)
    have hz : z = ix3 0 d e := by
      funext i
      fin_cases i
      · exact Fin.ext (show (z 0).val = 0 by omega)
      · exact Fin.ext (show (z 1).val = d.val by omega)
      · exact Fin.ext (show (z 2).val = e.val by omega)
    rw [hz]
    pointwise [k0_pay2]
    rfl
  · obtain rfl : h = 2 := Fin.ext (show h.val = 2 by omega)
    have hz : z = ix3 0 d e := by
      funext i
      fin_cases i
      · exact Fin.ext (show (z 0).val = 0 by omega)
      · exact Fin.ext (show (z 1).val = d.val by omega)
      · exact Fin.ext (show (z 2).val = e.val by omega)
    rw [hz]
    pointwise [k0_pay1]
    rfl
  · obtain rfl : h = 1 := Fin.ext (show h.val = 1 by omega)
    have hz : z = ix3 0 d e := by
      funext i
      fin_cases i
      · exact Fin.ext (show (z 0).val = 0 by omega)
      · exact Fin.ext (show (z 1).val = d.val by omega)
      · exact Fin.ext (show (z 2).val = e.val by omega)
    rw [hz]
    pointwise [k0_pay181]
    rfl
  · obtain rfl : h = 0 := Fin.ext (show h.val = 0 by omega)
    have hz : z = ix3 0 d e := by
      funext i
      fin_cases i
      · exact Fin.ext (show (z 0).val = 0 by omega)
      · exact Fin.ext (show (z 1).val = d.val by omega)
      · exact Fin.ext (show (z 2).val = e.val by omega)
    rw [hz]
    pointwise [k0_pay180]
    rfl

set_option maxHeartbeats 1600000 in
/-- The output block of a point that takes the state over. -/
theorem block_B (c : Dev nD) (t : Fin cfg0.N) (h0 : ¬t.val % 2 = 0) (hq : q = iblk m c 0 t) (hk : k = iblk m c 1 t)
    (hkdt : kdt = iblk m c 2 t) (hv : v = iblk m c 3 t) (hg : g = iblk m c 4 t) (hdin : din = iblk m c 5 t)
    (hqdec : qdec = iblk m c 6 t) (hcdec : cdec = iblk m c 7 t) (hgain : gain = iblk m c 8 t) (hoffset : offset = iblk m c 9 t)
    (hS : S = (outsAt0 m c (t.val - 1) (Nat.lt_of_le_of_lt (Nat.sub_le _ _) t.isLt)).2) (n : Fin 8) (h : Fin 4) (r e : Fin 128) (y : S1024x512.Idx)
    (hy0 : (y 0).val = n.val * 128 + r.val) (hy1 : (y 1).val = h.val * 128 + e.val) :
    (outsAt0 m c t.val t.isLt).1 y = blockOut q k kdt v g din qdec cdec gain offset S n h r e := by
  rw [outsAt0_B m c t h0]
  frame_out
  simp only [read_unread_whole]
  rw [← hq, ← hk, ← hkdt, ← hv, ← hg, ← hdin, ← hqdec, ← hcdec, ← hgain, ← hoffset, ← hS]
  clear hq hk hkdt hv hg hdin hqdec hcdec hgain hoffset hS h0
  simp only [st0_0 kdt v cdec S, st0_1 kdt v cdec S, st0_2 kdt v cdec S, st0_3 kdt v cdec S, st1_0 kdt v cdec S, st1_1 kdt v cdec S, st1_2 kdt v cdec S, st1_3 kdt v cdec S, st2_0 kdt v cdec S, st2_1 kdt v cdec S, st2_2 kdt v cdec S, st2_3 kdt v cdec S, st3_0 kdt v cdec S, st3_1 kdt v cdec S, st3_2 kdt v cdec S, st3_3 kdt v cdec S, st4_0 kdt v cdec S, st4_1 kdt v cdec S, st4_2 kdt v cdec S, st4_3 kdt v cdec S, st5_0 kdt v cdec S, st5_1 kdt v cdec S, st5_2 kdt v cdec S, st5_3 kdt v cdec S, st6_0 kdt v cdec S, st6_1 kdt v cdec S, st6_2 kdt v cdec S, st6_3 kdt v cdec S, st7_0 kdt v cdec S, st7_1 kdt v cdec S, st7_2 kdt v cdec S, st7_3 kdt v cdec S]
  canon_tiles z hz using View.cover_of_tiledBy (s := S1024x512) _ ![128, 128] (by sl_kernel_rfl) y
  · obtain ⟨rfl, rfl, rfl⟩ := place hy0 hy1 z 7 3 (show (y 0).val = 7 * 128 + _ by omega) (show (y 1).val = 3 * 128 + _ by omega)
    exact tile3_st q k kdt v g din qdec cdec gain offset S 7 896 rfl _ _ _ _ _ r e
  · obtain ⟨rfl, rfl, rfl⟩ := place hy0 hy1 z 7 2 (show (y 0).val = 7 * 128 + _ by omega) (show (y 1).val = 2 * 128 + _ by omega)
    exact tile2_st q k kdt v g din qdec cdec gain offset S 7 896 rfl _ _ _ _ _ r e
  · obtain ⟨rfl, rfl, rfl⟩ := place hy0 hy1 z 7 1 (show (y 0).val = 7 * 128 + _ by omega) (show (y 1).val = 1 * 128 + _ by omega)
    exact tile1_st q k kdt v g din qdec cdec gain offset S 7 896 rfl _ _ _ _ _ r e
  · obtain ⟨rfl, rfl, rfl⟩ := place hy0 hy1 z 7 0 (show (y 0).val = 7 * 128 + _ by omega) (show (y 1).val = 0 * 128 + _ by omega)
    exact tile0_st q k kdt v g din qdec cdec gain offset S 7 896 rfl _ _ _ _ _ r e
  · obtain ⟨rfl, rfl, rfl⟩ := place hy0 hy1 z 6 3 (show (y 0).val = 6 * 128 + _ by omega) (show (y 1).val = 3 * 128 + _ by omega)
    exact tile3_st q k kdt v g din qdec cdec gain offset S 6 768 rfl _ _ _ _ _ r e
  · obtain ⟨rfl, rfl, rfl⟩ := place hy0 hy1 z 6 2 (show (y 0).val = 6 * 128 + _ by omega) (show (y 1).val = 2 * 128 + _ by omega)
    exact tile2_st q k kdt v g din qdec cdec gain offset S 6 768 rfl _ _ _ _ _ r e
  · obtain ⟨rfl, rfl, rfl⟩ := place hy0 hy1 z 6 1 (show (y 0).val = 6 * 128 + _ by omega) (show (y 1).val = 1 * 128 + _ by omega)
    exact tile1_st q k kdt v g din qdec cdec gain offset S 6 768 rfl _ _ _ _ _ r e
  · obtain ⟨rfl, rfl, rfl⟩ := place hy0 hy1 z 6 0 (show (y 0).val = 6 * 128 + _ by omega) (show (y 1).val = 0 * 128 + _ by omega)
    exact tile0_st q k kdt v g din qdec cdec gain offset S 6 768 rfl _ _ _ _ _ r e
  · obtain ⟨rfl, rfl, rfl⟩ := place hy0 hy1 z 5 3 (show (y 0).val = 5 * 128 + _ by omega) (show (y 1).val = 3 * 128 + _ by omega)
    exact tile3_st q k kdt v g din qdec cdec gain offset S 5 640 rfl _ _ _ _ _ r e
  · obtain ⟨rfl, rfl, rfl⟩ := place hy0 hy1 z 5 2 (show (y 0).val = 5 * 128 + _ by omega) (show (y 1).val = 2 * 128 + _ by omega)
    exact tile2_st q k kdt v g din qdec cdec gain offset S 5 640 rfl _ _ _ _ _ r e
  · obtain ⟨rfl, rfl, rfl⟩ := place hy0 hy1 z 5 1 (show (y 0).val = 5 * 128 + _ by omega) (show (y 1).val = 1 * 128 + _ by omega)
    exact tile1_st q k kdt v g din qdec cdec gain offset S 5 640 rfl _ _ _ _ _ r e
  · obtain ⟨rfl, rfl, rfl⟩ := place hy0 hy1 z 5 0 (show (y 0).val = 5 * 128 + _ by omega) (show (y 1).val = 0 * 128 + _ by omega)
    exact tile0_st q k kdt v g din qdec cdec gain offset S 5 640 rfl _ _ _ _ _ r e
  · obtain ⟨rfl, rfl, rfl⟩ := place hy0 hy1 z 4 3 (show (y 0).val = 4 * 128 + _ by omega) (show (y 1).val = 3 * 128 + _ by omega)
    exact tile3_st q k kdt v g din qdec cdec gain offset S 4 512 rfl _ _ _ _ _ r e
  · obtain ⟨rfl, rfl, rfl⟩ := place hy0 hy1 z 4 2 (show (y 0).val = 4 * 128 + _ by omega) (show (y 1).val = 2 * 128 + _ by omega)
    exact tile2_st q k kdt v g din qdec cdec gain offset S 4 512 rfl _ _ _ _ _ r e
  · obtain ⟨rfl, rfl, rfl⟩ := place hy0 hy1 z 4 1 (show (y 0).val = 4 * 128 + _ by omega) (show (y 1).val = 1 * 128 + _ by omega)
    exact tile1_st q k kdt v g din qdec cdec gain offset S 4 512 rfl _ _ _ _ _ r e
  · obtain ⟨rfl, rfl, rfl⟩ := place hy0 hy1 z 4 0 (show (y 0).val = 4 * 128 + _ by omega) (show (y 1).val = 0 * 128 + _ by omega)
    exact tile0_st q k kdt v g din qdec cdec gain offset S 4 512 rfl _ _ _ _ _ r e
  · obtain ⟨rfl, rfl, rfl⟩ := place hy0 hy1 z 3 3 (show (y 0).val = 3 * 128 + _ by omega) (show (y 1).val = 3 * 128 + _ by omega)
    exact tile3_st q k kdt v g din qdec cdec gain offset S 3 384 rfl _ _ _ _ _ r e
  · obtain ⟨rfl, rfl, rfl⟩ := place hy0 hy1 z 3 2 (show (y 0).val = 3 * 128 + _ by omega) (show (y 1).val = 2 * 128 + _ by omega)
    exact tile2_st q k kdt v g din qdec cdec gain offset S 3 384 rfl _ _ _ _ _ r e
  · obtain ⟨rfl, rfl, rfl⟩ := place hy0 hy1 z 3 1 (show (y 0).val = 3 * 128 + _ by omega) (show (y 1).val = 1 * 128 + _ by omega)
    exact tile1_st q k kdt v g din qdec cdec gain offset S 3 384 rfl _ _ _ _ _ r e
  · obtain ⟨rfl, rfl, rfl⟩ := place hy0 hy1 z 3 0 (show (y 0).val = 3 * 128 + _ by omega) (show (y 1).val = 0 * 128 + _ by omega)
    exact tile0_st q k kdt v g din qdec cdec gain offset S 3 384 rfl _ _ _ _ _ r e
  · obtain ⟨rfl, rfl, rfl⟩ := place hy0 hy1 z 2 3 (show (y 0).val = 2 * 128 + _ by omega) (show (y 1).val = 3 * 128 + _ by omega)
    exact tile3_st q k kdt v g din qdec cdec gain offset S 2 256 rfl _ _ _ _ _ r e
  · obtain ⟨rfl, rfl, rfl⟩ := place hy0 hy1 z 2 2 (show (y 0).val = 2 * 128 + _ by omega) (show (y 1).val = 2 * 128 + _ by omega)
    exact tile2_st q k kdt v g din qdec cdec gain offset S 2 256 rfl _ _ _ _ _ r e
  · obtain ⟨rfl, rfl, rfl⟩ := place hy0 hy1 z 2 1 (show (y 0).val = 2 * 128 + _ by omega) (show (y 1).val = 1 * 128 + _ by omega)
    exact tile1_st q k kdt v g din qdec cdec gain offset S 2 256 rfl _ _ _ _ _ r e
  · obtain ⟨rfl, rfl, rfl⟩ := place hy0 hy1 z 2 0 (show (y 0).val = 2 * 128 + _ by omega) (show (y 1).val = 0 * 128 + _ by omega)
    exact tile0_st q k kdt v g din qdec cdec gain offset S 2 256 rfl _ _ _ _ _ r e
  · obtain ⟨rfl, rfl, rfl⟩ := place hy0 hy1 z 1 3 (show (y 0).val = 1 * 128 + _ by omega) (show (y 1).val = 3 * 128 + _ by omega)
    exact tile3_st q k kdt v g din qdec cdec gain offset S 1 128 rfl _ _ _ _ _ r e
  · obtain ⟨rfl, rfl, rfl⟩ := place hy0 hy1 z 1 2 (show (y 0).val = 1 * 128 + _ by omega) (show (y 1).val = 2 * 128 + _ by omega)
    exact tile2_st q k kdt v g din qdec cdec gain offset S 1 128 rfl _ _ _ _ _ r e
  · obtain ⟨rfl, rfl, rfl⟩ := place hy0 hy1 z 1 1 (show (y 0).val = 1 * 128 + _ by omega) (show (y 1).val = 1 * 128 + _ by omega)
    exact tile1_st q k kdt v g din qdec cdec gain offset S 1 128 rfl _ _ _ _ _ r e
  · obtain ⟨rfl, rfl, rfl⟩ := place hy0 hy1 z 1 0 (show (y 0).val = 1 * 128 + _ by omega) (show (y 1).val = 0 * 128 + _ by omega)
    exact tile0_st q k kdt v g din qdec cdec gain offset S 1 128 rfl _ _ _ _ _ r e
  · obtain ⟨rfl, rfl, rfl⟩ := place hy0 hy1 z 0 3 (show (y 0).val = 0 * 128 + _ by omega) (show (y 1).val = 3 * 128 + _ by omega)
    exact tile3_st q k kdt v g din qdec cdec gain offset S 0 0 rfl _ _ _ _ _ r e
  · obtain ⟨rfl, rfl, rfl⟩ := place hy0 hy1 z 0 2 (show (y 0).val = 0 * 128 + _ by omega) (show (y 1).val = 2 * 128 + _ by omega)
    exact tile2_st q k kdt v g din qdec cdec gain offset S 0 0 rfl _ _ _ _ _ r e
  · obtain ⟨rfl, rfl, rfl⟩ := place hy0 hy1 z 0 1 (show (y 0).val = 0 * 128 + _ by omega) (show (y 1).val = 1 * 128 + _ by omega)
    exact tile1_st q k kdt v g din qdec cdec gain offset S 0 0 rfl _ _ _ _ _ r e
  · obtain ⟨rfl, rfl, rfl⟩ := place hy0 hy1 z 0 0 (show (y 0).val = 0 * 128 + _ by omega) (show (y 1).val = 0 * 128 + _ by omega)
    exact tile0_st q k kdt v g din qdec cdec gain offset S 0 0 rfl _ _ _ _ _ r e

/-- The state after a point that clears the state. -/
theorem state_A (c : Dev nD) (t : Fin cfg0.N) (h0 : t.val % 2 = 0) (hkdt : kdt = iblk m c 2 t) (hv : v = iblk m c 3 t)
    (hcdec : cdec = iblk m c 7 t) (h : Fin 4) (d : Fin 64) (e : Fin 128) :
    (outsAt0 m c t.val t.isLt).2 (ix3 h d e) = chunkState kdt v cdec (k0_pay3 (F := Ideal)) 8 h d e := by
  generalize hy : (ix3 h d e : S4x64x128.Idx) = y
  have hy0 : (y 0).val = h.val := by rw [← hy]; rfl
  have hy1 : (y 1).val = d.val := by rw [← hy]; rfl
  have hy2 : (y 2).val = e.val := by rw [← hy]; rfl
  clear hy
  rw [outsAt0_A m c t h0]
  frame_out
  simp (disch := decide) only [View.readCov_fill]
  rw [← hkdt, ← hv, ← hcdec]
  clear hkdt hv hcdec h0
  simp only [st0_0 kdt v cdec (k0_pay3 (F := Ideal)), st0_1 kdt v cdec (k0_pay3 (F := Ideal)), st0_2 kdt v cdec (k0_pay3 (F := Ideal)), st0_3 kdt v cdec (k0_pay3 (F := Ideal)), st1_0 kdt v cdec (k0_pay3 (F := Ideal)), st1_1 kdt v cdec (k0_pay3 (F := Ideal)), st1_2 kdt v cdec (k0_pay3 (F := Ideal)), st1_3 kdt v cdec (k0_pay3 (F := Ideal)), st2_0 kdt v cdec (k0_pay3 (F := Ideal)), st2_1 kdt v cdec (k0_pay3 (F := Ideal)), st2_2 kdt v cdec (k0_pay3 (F := Ideal)), st2_3 kdt v cdec (k0_pay3 (F := Ideal)), st3_0 kdt v cdec (k0_pay3 (F := Ideal)), st3_1 kdt v cdec (k0_pay3 (F := Ideal)), st3_2 kdt v cdec (k0_pay3 (F := Ideal)), st3_3 kdt v cdec (k0_pay3 (F := Ideal)), st4_0 kdt v cdec (k0_pay3 (F := Ideal)), st4_1 kdt v cdec (k0_pay3 (F := Ideal)), st4_2 kdt v cdec (k0_pay3 (F := Ideal)), st4_3 kdt v cdec (k0_pay3 (F := Ideal)), st5_0 kdt v cdec (k0_pay3 (F := Ideal)), st5_1 kdt v cdec (k0_pay3 (F := Ideal)), st5_2 kdt v cdec (k0_pay3 (F := Ideal)), st5_3 kdt v cdec (k0_pay3 (F := Ideal)), st6_0 kdt v cdec (k0_pay3 (F := Ideal)), st6_1 kdt v cdec (k0_pay3 (F := Ideal)), st6_2 kdt v cdec (k0_pay3 (F := Ideal)), st6_3 kdt v cdec (k0_pay3 (F := Ideal)), st7_0 kdt v cdec (k0_pay3 (F := Ideal)), st7_1 kdt v cdec (k0_pay3 (F := Ideal)), st7_2 kdt v cdec (k0_pay3 (F := Ideal)), st7_3 kdt v cdec (k0_pay3 (F := Ideal)), st8_0 kdt v cdec (k0_pay3 (F := Ideal)), st8_1 kdt v cdec (k0_pay3 (F := Ideal)), st8_2 kdt v cdec (k0_pay3 (F := Ideal)), st8_3 kdt v cdec (k0_pay3 (F := Ideal))]
  refine (View.canon_append_of_piecesOf (s := S4x64x128) (fun y => chunkState kdt v cdec (k0_pay3 (F := Ideal)) 8 (y 0) (y 1) (y 2)) [_]
    [_, _, _, _] ⟨fun z => ?_, fun z => ?_, fun z => ?_, fun z => ?_, trivial⟩ y
    (View.cover_of_tiledBy (s := S4x64x128) _ ![1, 64, 128] (by sl_kernel_rfl) y)).trans ?_
  · obtain ⟨d, e, rfl⟩ : ∃ (d : Fin 64) (e : Fin 128), z = ix3 0 d e :=
      ⟨z 1, z 2, by funext a; fin_cases a; exacts [Subsingleton.elim (α := Fin 1) _ _, rfl, rfl]⟩
    pointwise [k0_pay2]
    exact congr (congrArg₂ (chunkState kdt v cdec (k0_pay3 (F := Ideal)) 8) (Fin.ext (show 3 = 3 + 1 * 0 from rfl))
      (Fin.ext (show d.val = 0 + 1 * d.val by omega))) (Fin.ext (show e.val = 0 + 1 * e.val by omega))
  · obtain ⟨d, e, rfl⟩ : ∃ (d : Fin 64) (e : Fin 128), z = ix3 0 d e :=
      ⟨z 1, z 2, by funext a; fin_cases a; exacts [Subsingleton.elim (α := Fin 1) _ _, rfl, rfl]⟩
    pointwise [k0_pay1]
    exact congr (congrArg₂ (chunkState kdt v cdec (k0_pay3 (F := Ideal)) 8) (Fin.ext (show 2 = 2 + 1 * 0 from rfl))
      (Fin.ext (show d.val = 0 + 1 * d.val by omega))) (Fin.ext (show e.val = 0 + 1 * e.val by omega))
  · obtain ⟨d, e, rfl⟩ : ∃ (d : Fin 64) (e : Fin 128), z = ix3 0 d e :=
      ⟨z 1, z 2, by funext a; fin_cases a; exacts [Subsingleton.elim (α := Fin 1) _ _, rfl, rfl]⟩
    pointwise [k0_pay181]
    exact congr (congrArg₂ (chunkState kdt v cdec (k0_pay3 (F := Ideal)) 8) (Fin.ext (show 1 = 1 + 1 * 0 from rfl))
      (Fin.ext (show d.val = 0 + 1 * d.val by omega))) (Fin.ext (show e.val = 0 + 1 * e.val by omega))
  · obtain ⟨d, e, rfl⟩ : ∃ (d : Fin 64) (e : Fin 128), z = ix3 0 d e :=
      ⟨z 1, z 2, by funext a; fin_cases a; exacts [Subsingleton.elim (α := Fin 1) _ _, rfl, rfl]⟩
    pointwise [k0_pay180]
    exact congr (congrArg₂ (chunkState kdt v cdec (k0_pay3 (F := Ideal)) 8) (Fin.ext (show 0 = 0 + 1 * 0 from rfl))
      (Fin.ext (show d.val = 0 + 1 * d.val by omega))) (Fin.ext (show e.val = 0 + 1 * e.val by omega))
  · exact congr (congrArg₂ (chunkState kdt v cdec (k0_pay3 (F := Ideal)) 8) (Fin.ext hy0) (Fin.ext hy1)) (Fin.ext hy2)

set_option maxHeartbeats 1600000 in
/-- The output block of a point that clears the state. -/
theorem block_A (c : Dev nD) (t : Fin cfg0.N) (h0 : t.val % 2 = 0) (hq : q = iblk m c 0 t) (hk : k = iblk m c 1 t)
    (hkdt : kdt = iblk m c 2 t) (hv : v = iblk m c 3 t) (hg : g = iblk m c 4 t) (hdin : din = iblk m c 5 t)
    (hqdec : qdec = iblk m c 6 t) (hcdec : cdec = iblk m c 7 t) (hgain : gain = iblk m c 8 t) (hoffset : offset = iblk m c 9 t) (n : Fin 8) (h : Fin 4) (r e : Fin 128) (y : S1024x512.Idx)
    (hy0 : (y 0).val = n.val * 128 + r.val) (hy1 : (y 1).val = h.val * 128 + e.val) :
    (outsAt0 m c t.val t.isLt).1 y = blockOut q k kdt v g din qdec cdec gain offset (k0_pay3 (F := Ideal)) n h r e := by
  rw [outsAt0_A m c t h0]
  frame_out
  simp (disch := decide) only [View.readCov_fill]
  rw [← hq, ← hk, ← hkdt, ← hv, ← hg, ← hdin, ← hqdec, ← hcdec, ← hgain, ← hoffset]
  clear hq hk hkdt hv hg hdin hqdec hcdec hgain hoffset h0
  simp only [st0_0 kdt v cdec (k0_pay3 (F := Ideal)), st0_1 kdt v cdec (k0_pay3 (F := Ideal)), st0_2 kdt v cdec (k0_pay3 (F := Ideal)), st0_3 kdt v cdec (k0_pay3 (F := Ideal)), st1_0 kdt v cdec (k0_pay3 (F := Ideal)), st1_1 kdt v cdec (k0_pay3 (F := Ideal)), st1_2 kdt v cdec (k0_pay3 (F := Ideal)), st1_3 kdt v cdec (k0_pay3 (F := Ideal)), st2_0 kdt v cdec (k0_pay3 (F := Ideal)), st2_1 kdt v cdec (k0_pay3 (F := Ideal)), st2_2 kdt v cdec (k0_pay3 (F := Ideal)), st2_3 kdt v cdec (k0_pay3 (F := Ideal)), st3_0 kdt v cdec (k0_pay3 (F := Ideal)), st3_1 kdt v cdec (k0_pay3 (F := Ideal)), st3_2 kdt v cdec (k0_pay3 (F := Ideal)), st3_3 kdt v cdec (k0_pay3 (F := Ideal)), st4_0 kdt v cdec (k0_pay3 (F := Ideal)), st4_1 kdt v cdec (k0_pay3 (F := Ideal)), st4_2 kdt v cdec (k0_pay3 (F := Ideal)), st4_3 kdt v cdec (k0_pay3 (F := Ideal)), st5_0 kdt v cdec (k0_pay3 (F := Ideal)), st5_1 kdt v cdec (k0_pay3 (F := Ideal)), st5_2 kdt v cdec (k0_pay3 (F := Ideal)), st5_3 kdt v cdec (k0_pay3 (F := Ideal)), st6_0 kdt v cdec (k0_pay3 (F := Ideal)), st6_1 kdt v cdec (k0_pay3 (F := Ideal)), st6_2 kdt v cdec (k0_pay3 (F := Ideal)), st6_3 kdt v cdec (k0_pay3 (F := Ideal)), st7_0 kdt v cdec (k0_pay3 (F := Ideal)), st7_1 kdt v cdec (k0_pay3 (F := Ideal)), st7_2 kdt v cdec (k0_pay3 (F := Ideal)), st7_3 kdt v cdec (k0_pay3 (F := Ideal))]
  canon_tiles z hz using View.cover_of_tiledBy (s := S1024x512) _ ![128, 128] (by sl_kernel_rfl) y
  · obtain ⟨rfl, rfl, rfl⟩ := place hy0 hy1 z 7 3 (show (y 0).val = 7 * 128 + _ by omega) (show (y 1).val = 3 * 128 + _ by omega)
    exact tile3_st q k kdt v g din qdec cdec gain offset (k0_pay3 (F := Ideal)) 7 896 rfl _ _ _ _ _ r e
  · obtain ⟨rfl, rfl, rfl⟩ := place hy0 hy1 z 7 2 (show (y 0).val = 7 * 128 + _ by omega) (show (y 1).val = 2 * 128 + _ by omega)
    exact tile2_st q k kdt v g din qdec cdec gain offset (k0_pay3 (F := Ideal)) 7 896 rfl _ _ _ _ _ r e
  · obtain ⟨rfl, rfl, rfl⟩ := place hy0 hy1 z 7 1 (show (y 0).val = 7 * 128 + _ by omega) (show (y 1).val = 1 * 128 + _ by omega)
    exact tile1_st q k kdt v g din qdec cdec gain offset (k0_pay3 (F := Ideal)) 7 896 rfl _ _ _ _ _ r e
  · obtain ⟨rfl, rfl, rfl⟩ := place hy0 hy1 z 7 0 (show (y 0).val = 7 * 128 + _ by omega) (show (y 1).val = 0 * 128 + _ by omega)
    exact tile0_st q k kdt v g din qdec cdec gain offset (k0_pay3 (F := Ideal)) 7 896 rfl _ _ _ _ _ r e
  · obtain ⟨rfl, rfl, rfl⟩ := place hy0 hy1 z 6 3 (show (y 0).val = 6 * 128 + _ by omega) (show (y 1).val = 3 * 128 + _ by omega)
    exact tile3_st q k kdt v g din qdec cdec gain offset (k0_pay3 (F := Ideal)) 6 768 rfl _ _ _ _ _ r e
  · obtain ⟨rfl, rfl, rfl⟩ := place hy0 hy1 z 6 2 (show (y 0).val = 6 * 128 + _ by omega) (show (y 1).val = 2 * 128 + _ by omega)
    exact tile2_st q k kdt v g din qdec cdec gain offset (k0_pay3 (F := Ideal)) 6 768 rfl _ _ _ _ _ r e
  · obtain ⟨rfl, rfl, rfl⟩ := place hy0 hy1 z 6 1 (show (y 0).val = 6 * 128 + _ by omega) (show (y 1).val = 1 * 128 + _ by omega)
    exact tile1_st q k kdt v g din qdec cdec gain offset (k0_pay3 (F := Ideal)) 6 768 rfl _ _ _ _ _ r e
  · obtain ⟨rfl, rfl, rfl⟩ := place hy0 hy1 z 6 0 (show (y 0).val = 6 * 128 + _ by omega) (show (y 1).val = 0 * 128 + _ by omega)
    exact tile0_st q k kdt v g din qdec cdec gain offset (k0_pay3 (F := Ideal)) 6 768 rfl _ _ _ _ _ r e
  · obtain ⟨rfl, rfl, rfl⟩ := place hy0 hy1 z 5 3 (show (y 0).val = 5 * 128 + _ by omega) (show (y 1).val = 3 * 128 + _ by omega)
    exact tile3_st q k kdt v g din qdec cdec gain offset (k0_pay3 (F := Ideal)) 5 640 rfl _ _ _ _ _ r e
  · obtain ⟨rfl, rfl, rfl⟩ := place hy0 hy1 z 5 2 (show (y 0).val = 5 * 128 + _ by omega) (show (y 1).val = 2 * 128 + _ by omega)
    exact tile2_st q k kdt v g din qdec cdec gain offset (k0_pay3 (F := Ideal)) 5 640 rfl _ _ _ _ _ r e
  · obtain ⟨rfl, rfl, rfl⟩ := place hy0 hy1 z 5 1 (show (y 0).val = 5 * 128 + _ by omega) (show (y 1).val = 1 * 128 + _ by omega)
    exact tile1_st q k kdt v g din qdec cdec gain offset (k0_pay3 (F := Ideal)) 5 640 rfl _ _ _ _ _ r e
  · obtain ⟨rfl, rfl, rfl⟩ := place hy0 hy1 z 5 0 (show (y 0).val = 5 * 128 + _ by omega) (show (y 1).val = 0 * 128 + _ by omega)
    exact tile0_st q k kdt v g din qdec cdec gain offset (k0_pay3 (F := Ideal)) 5 640 rfl _ _ _ _ _ r e
  · obtain ⟨rfl, rfl, rfl⟩ := place hy0 hy1 z 4 3 (show (y 0).val = 4 * 128 + _ by omega) (show (y 1).val = 3 * 128 + _ by omega)
    exact tile3_st q k kdt v g din qdec cdec gain offset (k0_pay3 (F := Ideal)) 4 512 rfl _ _ _ _ _ r e
  · obtain ⟨rfl, rfl, rfl⟩ := place hy0 hy1 z 4 2 (show (y 0).val = 4 * 128 + _ by omega) (show (y 1).val = 2 * 128 + _ by omega)
    exact tile2_st q k kdt v g din qdec cdec gain offset (k0_pay3 (F := Ideal)) 4 512 rfl _ _ _ _ _ r e
  · obtain ⟨rfl, rfl, rfl⟩ := place hy0 hy1 z 4 1 (show (y 0).val = 4 * 128 + _ by omega) (show (y 1).val = 1 * 128 + _ by omega)
    exact tile1_st q k kdt v g din qdec cdec gain offset (k0_pay3 (F := Ideal)) 4 512 rfl _ _ _ _ _ r e
  · obtain ⟨rfl, rfl, rfl⟩ := place hy0 hy1 z 4 0 (show (y 0).val = 4 * 128 + _ by omega) (show (y 1).val = 0 * 128 + _ by omega)
    exact tile0_st q k kdt v g din qdec cdec gain offset (k0_pay3 (F := Ideal)) 4 512 rfl _ _ _ _ _ r e
  · obtain ⟨rfl, rfl, rfl⟩ := place hy0 hy1 z 3 3 (show (y 0).val = 3 * 128 + _ by omega) (show (y 1).val = 3 * 128 + _ by omega)
    exact tile3_st q k kdt v g din qdec cdec gain offset (k0_pay3 (F := Ideal)) 3 384 rfl _ _ _ _ _ r e
  · obtain ⟨rfl, rfl, rfl⟩ := place hy0 hy1 z 3 2 (show (y 0).val = 3 * 128 + _ by omega) (show (y 1).val = 2 * 128 + _ by omega)
    exact tile2_st q k kdt v g din qdec cdec gain offset (k0_pay3 (F := Ideal)) 3 384 rfl _ _ _ _ _ r e
  · obtain ⟨rfl, rfl, rfl⟩ := place hy0 hy1 z 3 1 (show (y 0).val = 3 * 128 + _ by omega) (show (y 1).val = 1 * 128 + _ by omega)
    exact tile1_st q k kdt v g din qdec cdec gain offset (k0_pay3 (F := Ideal)) 3 384 rfl _ _ _ _ _ r e
  · obtain ⟨rfl, rfl, rfl⟩ := place hy0 hy1 z 3 0 (show (y 0).val = 3 * 128 + _ by omega) (show (y 1).val = 0 * 128 + _ by omega)
    exact tile0_st q k kdt v g din qdec cdec gain offset (k0_pay3 (F := Ideal)) 3 384 rfl _ _ _ _ _ r e
  · obtain ⟨rfl, rfl, rfl⟩ := place hy0 hy1 z 2 3 (show (y 0).val = 2 * 128 + _ by omega) (show (y 1).val = 3 * 128 + _ by omega)
    exact tile3_st q k kdt v g din qdec cdec gain offset (k0_pay3 (F := Ideal)) 2 256 rfl _ _ _ _ _ r e
  · obtain ⟨rfl, rfl, rfl⟩ := place hy0 hy1 z 2 2 (show (y 0).val = 2 * 128 + _ by omega) (show (y 1).val = 2 * 128 + _ by omega)
    exact tile2_st q k kdt v g din qdec cdec gain offset (k0_pay3 (F := Ideal)) 2 256 rfl _ _ _ _ _ r e
  · obtain ⟨rfl, rfl, rfl⟩ := place hy0 hy1 z 2 1 (show (y 0).val = 2 * 128 + _ by omega) (show (y 1).val = 1 * 128 + _ by omega)
    exact tile1_st q k kdt v g din qdec cdec gain offset (k0_pay3 (F := Ideal)) 2 256 rfl _ _ _ _ _ r e
  · obtain ⟨rfl, rfl, rfl⟩ := place hy0 hy1 z 2 0 (show (y 0).val = 2 * 128 + _ by omega) (show (y 1).val = 0 * 128 + _ by omega)
    exact tile0_st q k kdt v g din qdec cdec gain offset (k0_pay3 (F := Ideal)) 2 256 rfl _ _ _ _ _ r e
  · obtain ⟨rfl, rfl, rfl⟩ := place hy0 hy1 z 1 3 (show (y 0).val = 1 * 128 + _ by omega) (show (y 1).val = 3 * 128 + _ by omega)
    exact tile3_st q k kdt v g din qdec cdec gain offset (k0_pay3 (F := Ideal)) 1 128 rfl _ _ _ _ _ r e
  · obtain ⟨rfl, rfl, rfl⟩ := place hy0 hy1 z 1 2 (show (y 0).val = 1 * 128 + _ by omega) (show (y 1).val = 2 * 128 + _ by omega)
    exact tile2_st q k kdt v g din qdec cdec gain offset (k0_pay3 (F := Ideal)) 1 128 rfl _ _ _ _ _ r e
  · obtain ⟨rfl, rfl, rfl⟩ := place hy0 hy1 z 1 1 (show (y 0).val = 1 * 128 + _ by omega) (show (y 1).val = 1 * 128 + _ by omega)
    exact tile1_st q k kdt v g din qdec cdec gain offset (k0_pay3 (F := Ideal)) 1 128 rfl _ _ _ _ _ r e
  · obtain ⟨rfl, rfl, rfl⟩ := place hy0 hy1 z 1 0 (show (y 0).val = 1 * 128 + _ by omega) (show (y 1).val = 0 * 128 + _ by omega)
    exact tile0_st q k kdt v g din qdec cdec gain offset (k0_pay3 (F := Ideal)) 1 128 rfl _ _ _ _ _ r e
  · obtain ⟨rfl, rfl, rfl⟩ := place hy0 hy1 z 0 3 (show (y 0).val = 0 * 128 + _ by omega) (show (y 1).val = 3 * 128 + _ by omega)
    exact tile3_st q k kdt v g din qdec cdec gain offset (k0_pay3 (F := Ideal)) 0 0 rfl _ _ _ _ _ r e
  · obtain ⟨rfl, rfl, rfl⟩ := place hy0 hy1 z 0 2 (show (y 0).val = 0 * 128 + _ by omega) (show (y 1).val = 2 * 128 + _ by omega)
    exact tile2_st q k kdt v g din qdec cdec gain offset (k0_pay3 (F := Ideal)) 0 0 rfl _ _ _ _ _ r e
  · obtain ⟨rfl, rfl, rfl⟩ := place hy0 hy1 z 0 1 (show (y 0).val = 0 * 128 + _ by omega) (show (y 1).val = 1 * 128 + _ by omega)
    exact tile1_st q k kdt v g din qdec cdec gain offset (k0_pay3 (F := Ideal)) 0 0 rfl _ _ _ _ _ r e
  · obtain ⟨rfl, rfl, rfl⟩ := place hy0 hy1 z 0 0 (show (y 0).val = 0 * 128 + _ by omega) (show (y 1).val = 0 * 128 + _ by omega)
    exact tile0_st q k kdt v g din qdec cdec gain offset (k0_pay3 (F := Ideal)) 0 0 rfl _ _ _ _ _ r e

end Cert.KernelIdeal.Ret

end
-- ==== Proof.Layer.RetTables.lean ====
/- What the retention kernel reads at one grid point, in terms of the call's arguments and the decay tables. -/
module

public import proofs.«01_k».proof.Proof.Layer.RetBlock
public import Idealize.ShloMosaic.Lib.Claim

@[expose] public section

set_option maxRecDepth 16384

noncomputable section

namespace Cert.KernelIdeal.Ret

open Cert.KernelIdeal Cert.KernelIdeal.Gen Cert.Layer Idealize.ShloMosaic Idealize.ShloMosaic.TcCoe Idealize.SL.Sem
open Idealize.ShloMosaic.Pipeline (Dat)

variable (m : (ℓ : Loc nD τ sig) → Buf (Elt Ideal) ℓ)

/-- Where each window's block lies at a grid point. -/
theorem index_at : ∀ t : Fin cfg0.N, win0_0.index t = ![t.val, 0] ∧ win0_1.index t = ![t.val, 0] ∧ win0_2.index t = ![0, t.val]
    ∧ win0_3.index t = ![t.val, 0] ∧ win0_4.index t = ![t.val, 0] ∧ win0_5.index t = ![0, 0, 0] ∧ win0_6.index t = ![0, 0]
    ∧ win0_7.index t = ![0, 0, 0] ∧ win0_8.index t = ![0, 0] ∧ win0_9.index t = ![0, 0] ∧ win0_10.index t = ![t.val, 0]
    ∧ t.val < 16 :=
  (by decide +kernel : ∀ t : Fin grid0.N, _)

/-- The logarithm of each head's decay, as the host computes it. -/
def lgT : FVec Ideal S4 .f32 :=
  Host.log (subf (broadcastInDim S4 ![] bcast_S_S4 (constant S_ .f32 0x3F800000#32)) (Host.powf (broadcastInDim S4 ![] bcast_S_S4
    (constant S_ .f32 0x40000000#32)) (subf (broadcastInDim S4 ![] bcast_S_S4 (constant S_ .f32 0xC0A00000#32)) (sitofp .f32 (iotaInDim S4 32 0)))))

/-- The distances of two positions of a chunk. -/
def diffT : IVec S128x128 32 :=
  subi (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

/-- The decay inside a chunk. -/
def dinT : FVec Ideal S4x128x128 .f32 :=
  select (broadcastInDim S4x128x128 ![0, 1, 2] bcast_S1x128x128_S4x128x128_0_1_2 (cmpi .sge (broadcastInDim S1x128x128 ![1, 2]
      bcast_S128x128_S1x128x128_1_2 diffT) (broadcastInDim S1x128x128 ![] bcast_S_S1x128x128 (constantI S_ 32 0#32))))
    (Host.exp (mulf (broadcastInDim S4x128x128 ![0, 1, 2] bcast_S1x128x128_S4x128x128_0_1_2 (sitofp .f32 (broadcastInDim S1x128x128 ![1, 2]
      bcast_S128x128_S1x128x128_1_2 (maxsi diffT (broadcastInDim S128x128 ![] bcast_S_S128x128 (constantI S_ 32 0#32))))))
      (broadcastInDim S4x128x128 ![0, 1, 2] bcast_S4x1x1_S4x128x128_0_1_2 (broadcastInDim S4x1x1 ![0] bcast_S4_S4x1x1_0 lgT))))
    (broadcastInDim S4x128x128 ![] bcast_S_S4x128x128 (id (constant S_ .f32 0x00000000#32)))

/-- The decay of a key to the end of its chunk. -/
def kdecT : FVec Ideal S4x128 .f32 :=
  Host.exp (mulf (broadcastInDim S4x128 ![0, 1] bcast_S1x128_S4x128_0_1 (sitofp .f32 (broadcastInDim S1x128 ![1] bcast_S128_S1x128_1
    (subi (broadcastInDim S128 ![] bcast_S_S128 (constantI S_ 32 127#32)) (iotaInDim S128 32 0)))))
    (broadcastInDim S4x128 ![0, 1] bcast_S4x1_S4x128_0_1 (broadcastInDim S4x1 ![0] bcast_S4_S4x1_0 lgT)))

/-- The decay of a query from the start of its chunk. -/
def qdecT : FVec Ideal S4x128 .f32 :=
  Host.exp (mulf (broadcastInDim S4x128 ![0, 1] bcast_S1x128_S4x128_0_1 (sitofp .f32 (broadcastInDim S1x128 ![1] bcast_S128_S1x128_1
    (addi (iotaInDim S128 32 0) (broadcastInDim S128 ![] bcast_S_S128 (constantI S_ 32 1#32))))))
    (broadcastInDim S4x128 ![0, 1] bcast_S4x1_S4x128_0_1 (broadcastInDim S4x1 ![0] bcast_S4_S4x1_0 lgT)))

/-- The decay of the state over a chunk. -/
def cdecT : FVec Ideal S4 .f32 :=
  Host.exp (mulf (broadcastInDim S4 ![] bcast_S_S4 (constant S_ .f32 0x43000000#32)) lgT)

/-- The queries, padded to 128 columns per head. -/
theorem V_66 (c : Dev nD) : (V m c main_v66 : FVec Ideal S16384x512 .bf16) = (truncf .bf16 (shapeCast S16384x512
    (pad S16384x4x128 ![0, 0, 0] ![0, 0, 64] ![0, 0, 0] (shapeCast S16384x4x64 (m ((c : Thread nD τ).loc main_arg0) : FVec Ideal S8x2048x4x64 .f32) shapeCasts_S8x2048x4x64_S16384x4x64)
      (sitofp .f32 (constantI S_ 32 0#32) : FVec Ideal S_ .f32) pads_S16384x4x64_S16384x4x128_000_000_0640 h_S_) shapeCasts_S16384x4x128_S16384x512) bitsLt_bf16_f32 : FVec Ideal S16384x512 .bf16) := by
  simp only [V, List.flatten_cons, List.flatten_nil, List.append_nil, hostOps0, hostOps0_1, hostOps0_2, hostOps0_3, hostOps0_4,
    hostOps0_5, hostOps0_6, List.cons_append, List.nil_append]
  entry_read
  rfl

/-- The keys, padded to 128 columns per head. -/
theorem V_70 (c : Dev nD) : (V m c main_v70 : FVec Ideal S16384x512 .bf16) = (truncf .bf16 (shapeCast S16384x512
    (pad S16384x4x128 ![0, 0, 0] ![0, 0, 64] ![0, 0, 0] (shapeCast S16384x4x64 (m ((c : Thread nD τ).loc main_arg1) : FVec Ideal S8x2048x4x64 .f32) shapeCasts_S8x2048x4x64_S16384x4x64)
      (sitofp .f32 (constantI S_ 32 0#32) : FVec Ideal S_ .f32) pads_S16384x4x64_S16384x4x128_000_000_0640 h_S_) shapeCasts_S16384x4x128_S16384x512) bitsLt_bf16_f32 : FVec Ideal S16384x512 .bf16) := by
  simp only [V, List.flatten_cons, List.flatten_nil, List.append_nil, hostOps0, hostOps0_1, hostOps0_2, hostOps0_3, hostOps0_4,
    hostOps0_5, hostOps0_6, List.cons_append, List.nil_append]
  entry_read
  rfl

/-- The keys weighted by their decay, transposed. -/
theorem V_62 (c : Dev nD) : (V m c main_v62 : FVec Ideal S256x16384 .bf16) = (truncf .bf16 (transpose S256x16384 [1, 0]
    (shapeCast S16384x256 (mulf (shapeCast S128x128x256 (m ((c : Thread nD τ).loc main_arg1) : FVec Ideal S8x2048x4x64 .f32) shapeCasts_S8x2048x4x64_S128x128x256)
      (broadcastInDim S128x128x256 ![0, 1, 2] bcast_S1x128x256_S128x128x256_0_1_2 (broadcastInDim S1x128x256 ![1, 2] bcast_S128x256_S1x128x256_1_2
        (shapeCast S128x256 (broadcastInDim S128x4x64 ![0, 1] bcast_S128x4_S128x4x64_0_1 (transpose S128x4 [1, 0] kdecT transposes_S4x128_S128x4_1_0))
          shapeCasts_S128x4x64_S128x256)))) shapeCasts_S128x128x256_S16384x256) transposes_S16384x256_S256x16384_1_0) bitsLt_bf16_f32 : FVec Ideal S256x16384 .bf16) := by
  simp only [V, List.flatten_cons, List.flatten_nil, List.append_nil, hostOps0, hostOps0_1, hostOps0_2, hostOps0_3, hostOps0_4,
    hostOps0_5, hostOps0_6, List.cons_append, List.nil_append]
  entry_read
  rfl

/-- The decay inside a chunk. -/
theorem V_26 (c : Dev nD) : (V m c main_v26 : FVec Ideal S4x128x128 .f32) = (dinT : FVec Ideal S4x128x128 .f32) := by
  simp only [V, List.flatten_cons, List.flatten_nil, List.append_nil, hostOps0, hostOps0_1, hostOps0_2, hostOps0_3, hostOps0_4,
    hostOps0_5, hostOps0_6, List.cons_append, List.nil_append]
  entry_read
  rfl

/-- The decay of a query, repeated over the columns of its head. -/
theorem V_53 (c : Dev nD) : (V m c main_v53 : FVec Ideal S128x512 .f32) = (shapeCast S128x512 (broadcastInDim S128x4x128 ![0, 1] bcast_S128x4_S128x4x128_0_1 (transpose S128x4 [1, 0] qdecT transposes_S4x128_S128x4_1_0)) shapeCasts_S128x4x128_S128x512 : FVec Ideal S128x512 .f32) := by
  simp only [V, List.flatten_cons, List.flatten_nil, List.append_nil, hostOps0, hostOps0_1, hostOps0_2, hostOps0_3, hostOps0_4,
    hostOps0_5, hostOps0_6, List.cons_append, List.nil_append]
  entry_read
  rfl

/-- The decay of the state, repeated over its entries. -/
theorem V_55 (c : Dev nD) : (V m c main_v55 : FVec Ideal S4x64x128 .f32) = (broadcastInDim S4x64x128 ![0, 1, 2] bcast_S4x1x1_S4x64x128_0_1_2 (broadcastInDim S4x1x1 ![0] bcast_S4_S4x1x1_0 cdecT) : FVec Ideal S4x64x128 .f32) := by
  simp only [V, List.flatten_cons, List.flatten_nil, List.append_nil, hostOps0, hostOps0_1, hostOps0_2, hostOps0_3, hostOps0_4,
    hostOps0_5, hostOps0_6, List.cons_append, List.nil_append]
  entry_read
  rfl

/-- The values. -/
theorem V_72 (c : Dev nD) : (V m c main_v72 : FVec Ideal S16384x512 .bf16) = (truncf .bf16 (shapeCast S16384x512 (m ((c : Thread nD τ).loc main_arg2) : FVec Ideal S8x2048x512 .f32) shapeCasts_S8x2048x512_S16384x512) bitsLt_bf16_f32 : FVec Ideal S16384x512 .bf16) := by
  simp only [V, List.flatten_cons, List.flatten_nil, List.append_nil, hostOps0, hostOps0_1, hostOps0_2, hostOps0_3, hostOps0_4,
    hostOps0_5, hostOps0_6, List.cons_append, List.nil_append]
  entry_read
  rfl

/-- The gate. -/
theorem V_73 (c : Dev nD) : (V m c main_v73 : FVec Ideal S16384x512 .f32) = (shapeCast S16384x512 (m ((c : Thread nD τ).loc main_arg3) : FVec Ideal S8x2048x512 .f32) shapeCasts_S8x2048x512_S16384x512 : FVec Ideal S16384x512 .f32) := by
  simp only [V, List.flatten_cons, List.flatten_nil, List.append_nil, hostOps0, hostOps0_1, hostOps0_2, hostOps0_3, hostOps0_4,
    hostOps0_5, hostOps0_6, List.cons_append, List.nil_append]
  entry_read
  rfl

/-- The gain. -/
theorem V_74 (c : Dev nD) : (V m c main_v74 : FVec Ideal S1x512 .f32) = (shapeCast S1x512 (m ((c : Thread nD τ).loc main_arg4) : FVec Ideal S512 .f32) shapeCasts_S512_S1x512 : FVec Ideal S1x512 .f32) := by
  simp only [V, List.flatten_cons, List.flatten_nil, List.append_nil, hostOps0, hostOps0_1, hostOps0_2, hostOps0_3, hostOps0_4,
    hostOps0_5, hostOps0_6, List.cons_append, List.nil_append]
  entry_read
  rfl

/-- The offset. -/
theorem V_75 (c : Dev nD) : (V m c main_v75 : FVec Ideal S1x512 .f32) = (shapeCast S1x512 (m ((c : Thread nD τ).loc main_arg5) : FVec Ideal S512 .f32) shapeCasts_S512_S1x512 : FVec Ideal S1x512 .f32) := by
  simp only [V, List.flatten_cons, List.flatten_nil, List.append_nil, hostOps0, hostOps0_1, hostOps0_2, hostOps0_3, hostOps0_4,
    hostOps0_5, hostOps0_6, List.cons_append, List.nil_append]
  entry_read
  rfl

/-- A padded head at one of its own columns. -/
theorem pad_at (X : FVec Ideal S8x2048x4x64 .f32) (R : Fin 16384) (h : Fin 4) (d : Fin 64) (b : Fin 8) (l : Fin 2048)
    (hR : R.val = b.val * 2048 + l.val) :
    (truncf .bf16 (shapeCast S16384x512
      (pad S16384x4x128 ![0, 0, 0] ![0, 0, 64] ![0, 0, 0] (shapeCast S16384x4x64 X shapeCasts_S8x2048x4x64_S16384x4x64)
        (sitofp .f32 (constantI S_ 32 0#32) : FVec Ideal S_ .f32) pads_S16384x4x64_S16384x4x128_000_000_0640 h_S_)
      shapeCasts_S16384x4x128_S16384x512) bitsLt_bf16_f32 : FVec Ideal S16384x512 .bf16)
      (ix2 R ⟨h.val * 128 + d.val, by omega⟩) = (X (ix4 b l h d) : EReal) := by
  pointwise
  rw [dif_pos (by omega)]
  blk_ext

/-- A padded head at one of the added columns. -/
theorem pad_zero (X : FVec Ideal S8x2048x4x64 .f32) (R : Fin 16384) (h : Fin 4) (d : Fin 64) :
    (truncf .bf16 (shapeCast S16384x512
      (pad S16384x4x128 ![0, 0, 0] ![0, 0, 64] ![0, 0, 0] (shapeCast S16384x4x64 X shapeCasts_S8x2048x4x64_S16384x4x64)
        (sitofp .f32 (constantI S_ 32 0#32) : FVec Ideal S_ .f32) pads_S16384x4x64_S16384x4x128_000_000_0640 h_S_)
      shapeCasts_S16384x4x128_S16384x512) bitsLt_bf16_f32 : FVec Ideal S16384x512 .bf16)
      (ix2 R ⟨h.val * 128 + (64 + d.val), by omega⟩) = (0 : EReal) := by
  pointwise
  rw [dif_neg (by omega)]
  show (((0#32 : BitVec 32).toInt : ℝ) : EReal) = 0
  simp

/-- A token of an array of shape (batch, position, column). -/
theorem token_at (X : FVec Ideal S8x2048x512 .f32) (R : Fin 16384) (j : Fin 512) (b : Fin 8) (l : Fin 2048)
    (hR : R.val = b.val * 2048 + l.val) :
    shapeCast S16384x512 X shapeCasts_S8x2048x512_S16384x512 (ix2 R j) = (X (ix3 b l j) : EReal) := by
  pointwise
  blk_ext

/-- A weighted key. -/
theorem weighted_at (X : FVec Ideal S8x2048x4x64 .f32) (K : FVec Ideal S4x128 .f32) (R : Fin 16384) (h : Fin 4) (d : Fin 64) (b : Fin 8) (l : Fin 2048)
    (hR : R.val = b.val * 2048 + l.val) :
    (truncf .bf16 (transpose S256x16384 [1, 0]
      (shapeCast S16384x256 (mulf (shapeCast S128x128x256 X shapeCasts_S8x2048x4x64_S128x128x256)
        (broadcastInDim S128x128x256 ![0, 1, 2] bcast_S1x128x256_S128x128x256_0_1_2 (broadcastInDim S1x128x256 ![1, 2] bcast_S128x256_S1x128x256_1_2
          (shapeCast S128x256 (broadcastInDim S128x4x64 ![0, 1] bcast_S128x4_S128x4x64_0_1 (transpose S128x4 [1, 0] K transposes_S4x128_S128x4_1_0))
            shapeCasts_S128x4x64_S128x256)))) shapeCasts_S128x128x256_S16384x256) transposes_S16384x256_S256x16384_1_0) bitsLt_bf16_f32 :
        FVec Ideal S256x16384 .bf16) (ix2 ⟨h.val * 64 + d.val, by omega⟩ R)
      = (X (ix4 b l h d) : EReal) * K (ix2 h ⟨l.val % 128, by omega⟩) := by
  pointwise
  refine congrArg₂ (fun a b : EReal => a * b) ?_ ?_ <;> blk_ext

/-- A query's decay, repeated over the columns of its head. -/
theorem repeated_at (K : FVec Ideal S4x128 .f32) (h : Fin 4) (i j : Fin 128) :
    (shapeCast S128x512 (broadcastInDim S128x4x128 ![0, 1] bcast_S128x4_S128x4x128_0_1 (transpose S128x4 [1, 0] K transposes_S4x128_S128x4_1_0))
      shapeCasts_S128x4x128_S128x512) (ix2 i ⟨h.val * 128 + j.val, by omega⟩) = (K (ix2 h i) : EReal) := by
  pointwise

/-- The state's decay, repeated over its entries. -/
theorem spread_at (K : FVec Ideal S4 .f32) (h : Fin 4) (d : Fin 64) (j : Fin 128) :
    (broadcastInDim S4x64x128 ![0, 1, 2] bcast_S4x1x1_S4x64x128_0_1_2 (broadcastInDim S4x1x1 ![0] bcast_S4_S4x1x1_0 K)) (ix3 h d j)
      = (K (ix1 h) : EReal) := by
  pointwise

/-- A row of 512. -/
theorem row_at (X : FVec Ideal S512 .f32) (j : Fin 512) : shapeCast S1x512 X shapeCasts_S512_S1x512 (ix2 0 j) = (X (ix1 j) : EReal) := by
  pointwise

end Cert.KernelIdeal.Ret

end
-- ==== Proof.Layer.RetSpec.lean ====
/- The retention of the layer as a function of the call's arguments: the state of a batch and head before each chunk, and
   the result at one token, head and column. Both programs' values are read as this function. -/
module

public import proofs.«01_k».proof.Proof.Layer.RetRows

@[expose] public section

set_option maxRecDepth 16384

noncomputable section

namespace Cert.Layer

open Idealize.ShloMosaic

/-- Position `i` of chunk `n` of a sequence of sixteen chunks. -/
def pos (n : ℕ) (i : Fin 128) : Fin 2048 := ⟨(n * 128 + i.val) % 2048, by omega⟩

/-- Column `e` of head `h`. -/
def col (h : Fin 4) (e : Fin 128) : Fin 512 := ⟨h.val * 128 + e.val, by omega⟩

/-- What chunk `n` of batch `b` adds to head `h`'s state: its keys, weighted by their decay to the end of the chunk, on its values. -/
def chunkSum (k : Fin 8 → Fin 2048 → Fin 4 → Fin 64 → EReal) (v : Fin 8 → Fin 2048 → Fin 512 → EReal) (kdec : Fin 4 → Fin 128 → EReal)
    (b : Fin 8) (n : ℕ) (h : Fin 4) (d : Fin 64) (e : Fin 128) : EReal :=
  ∑ i : Fin 128, (k b (pos n i) h d * kdec h i) * v b (pos n i) (col h e)

/-- The state of batch `b` before chunk `n`. -/
def retState (k : Fin 8 → Fin 2048 → Fin 4 → Fin 64 → EReal) (v : Fin 8 → Fin 2048 → Fin 512 → EReal) (kdec : Fin 4 → Fin 128 → EReal)
    (cdec : Fin 4 → EReal) (b : Fin 8) : ℕ → Fin 4 → Fin 64 → Fin 128 → EReal
  | 0, _, _, _ => 0
  | n + 1, h, d, e => cdec h * retState k v kdec cdec b n h d e + chunkSum k v kdec b n h d e

/-- The result at batch `b`, chunk `n`, position `r` of the chunk, head `h` and column `e` of the head. -/
def retOut (q k : Fin 8 → Fin 2048 → Fin 4 → Fin 64 → EReal) (v g : Fin 8 → Fin 2048 → Fin 512 → EReal) (gain offset : Fin 512 → EReal)
    (din : Fin 4 → Fin 128 → Fin 128 → EReal) (kdec qdec : Fin 4 → Fin 128 → EReal) (cdec : Fin 4 → EReal)
    (b : Fin 8) (n : ℕ) (r : Fin 128) (h : Fin 4) (e : Fin 128) : EReal :=
  gnRow (retRow (q b (pos n r) h) (fun c => k b (pos n c) h) (din h r) (fun c e => v b (pos n c) (col h e))
      (retState k v kdec cdec b n h) (fun _ => qdec h r))
    (g b (pos n r) (col h e)) (gain (col h e)) (offset (col h e)) e

end Cert.Layer

end
-- ==== Proof.Layer.RetOperands.lean ====
/- What the retention kernel reads at one grid point, in terms of the call's arguments and the decay tables. -/
module

public import proofs.«01_k».proof.Proof.Layer.RetTables
public import proofs.«01_k».proof.Proof.Layer.RetSpec

@[expose] public section

set_option maxRecDepth 16384

noncomputable section

namespace Cert.KernelIdeal.Ret

open Cert.KernelIdeal Cert.KernelIdeal.Gen Cert.Layer Idealize.ShloMosaic Idealize.ShloMosaic.TcCoe Idealize.SL.Sem
open Idealize.ShloMosaic.Pipeline (Dat)

variable (m : (ℓ : Loc nD τ sig) → Buf (Elt Ideal) ℓ)

/-- The queries. -/
abbrev queryA (c : Dev nD) (b : Fin 8) (l : Fin 2048) (h : Fin 4) (d : Fin 64) : EReal := m ((c : Thread nD τ).loc main_arg0) (ix4 b l h d)
/-- The keys. -/
abbrev keyA (c : Dev nD) (b : Fin 8) (l : Fin 2048) (h : Fin 4) (d : Fin 64) : EReal := m ((c : Thread nD τ).loc main_arg1) (ix4 b l h d)
/-- The values. -/
abbrev valueA (c : Dev nD) (b : Fin 8) (l : Fin 2048) (j : Fin 512) : EReal := m ((c : Thread nD τ).loc main_arg2) (ix3 b l j)
/-- The gate. -/
abbrev gateA (c : Dev nD) (b : Fin 8) (l : Fin 2048) (j : Fin 512) : EReal := m ((c : Thread nD τ).loc main_arg3) (ix3 b l j)
/-- The gain. -/
abbrev gainA (c : Dev nD) (j : Fin 512) : EReal := m ((c : Thread nD τ).loc main_arg4) (ix1 j)
/-- The offset. -/
abbrev offsetA (c : Dev nD) (j : Fin 512) : EReal := m ((c : Thread nD τ).loc main_arg5) (ix1 j)
/-- The decay inside a chunk. -/
abbrev dinA (h : Fin 4) (i j : Fin 128) : EReal := dinT (ix3 h i j)
/-- A key's decay. -/
abbrev kdecA (h : Fin 4) (i : Fin 128) : EReal := kdecT (ix2 h i)
/-- A query's decay. -/
abbrev qdecA (h : Fin 4) (i : Fin 128) : EReal := qdecT (ix2 h i)
/-- The state's decay. -/
abbrev cdecA (h : Fin 4) : EReal := cdecT (ix1 h)

/-- A token of the q block. -/
theorem q_at (c : Dev nD) (t : Fin cfg0.N) (r : Fin 1024) (h : Fin 4) (d : Fin 64) (b : Fin 8) (l : Fin 2048)
    (hR : t.val * 1024 + r.val = b.val * 2048 + l.val) :
    (iblk m c 0 t (ix2 r ⟨h.val * 128 + d.val, by omega⟩) : EReal) = m ((c : Thread nD τ).loc main_arg0) (ix4 b l h d) := by
  have ht : t.val < 16 := (index_at t).2.2.2.2.2.2.2.2.2.2.2
  have he : (win0_0.blk t).view.emb (ix2 r ⟨h.val * 128 + d.val, by omega⟩) = ix2 (⟨t.val * 1024 + r.val, by omega⟩ : Fin 16384) (⟨h.val * 128 + d.val, by omega⟩ : Fin 512) := by blk_ext [index_at t]
  exact (congrArg (V m c main_v66) he).trans ((congrFun (V_66 m c) _).trans (pad_at (m ((c : Thread nD τ).loc main_arg0)) _ h d b l hR))

/-- The q block is padded with zeros. -/
theorem q_pad (c : Dev nD) (t : Fin cfg0.N) (r : Fin 1024) (h : Fin 4) (d : Fin 64) :
    (iblk m c 0 t (ix2 r ⟨h.val * 128 + (64 + d.val), by omega⟩) : EReal) = (0 : EReal) := by
  have ht : t.val < 16 := (index_at t).2.2.2.2.2.2.2.2.2.2.2
  have he : (win0_0.blk t).view.emb (ix2 r ⟨h.val * 128 + (64 + d.val), by omega⟩) = ix2 (⟨t.val * 1024 + r.val, by omega⟩ : Fin 16384) (⟨h.val * 128 + (64 + d.val), by omega⟩ : Fin 512) := by blk_ext [index_at t]
  exact (congrArg (V m c main_v66) he).trans ((congrFun (V_66 m c) _).trans (pad_zero (m ((c : Thread nD τ).loc main_arg0)) _ h d))

/-- A token of the k block. -/
theorem k_at (c : Dev nD) (t : Fin cfg0.N) (r : Fin 1024) (h : Fin 4) (d : Fin 64) (b : Fin 8) (l : Fin 2048)
    (hR : t.val * 1024 + r.val = b.val * 2048 + l.val) :
    (iblk m c 1 t (ix2 r ⟨h.val * 128 + d.val, by omega⟩) : EReal) = m ((c : Thread nD τ).loc main_arg1) (ix4 b l h d) := by
  have ht : t.val < 16 := (index_at t).2.2.2.2.2.2.2.2.2.2.2
  have he : (win0_1.blk t).view.emb (ix2 r ⟨h.val * 128 + d.val, by omega⟩) = ix2 (⟨t.val * 1024 + r.val, by omega⟩ : Fin 16384) (⟨h.val * 128 + d.val, by omega⟩ : Fin 512) := by blk_ext [index_at t]
  exact (congrArg (V m c main_v70) he).trans ((congrFun (V_70 m c) _).trans (pad_at (m ((c : Thread nD τ).loc main_arg1)) _ h d b l hR))

/-- The k block is padded with zeros. -/
theorem k_pad (c : Dev nD) (t : Fin cfg0.N) (r : Fin 1024) (h : Fin 4) (d : Fin 64) :
    (iblk m c 1 t (ix2 r ⟨h.val * 128 + (64 + d.val), by omega⟩) : EReal) = (0 : EReal) := by
  have ht : t.val < 16 := (index_at t).2.2.2.2.2.2.2.2.2.2.2
  have he : (win0_1.blk t).view.emb (ix2 r ⟨h.val * 128 + (64 + d.val), by omega⟩) = ix2 (⟨t.val * 1024 + r.val, by omega⟩ : Fin 16384) (⟨h.val * 128 + (64 + d.val), by omega⟩ : Fin 512) := by blk_ext [index_at t]
  exact (congrArg (V m c main_v70) he).trans ((congrFun (V_70 m c) _).trans (pad_zero (m ((c : Thread nD τ).loc main_arg1)) _ h d))

/-- A token of the block of weighted keys. -/
theorem kdt_at (c : Dev nD) (t : Fin cfg0.N) (r : Fin 1024) (h : Fin 4) (d : Fin 64) (b : Fin 8) (l : Fin 2048)
    (hR : t.val * 1024 + r.val = b.val * 2048 + l.val) (i : Fin 128) (hi : l.val % 128 = i.val) :
    (iblk m c 2 t (ix2 ⟨h.val * 64 + d.val, by omega⟩ r) : EReal) = keyA m c b l h d * kdecA h i := by
  have ht : t.val < 16 := (index_at t).2.2.2.2.2.2.2.2.2.2.2
  have he : (win0_2.blk t).view.emb (ix2 ⟨h.val * 64 + d.val, by omega⟩ r)
      = ix2 (⟨h.val * 64 + d.val, by omega⟩ : Fin 256) (⟨t.val * 1024 + r.val, by omega⟩ : Fin 16384) := by blk_ext [index_at t]
  have hk : (⟨l.val % 128, Nat.mod_lt _ (by decide)⟩ : Fin 128) = i := Fin.ext hi
  exact (congrArg (V m c main_v62) he).trans ((congrFun (V_62 m c) _).trans
    ((weighted_at (m ((c : Thread nD τ).loc main_arg1)) kdecT _ h d b l hR).trans (congrArg (fun i => keyA m c b l h d * kdecA h i) hk)))

/-- A token of the values. -/
theorem v_at (c : Dev nD) (t : Fin cfg0.N) (r : Fin 1024) (j : Fin 512) (b : Fin 8) (l : Fin 2048)
    (hR : t.val * 1024 + r.val = b.val * 2048 + l.val) :
    (iblk m c 3 t (ix2 r j) : EReal) = m ((c : Thread nD τ).loc main_arg2) (ix3 b l j) := by
  have ht : t.val < 16 := (index_at t).2.2.2.2.2.2.2.2.2.2.2
  have he : (win0_3.blk t).view.emb (ix2 r j) = ix2 (⟨t.val * 1024 + r.val, by omega⟩ : Fin 16384) j := by blk_ext [index_at t]
  exact (congrArg (V m c main_v72) he).trans ((congrFun (V_72 m c) _).trans (token_at (m ((c : Thread nD τ).loc main_arg2)) _ j b l hR))

/-- A token of the gate. -/
theorem gate_at (c : Dev nD) (t : Fin cfg0.N) (r : Fin 1024) (j : Fin 512) (b : Fin 8) (l : Fin 2048)
    (hR : t.val * 1024 + r.val = b.val * 2048 + l.val) :
    (iblk m c 4 t (ix2 r j) : EReal) = m ((c : Thread nD τ).loc main_arg3) (ix3 b l j) := by
  have ht : t.val < 16 := (index_at t).2.2.2.2.2.2.2.2.2.2.2
  have he : (win0_4.blk t).view.emb (ix2 r j) = ix2 (⟨t.val * 1024 + r.val, by omega⟩ : Fin 16384) j := by blk_ext [index_at t]
  exact (congrArg (V m c main_v73) he).trans ((congrFun (V_73 m c) _).trans (token_at (m ((c : Thread nD τ).loc main_arg3)) _ j b l hR))

/-- The decay inside a chunk is read whole. -/
theorem din_at (c : Dev nD) (t : Fin cfg0.N) (h : Fin 4) (i j : Fin 128) :
    (iblk m c 5 t (ix3 h i j) : EReal) = dinT (ix3 h i j) := by
  have ht : t.val < 16 := (index_at t).2.2.2.2.2.2.2.2.2.2.2
  have he : (win0_5.blk t).view.emb (ix3 h i j) = ix3 h i j := by blk_ext [index_at t]
  exact (congrArg (V m c main_v26) he).trans ((congrFun (V_26 m c) _).trans (rfl))

/-- The decay of a query. -/
theorem qdec_at (c : Dev nD) (t : Fin cfg0.N) (h : Fin 4) (i j : Fin 128) :
    (iblk m c 6 t (ix2 i ⟨h.val * 128 + j.val, by omega⟩) : EReal) = qdecT (ix2 h i) := by
  have ht : t.val < 16 := (index_at t).2.2.2.2.2.2.2.2.2.2.2
  have he : (win0_6.blk t).view.emb (ix2 i ⟨h.val * 128 + j.val, by omega⟩) = ix2 i (⟨h.val * 128 + j.val, by omega⟩ : Fin 512) := by blk_ext [index_at t]
  exact (congrArg (V m c main_v53) he).trans ((congrFun (V_53 m c) _).trans (repeated_at qdecT h i j))

/-- The decay of the state over a chunk. -/
theorem cdec_at (c : Dev nD) (t : Fin cfg0.N) (h : Fin 4) (d : Fin 64) (j : Fin 128) :
    (iblk m c 7 t (ix3 h d j) : EReal) = cdecT (ix1 h) := by
  have ht : t.val < 16 := (index_at t).2.2.2.2.2.2.2.2.2.2.2
  have he : (win0_7.blk t).view.emb (ix3 h d j) = ix3 h d j := by blk_ext [index_at t]
  exact (congrArg (V m c main_v55) he).trans ((congrFun (V_55 m c) _).trans (spread_at cdecT h d j))

/-- The gain row. -/
theorem gain_at (c : Dev nD) (t : Fin cfg0.N) (j : Fin 512) :
    (iblk m c 8 t (ix2 0 j) : EReal) = m ((c : Thread nD τ).loc main_arg4) (ix1 j) := by
  have ht : t.val < 16 := (index_at t).2.2.2.2.2.2.2.2.2.2.2
  have he : (win0_8.blk t).view.emb (ix2 0 j) = ix2 0 j := by blk_ext [index_at t]
  exact (congrArg (V m c main_v74) he).trans ((congrFun (V_74 m c) _).trans (row_at (m ((c : Thread nD τ).loc main_arg4)) j))

/-- The offset row. -/
theorem offset_at (c : Dev nD) (t : Fin cfg0.N) (j : Fin 512) :
    (iblk m c 9 t (ix2 0 j) : EReal) = m ((c : Thread nD τ).loc main_arg5) (ix1 j) := by
  have ht : t.val < 16 := (index_at t).2.2.2.2.2.2.2.2.2.2.2
  have he : (win0_9.blk t).view.emb (ix2 0 j) = ix2 0 j := by blk_ext [index_at t]
  exact (congrArg (V m c main_v75) he).trans ((congrFun (V_75 m c) _).trans (row_at (m ((c : Thread nD τ).loc main_arg5)) j))

end Cert.KernelIdeal.Ret

end
-- ==== Proof.Layer.RetArray.lean ====
/- The retention kernel's result array: the state a grid point hands on is the state of its batch after the point's chunks,
   and the sixteen points' blocks of 1024 rows tile the result. -/
module

public import proofs.«01_k».proof.Proof.Layer.RetOperands

@[expose] public section

set_option maxRecDepth 16384

noncomputable section

namespace Cert.KernelIdeal.Ret

open Cert.KernelIdeal Cert.KernelIdeal.Gen Cert.Layer Idealize.ShloMosaic Idealize.ShloMosaic.TcCoe Idealize.SL.Sem
open Idealize.ShloMosaic.Pipeline (Dat)

variable (m : (ℓ : Loc nD τ sig) → Buf (Elt Ideal) ℓ)

/-- The state of a batch before a chunk, over this program's arguments. -/
abbrev stateA (c : Dev nD) (b : Fin 8) (n : ℕ) : Fin 4 → Fin 64 → Fin 128 → EReal :=
  retState (keyA m c) (valueA m c) kdecA cdecA b n

/-- The result at one token, head and column, over this program's arguments. -/
abbrev outA (c : Dev nD) (b : Fin 8) (n : ℕ) (r : Fin 128) (h : Fin 4) (e : Fin 128) : EReal :=
  retOut (queryA m c) (keyA m c) (valueA m c) (gateA m c) (gainA m c) (offsetA m c) dinA kdecA qdecA cdecA b n r h e

/-- The batch of a grid point. -/
def batch (t : Fin cfg0.N) : Fin 8 := ⟨t.val / 2, by have := (index_at t).2.2.2.2.2.2.2.2.2.2.2; omega⟩

/-- A chunk of a point's block is a chunk of its batch. -/
theorem place_chunk (t : Fin cfg0.N) (j : ℕ) (hj : j < 8) (i : Fin 128) :
    t.val * 1024 + (j * 128 + i.val) = (batch t).val * 2048 + (pos (t.val % 2 * 8 + j) i).val
      ∧ (pos (t.val % 2 * 8 + j) i).val % 128 = i.val := by
  have ht := (index_at t).2.2.2.2.2.2.2.2.2.2.2
  have h1 : (batch t).val = t.val / 2 := rfl
  have h2 : (pos (t.val % 2 * 8 + j) i).val = ((t.val % 2 * 8 + j) * 128 + i.val) % 2048 := rfl
  have h3 := i.isLt
  omega

/-- What a chunk of the block adds to the state. -/
theorem kv_eq (c : Dev nD) (t : Fin cfg0.N) (j : ℕ) (hj : j < 8) (h : Fin 4) (d : Fin 64) (e : Fin 128) :
    chunkKv (iblk m c 2 t) (iblk m c 3 t) j h d e
      = chunkSum (keyA m c) (valueA m c) kdecA (batch t) (t.val % 2 * 8 + j) h d e := by
  refine Finset.sum_congr rfl fun i _ => ?_
  have hp := place_chunk t j hj i
  have hl : (j * 128 + i.val) % 1024 = j * 128 + i.val := by omega
  have hR : t.val * 1024 + (j * 128 + i.val) % 1024 = (batch t).val * 2048 + (pos (t.val % 2 * 8 + j) i).val := by rw [hl]; exact hp.1
  exact congrArg₂ (fun a b : EReal => a * b) (kdt_at m c t ⟨(j * 128 + i.val) % 1024, by omega⟩ h d (batch t) (pos (t.val % 2 * 8 + j) i) hR i hp.2)
    (v_at m c t ⟨(j * 128 + i.val) % 1024, by omega⟩ (col h e) (batch t) (pos (t.val % 2 * 8 + j) i) hR)

/-- The states of a point's chunks are its batch's, once the state it starts from is. -/
theorem chunks_eq (c : Dev nD) (t : Fin cfg0.N) (S : FVec Ideal S4x64x128 .f32)
    (hS : ∀ h d e, (S (ix3 h d e) : EReal) = stateA m c (batch t) (t.val % 2 * 8) h d e) :
    ∀ j, j ≤ 8 → ∀ h d e, chunkState (iblk m c 2 t) (iblk m c 3 t) (iblk m c 7 t) S j h d e
      = stateA m c (batch t) (t.val % 2 * 8 + j) h d e
  | 0, _, h, d, e => hS h d e
  | j + 1, hj, h, d, e => congrArg₂ (fun a b : EReal => a + b)
      (congrArg₂ (fun a b : EReal => a * b) (cdec_at m c t h d e) (chunks_eq c t S hS j (by omega) h d e))
      (kv_eq m c t j (by omega) h d e)

/-- The cleared state. -/
theorem cleared (h : Fin 4) (d : Fin 64) (e : Fin 128) : (k0_pay3 (F := Ideal) (ix3 h d e) : EReal) = 0 := by
  unfold k0_pay3
  pointwise

/-- The state an even point hands on. -/
theorem state_even (c : Dev nD) (t : Fin cfg0.N) (h0 : t.val % 2 = 0) (h : Fin 4) (d : Fin 64) (e : Fin 128) :
    ((outsAt0 m c t.val t.isLt).2 (ix3 h d e) : EReal) = stateA m c (batch t) 8 h d e := by
  refine (state_A _ _ _ m c t h0 rfl rfl rfl h d e).trans ?_
  refine (chunks_eq m c t _ (fun h d e => (cleared h d e).trans ?_) 8 le_rfl h d e).trans ?_
  · rw [h0]; rfl
  · rw [h0]

/-- The state an odd point starts from. -/
theorem carried (c : Dev nD) (t : Fin cfg0.N) (h0 : ¬t.val % 2 = 0) (hlt : t.val - 1 < cfg0.N) (h : Fin 4) (d : Fin 64) (e : Fin 128) :
    ((outsAt0 m c (t.val - 1) hlt).2 (ix3 h d e) : EReal) = stateA m c (batch t) (t.val % 2 * 8) h d e := by
  refine (state_even m c ⟨t.val - 1, hlt⟩ (show (t.val - 1) % 2 = 0 by omega) h d e).trans ?_
  have hb : batch ⟨t.val - 1, hlt⟩ = batch t := Fin.ext (show (t.val - 1) / 2 = t.val / 2 by omega)
  rw [hb, show t.val % 2 = 1 by omega]

/-- One element of a point's block, once the point's states are its batch's. -/
theorem element (c : Dev nD) (t : Fin cfg0.N) (S : FVec Ideal S4x64x128 .f32)
    (hS : ∀ h d e, (S (ix3 h d e) : EReal) = stateA m c (batch t) (t.val % 2 * 8) h d e) (n : Fin 8) (h : Fin 4) (r e : Fin 128) :
    blockOut (iblk m c 0 t) (iblk m c 1 t) (iblk m c 2 t) (iblk m c 3 t) (iblk m c 4 t) (iblk m c 5 t) (iblk m c 6 t) (iblk m c 7 t)
      (iblk m c 8 t) (iblk m c 9 t) S n h r e = outA m c (batch t) (t.val % 2 * 8 + n.val) r h e := by
  have hp := fun i => (place_chunk t n.val n.isLt i).1
  refine gnRow_congr ?_ (gate_at m c t ⟨n.val * 128 + r.val, by omega⟩ (col h e) _ _ (hp r)) (gain_at m c t (col h e)) (offset_at m c t (col h e)) e
  refine (padRow_eq _ _ _ _ _ _ fun d => q_pad m c t ⟨n.val * 128 + r.val, by omega⟩ h d).trans ?_
  exact retRow_congr (funext fun d => q_at m c t ⟨n.val * 128 + r.val, by omega⟩ h d _ _ (hp r))
    (funext fun i => funext fun d => k_at m c t ⟨n.val * 128 + i.val, by omega⟩ h d _ _ (hp i)) (funext fun i => din_at m c t h r i)
    (funext fun i => funext fun e => v_at m c t ⟨n.val * 128 + i.val, by omega⟩ (col h e) _ _ (hp i))
    (funext fun d => funext fun e => chunks_eq m c t S hS n.val (by omega) h d e)
    (funext fun e => qdec_at m c t h r e)

/-- One element of a point's block. -/
theorem block_at (c : Dev nD) (t : Fin cfg0.N) (n : Fin 8) (h : Fin 4) (r e : Fin 128) (y : S1024x512.Idx)
    (hy0 : (y 0).val = n.val * 128 + r.val) (hy1 : (y 1).val = h.val * 128 + e.val) :
    ((outsAt0 m c t.val t.isLt).1 y : EReal) = outA m c (batch t) (t.val % 2 * 8 + n.val) r h e := by
  by_cases h0 : t.val % 2 = 0
  · refine (block_A _ _ _ _ _ _ _ _ _ _ m c t h0 rfl rfl rfl rfl rfl rfl rfl rfl rfl rfl n h r e y hy0 hy1).trans ?_
    exact element m c t _ (fun h d e => (cleared h d e).trans (by rw [h0]; rfl)) n h r e
  · refine (block_B _ _ _ _ _ _ _ _ _ _ _ m c t h0 rfl rfl rfl rfl rfl rfl rfl rfl rfl rfl rfl n h r e y hy0 hy1).trans ?_
    exact element m c t _ (carried m c t h0 _) n h r e

/-- THE RESULT ARRAY after the run is any array whose elements are the retention's. -/
theorem array (c : Dev nD) (W : FVec Ideal S16384x512 .bf16)
    (hW : ∀ (b : Fin 8) (n : Fin 16) (r : Fin 128) (h : Fin 4) (e : Fin 128),
      (W (ix2 ⟨b.val * 2048 + n.val * 128 + r.val, by omega⟩ (col h e)) : EReal) = outA m c b n.val r h e) :
    (dats m 0 c).arrAt 10 cfg0.N = W := by
  refine (dats m 0 c).arrAt_eq_of_covers 10 _ (by decide +kernel) fun t hf y => ?_
  blk_simp
  rw [after0_10]
  have ht : t.val < 16 := (index_at t).2.2.2.2.2.2.2.2.2.2.2
  have h0 : (y 0).val < 1024 := (y 0).isLt
  have h1 : (y 1).val < 512 := (y 1).isLt
  refine (block_at m c t ⟨(y 0).val / 128, by omega⟩ ⟨(y 1).val / 128, by omega⟩ ⟨(y 0).val % 128, by omega⟩ ⟨(y 1).val % 128, by omega⟩ y
    (by simp only; omega) (by simp only; omega)).trans ?_
  refine (hW (batch t) ⟨t.val % 2 * 8 + (y 0).val / 128, by omega⟩ _ _ _).symm.trans ?_
  refine congrArg W ?_
  have hb : (batch t).val = t.val / 2 := rfl
  unfold col
  blk_ext [index_at t]

end Cert.KernelIdeal.Ret

end
-- ==== Proof.Layer.RetLoop.lean ====
/- The retention reference's counted loop: what the memory holds before each trip, as a state of the generated step, and
   the program's result over the state after the sixteenth trip. -/
module

public import proofs.«01_k».proof.Proof.Gen.ReferenceIdeal.Run
public import proofs.«01_k».proof.Proof.Gen.ReferenceIdeal.Step

@[expose] public section

set_option maxRecDepth 16384

noncomputable section

namespace Cert.ReferenceIdeal.Ret

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The memory before a trip: the carried state and its history, the chunks' sums, the trip's number, the state's decay. -/
structure Before (V0 : Valuation τ sig (Elt F)) (s : State F) (j : ℕ) : Prop where
  carried : V0 (Proc.devRef .tc main_v31_3) = s.main_v31_3
  history : V0 (Proc.devRef .tc main_v31_4) = s.main_v31_4
  sums : V0 (Proc.devRef .tc main_v31_0) = s.main_v31_0
  number : V0 (Proc.devRef .tc main_v31_2) = constantI S_ 32 (BitVec.ofNat 32 j)
  decay : V0 (Proc.devRef .tc main_v31_1) = Cert.ReferenceIdeal.Step.K_main_v20 (F := F)

variable {V0 : Valuation τ sig (Elt F)} {s : State F} {j : ℕ}

/-- A trip's new state. -/
theorem new_carried (h : Before V0 s j) : step_main_v31_3 V0 = (step j s).main_v31_3 := by
  unfold step_main_v31_3
  rw [h.carried, h.sums, h.number, h.decay]
  rfl

/-- A trip's history. -/
theorem new_history (h : Before V0 s j) : step_main_v31_4 V0 = (step j s).main_v31_4 := by
  unfold step_main_v31_4
  rw [h.carried, h.history, h.number]
  rfl

/-- A trip's number. -/
theorem new_number (h : Before V0 s j) : step_main_v31_2 V0 = constantI S_ 32 (BitVec.ofNat 32 (j + 1)) := by
  unfold step_main_v31_2
  rw [h.number]
  funext i
  show BitVec.ofNat 32 j + 1#32 = BitVec.ofNat 32 (j + 1)
  simp only [BitVec.ofNat_add]

/-- One trip. -/
theorem after_trip (h : Before V0 s j) : Before (STEP V0) (step j s) (j + 1) where
  carried := (STEP_main_v31_3 V0).trans (new_carried h)
  history := (STEP_main_v31_4 V0).trans (new_history h)
  sums := (STEP_main_v31_0 V0).trans h.sums
  number := (STEP_main_v31_2 V0).trans (new_number h)
  decay := (STEP_main_v31_1 V0).trans h.decay

/-- The state before each trip. -/
def loopState (k : FVec F S8x2048x4x64 .f32) (v : FVec F S8x2048x512 .f32) : ℕ → State F
  | 0 => init k v
  | n + 1 => step n (loopState k v n)

variable (m : (ℓ : Loc nD τ sig) → Buf (Elt F) ℓ) (c : Dev nD)

set_option maxRecDepth 65536 in
set_option maxHeartbeats 400000 in
/-- What the operations before the loop leave. -/
theorem at_entry : Before (entryContents preI m c) (init (m ((c.tc : Thread nD τ).loc main_arg1)) (m ((c.tc : Thread nD τ).loc main_arg2))) 0 := by
  constructor <;> (simp only [entryContents, afterL_cons, afterL_nil]; after_reads_simp) <;> rfl

/-- What the memory holds before each trip. -/
theorem before_trip : ∀ k, Before (STEP^[k] (entryContents preI m c))
    (loopState (m ((c.tc : Thread nD τ).loc main_arg1)) (m ((c.tc : Thread nD τ).loc main_arg2)) k) k
  | 0 => at_entry m c
  | k + 1 => by
    rw [Function.iterate_succ_apply']
    exact after_trip (before_trip k)

/-- The result, over the history after the last trip and the arguments. -/
theorem result_eq (h : Before V0 s j) {x0 x1 : FVec F S8x2048x4x64 .f32} {x2 x3 : FVec F S8x2048x512 .f32} {x4 x5 : FVec F S512 .f32}
    (h0 : V0 (Proc.devRef .tc main_arg0) = x0) (h1 : V0 (Proc.devRef .tc main_arg1) = x1) (h2 : V0 (Proc.devRef .tc main_arg2) = x2)
    (h3 : V0 (Proc.devRef .tc main_arg3) = x3) (h4 : V0 (Proc.devRef .tc main_arg4) = x4) (h5 : V0 (Proc.devRef .tc main_arg5) = x5) :
    out_main_v114 V0 = Cert.ReferenceIdeal.Step.R_main_v114 s x0 x1 x2 x3 x4 x5 := by
  unfold out_main_v114
  rw [h.history, h0, h1, h2, h3, h4, h5]
  rfl

/-- THE RUN: every weakly fair execution ends with the result over the history after sixteen trips, the arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v114) = Cert.ReferenceIdeal.Step.R_main_v114
          (loopState (m ((c.tc : Thread nD τ).loc main_arg1)) (m ((c.tc : Thread nD τ).loc main_arg2)) 16)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans (result_eq (before_trip m c 16) (iter_main_arg0 m c 16) (iter_main_arg1 m c 16) (iter_main_arg2 m c 16)
      (iter_main_arg3 m c 16) (iter_main_arg4 m c 16) (iter_main_arg5 m c 16)), (h c).2⟩) (Value.run m ρ)

end Cert.ReferenceIdeal.Ret

end
-- ==== Proof.Layer.RetReference.lean ====
/- The retention reference, read at one element: the rows of the chunks, their group norm and gate. -/
module

public import proofs.«01_k».proof.Proof.Layer.RetLoop
public import proofs.«01_k».proof.Proof.Layer.RetSpec
public import Idealize.ShloMosaic.Lib.Pointwise

@[expose] public section

set_option maxRecDepth 16384

noncomputable section

namespace Cert.ReferenceIdeal.Ret

open Cert.ReferenceIdeal Cert.ReferenceIdeal.Gen Cert.Layer Idealize.ShloMosaic Idealize.ShloMosaic.TcCoe Idealize.SL.Sem

/-- The logarithm of each head's decay. -/
def lgR : FVec Ideal S4 .f32 :=
  Host.log (subf (broadcastInDim S4 ![] bcast_S_S4 (constant S_ .f32 0x3F800000#32)) (Host.powf (broadcastInDim S4 ![]
    bcast_S_S4 (constant S_ .f32 0x40000000#32)) (subf (broadcastInDim S4 ![] bcast_S_S4 (constant S_ .f32 0xC0A00000#32))
    (sitofp .f32 (iotaInDim S4 32 0)))))

/-- The decay inside a chunk. -/
def dinR : FVec Ideal S4x128x128 .f32 :=
  select (broadcastInDim S4x128x128 ![0, 1, 2] bcast_S1x128x128_S4x128x128_0_1_2 (cmpi .sge (broadcastInDim S1x128x128 ![1, 2]
    bcast_S128x128_S1x128x128_1_2 (subi (broadcastInDim S128x128 ![0, 1] bcast_S128x1_S128x128_0_1 (broadcastInDim S128x1 ![0]
    bcast_S128_S128x1_0 (iotaInDim S128 32 0))) (broadcastInDim S128x128 ![0, 1] bcast_S1x128_S128x128_0_1 (broadcastInDim
    S1x128 ![1] bcast_S128_S1x128_1 (iotaInDim S128 32 0))))) (broadcastInDim S1x128x128 ![] bcast_S_S1x128x128 (constantI S_
    32 0#32)))) (Host.exp (mulf (broadcastInDim S4x128x128 ![0, 1, 2] bcast_S1x128x128_S4x128x128_0_1_2 (sitofp .f32
    (broadcastInDim S1x128x128 ![1, 2] bcast_S128x128_S1x128x128_1_2 (maxsi (subi (broadcastInDim S128x128 ![0, 1]
    bcast_S128x1_S128x128_0_1 (broadcastInDim S128x1 ![0] bcast_S128_S128x1_0 (iotaInDim S128 32 0))) (broadcastInDim S128x128
    ![0, 1] bcast_S1x128_S128x128_0_1 (broadcastInDim S1x128 ![1] bcast_S128_S1x128_1 (iotaInDim S128 32 0)))) (broadcastInDim
    S128x128 ![] bcast_S_S128x128 (constantI S_ 32 0#32)))))) (broadcastInDim S4x128x128 ![0, 1, 2]
    bcast_S4x1x1_S4x128x128_0_1_2 (broadcastInDim S4x1x1 ![0] bcast_S4_S4x1x1_0 lgR)))) (broadcastInDim S4x128x128 ![]
    bcast_S_S4x128x128 (id (constant S_ .f32 0x00000000#32)))

/-- The decay of a query from the start of its chunk. -/
def qdecR : FVec Ideal S4x128 .f32 :=
  Host.exp (mulf (broadcastInDim S4x128 ![0, 1] bcast_S1x128_S4x128_0_1 (sitofp .f32 (broadcastInDim S1x128 ![1]
    bcast_S128_S1x128_1 (addi (iotaInDim S128 32 0) (broadcastInDim S128 ![] bcast_S_S128 (constantI S_ 32 1#32))))))
    (broadcastInDim S4x128 ![0, 1] bcast_S4x1_S4x128_0_1 (broadcastInDim S4x1 ![0] bcast_S4_S4x1_0 lgR)))

/-- The rows of all chunks before their group norm, over the states before each chunk. -/
def rows (x0 x1 : FVec Ideal S8x2048x4x64 .f32) (x2 : FVec Ideal S8x2048x512 .f32) (hist : FVec Ideal S16x8x4x64x128 .f32) :
    FVec Ideal S8x16x128x4x128 .f32 :=
  addf (transpose S8x16x128x4x128 [0, 1, 4, 2, 3] (Host.dotGeneral
    dot_S8x16x128x4x128_S8x16x4x128x128_S8x16x4x128x128_2_4_4_3_013_012 none (shapeCast S8x16x128x4x128 x2
    shapeCasts_S8x2048x512_S8x16x128x4x128) (mulf (Host.dotGeneral
    dot_S8x16x128x4x64_S8x16x128x4x64_S8x16x4x128x128_4_4_2_2_013_013 none (shapeCast S8x16x128x4x64 x0
    shapeCasts_S8x2048x4x64_S8x16x128x4x64) (shapeCast S8x16x128x4x64 x1 shapeCasts_S8x2048x4x64_S8x16x128x4x64))
    (broadcastInDim S8x16x4x128x128 ![0, 1, 2, 3, 4] bcast_S1x1x4x128x128_S8x16x4x128x128_0_1_2_3_4 (broadcastInDim
    S1x1x4x128x128 ![2, 3, 4] bcast_S4x128x128_S1x1x4x128x128_2_3_4 dinR))))
    transposes_S8x16x4x128x128_S8x16x128x4x128_0_1_4_2_3) (transpose S8x16x128x4x128 [0, 1, 4, 2, 3] (Host.dotGeneral
    dot_S8x16x4x64x128_S8x16x128x4x64_S8x16x4x128x128_3_4_4_2_012_013 none (transpose S8x16x4x64x128 [1, 0, 2, 3, 4] hist
    transposes_S16x8x4x64x128_S8x16x4x64x128_1_0_2_3_4) (mulf (shapeCast S8x16x128x4x64 x0
    shapeCasts_S8x2048x4x64_S8x16x128x4x64) (broadcastInDim S8x16x128x4x64 ![0, 1, 2, 3, 4]
    bcast_S1x1x128x4x1_S8x16x128x4x64_0_1_2_3_4 (broadcastInDim S1x1x128x4x1 ![2, 3] bcast_S128x4_S1x1x128x4x1_2_3 (transpose
    S128x4 [1, 0] qdecR transposes_S4x128_S128x4_1_0))))) transposes_S8x16x4x128x128_S8x16x128x4x128_0_1_4_2_3)

/-- The group norm and the gate of all rows. -/
def finish (o : FVec Ideal S8x16x128x4x128 .f32) (x3 : FVec Ideal S8x2048x512 .f32) (x4 x5 : FVec Ideal S512 .f32) :
    FVec Ideal S16384x512 .bf16 :=
  truncf .bf16 (shapeCast S16384x512 (mulf (mulf x3 (Host.divf (broadcastInDim S8x2048x512 ![] bcast_S_S8x2048x512 (constant
    S_ .f32 0x3F800000#32)) (addf (broadcastInDim S8x2048x512 ![] bcast_S_S8x2048x512 (constant S_ .f32 0x3F800000#32))
    (Host.exp (Host.negf x3))))) (addf (mulf (shapeCast S8x2048x512 (mulf (subf (shapeCast S8x2048x4x128 o
    shapeCasts_S8x16x128x4x128_S8x2048x4x128) (broadcastInDim S8x2048x4x128 ![0, 1, 2, 3]
    bcast_S8x2048x4x1_S8x2048x4x128_0_1_2_3 (Host.divf (broadcastInDim S8x2048x4x1 ![0, 1, 2]
    bcast_S8x2048x4_S8x2048x4x1_0_1_2 (Host.reduceAdd (shapeCast S8x2048x4x128 o shapeCasts_S8x16x128x4x128_S8x2048x4x128)
    (constant S_ .f32 0x00000000#32) reducesTo_S8x2048x4x128_S8x2048x4_d3 h_S_)) (broadcastInDim S8x2048x4x1 ![]
    bcast_S_S8x2048x4x1 (constant S_ .f32 0x43000000#32))))) (broadcastInDim S8x2048x4x128 ![0, 1, 2, 3]
    bcast_S8x2048x4x1_S8x2048x4x128_0_1_2_3 (Host.rsqrt (addf (Host.divf (broadcastInDim S8x2048x4x1 ![0, 1, 2]
    bcast_S8x2048x4_S8x2048x4x1_0_1_2 (Host.reduceAdd (mulf (subf (shapeCast S8x2048x4x128 o
    shapeCasts_S8x16x128x4x128_S8x2048x4x128) (broadcastInDim S8x2048x4x128 ![0, 1, 2, 3]
    bcast_S8x2048x4x1_S8x2048x4x128_0_1_2_3 (Host.divf (broadcastInDim S8x2048x4x1 ![0, 1, 2]
    bcast_S8x2048x4_S8x2048x4x1_0_1_2 (Host.reduceAdd (shapeCast S8x2048x4x128 o shapeCasts_S8x16x128x4x128_S8x2048x4x128)
    (constant S_ .f32 0x00000000#32) reducesTo_S8x2048x4x128_S8x2048x4_d3 h_S_)) (broadcastInDim S8x2048x4x1 ![]
    bcast_S_S8x2048x4x1 (constant S_ .f32 0x43000000#32))))) (subf (shapeCast S8x2048x4x128 o
    shapeCasts_S8x16x128x4x128_S8x2048x4x128) (broadcastInDim S8x2048x4x128 ![0, 1, 2, 3]
    bcast_S8x2048x4x1_S8x2048x4x128_0_1_2_3 (Host.divf (broadcastInDim S8x2048x4x1 ![0, 1, 2]
    bcast_S8x2048x4_S8x2048x4x1_0_1_2 (Host.reduceAdd (shapeCast S8x2048x4x128 o shapeCasts_S8x16x128x4x128_S8x2048x4x128)
    (constant S_ .f32 0x00000000#32) reducesTo_S8x2048x4x128_S8x2048x4_d3 h_S_)) (broadcastInDim S8x2048x4x1 ![]
    bcast_S_S8x2048x4x1 (constant S_ .f32 0x43000000#32)))))) (constant S_ .f32 0x00000000#32)
    reducesTo_S8x2048x4x128_S8x2048x4_d3 h_S_)) (broadcastInDim S8x2048x4x1 ![] bcast_S_S8x2048x4x1 (constant S_ .f32
    0x43000000#32))) (broadcastInDim S8x2048x4x1 ![] bcast_S_S8x2048x4x1 (constant S_ .f32 0x3727C5AC#32))))))
    shapeCasts_S8x2048x4x128_S8x2048x512) (broadcastInDim S8x2048x512 ![0, 1, 2] bcast_S1x1x512_S8x2048x512_0_1_2
    (broadcastInDim S1x1x512 ![2] bcast_S512_S1x1x512_2 x4))) (broadcastInDim S8x2048x512 ![0, 1, 2]
    bcast_S1x1x512_S8x2048x512_0_1_2 (broadcastInDim S1x1x512 ![2] bcast_S512_S1x1x512_2 x5))))
    shapeCasts_S8x2048x512_S16384x512) bitsLt_bf16_f32

/-- The result is the finished rows. -/
theorem result_rows (s : Cert.ReferenceIdeal.Step.State Ideal) (x0 x1 : FVec Ideal S8x2048x4x64 .f32) (x2 x3 : FVec Ideal S8x2048x512 .f32)
    (x4 x5 : FVec Ideal S512 .f32) :
    Cert.ReferenceIdeal.Step.R_main_v114 s x0 x1 x2 x3 x4 x5 = finish (rows x0 x1 x2 s.main_v31_4) x3 x4 x5 := rfl

/-- One row before its group norm. -/
theorem rows_at (x0 x1 : FVec Ideal S8x2048x4x64 .f32) (x2 : FVec Ideal S8x2048x512 .f32) (hist : FVec Ideal S16x8x4x64x128 .f32)
    (b : Fin 8) (n : Fin 16) (r : Fin 128) (h : Fin 4) (e : Fin 128) :
    (rows x0 x1 x2 hist (ix5 b n r h e) : EReal)
      = (∑ c : Fin 128, x2 (ix3 b ⟨n.val * 128 + c.val, by omega⟩ ⟨h.val * 128 + e.val, by omega⟩)
          * ((∑ d : Fin 64, x0 (ix4 b ⟨n.val * 128 + r.val, by omega⟩ h d) * x1 (ix4 b ⟨n.val * 128 + c.val, by omega⟩ h d)) * dinR (ix3 h r c)))
        + ∑ d : Fin 64, hist (ix5 n b h d e) * (x0 (ix4 b ⟨n.val * 128 + r.val, by omega⟩ h d) * qdecR (ix2 h r)) := by
  pointwise [rows]

/-- One element of the result, over its row. -/
theorem finish_at (o : FVec Ideal S8x16x128x4x128 .f32) (x3 : FVec Ideal S8x2048x512 .f32) (x4 x5 : FVec Ideal S512 .f32)
    (R : Fin 16384) (j : Fin 512) :
    (finish o x3 x4 x5 (ix2 R j) : EReal)
      = gnRow (fun e => o (ix5 ⟨R.val / 2048, by omega⟩ ⟨R.val % 2048 / 128, by omega⟩ ⟨R.val % 2048 % 128, by omega⟩ ⟨j.val / 128, by omega⟩ e))
          (x3 (ix3 ⟨R.val / 2048, by omega⟩ ⟨R.val % 2048, by omega⟩ j)) (x4 (ix1 j)) (x5 (ix1 j)) ⟨j.val % 128, by omega⟩ := by
  pointwise [finish]
  rfl

end Cert.ReferenceIdeal.Ret

end
-- ==== Proof.Layer.RetHistory.lean ====
/- The retention reference's loop, read at one element: the state before trip `n` is the recurrence's, and trip `n` stores it
   as the `n`-th entry of the history. -/
module

public import proofs.«01_k».proof.Proof.Layer.RetReference
public import Idealize.ShloMosaic.Lib.WordCmp

@[expose] public section

set_option maxRecDepth 16384

noncomputable section

namespace Cert.ReferenceIdeal.Ret

open Cert.ReferenceIdeal Cert.ReferenceIdeal.Gen Cert.Layer Idealize.ShloMosaic Idealize.ShloMosaic.TcCoe Idealize.SL.Sem
open Cert.ReferenceIdeal.Step

variable (x1 : FVec Ideal S8x2048x4x64 .f32) (x2 : FVec Ideal S8x2048x512 .f32)

/-- The decay of a key to the end of its chunk. -/
abbrev kdecR (h : Fin 4) (i : Fin 128) : EReal := K_main_v17 (F := Ideal) (ix2 h i)

/-- The decay of the state over a chunk. -/
abbrev cdecR (h : Fin 4) : EReal := K_main_v20 (F := Ideal) (ix1 h)

/-- The state of a batch before a chunk, over this program's arguments. -/
abbrev stateR (b : Fin 8) (n : ℕ) : Fin 4 → Fin 64 → Fin 128 → EReal :=
  retState (fun b l h d => x1 (ix4 b l h d)) (fun b l j => x2 (ix3 b l j)) kdecR cdecR b n

/-- What a chunk adds to the state. -/
theorem sum_at (n : Fin 16) (b : Fin 8) (h : Fin 4) (d : Fin 64) (e : Fin 128) :
    (A_main_v29 (F := Ideal) x1 x2 (ix5 n b h d e) : EReal)
      = ∑ i : Fin 128, (x1 (ix4 b ⟨n.val * 128 + i.val, by omega⟩ h d) * K_main_v17 (F := Ideal) (ix2 h i))
          * x2 (ix3 b ⟨n.val * 128 + i.val, by omega⟩ ⟨h.val * 128 + e.val, by omega⟩) := by
  pointwise [A_main_v29, A_main_v27, A_main_v26, A_main_v22, A_main_v21, K_main_v25, K_main_v24, K_main_v23]

/-- A position of a chunk. -/
theorem pos_eq (n : Fin 16) (i : Fin 128) : pos n.val i = ⟨n.val * 128 + i.val, by omega⟩ := Fin.ext (Nat.mod_eq_of_lt (by omega))

/-- The start of trip `j`'s entry. -/
theorem start_eq (j : ℕ) (hj : j < 16) (a : Fin 5) :
    ((![constantI S_ 32 (BitVec.ofNat 32 j), constantI S_ 32 0#32, constantI S_ 32 0#32, constantI S_ 32 0#32, constantI S_ 32 0#32] :
      Fin 5 → S_.Idx → BitVec 32) a (Shape.Idx.first h_S_)).toInt = ((![j, 0, 0, 0, 0] : Fin 5 → ℕ) a : Int) := by
  fin_cases a
  · show (BitVec.ofNat 32 j).toInt = (j : Int)
    exact (by decide : ∀ j : Fin 16, (BitVec.ofNat 32 j.val).toInt = (j.val : Int)) ⟨j, hj⟩
  all_goals rfl

/-- The sums are the loop's throughout. -/
theorem sums_eq : ∀ n, (loopState (F := Ideal) x1 x2 n).main_v31_0 = A_main_v29 x1 x2
  | 0 => rfl
  | n + 1 => sums_eq n

theorem entry_fits (n : Fin 16) : S16x8x4x64x128.Slices ![n.val, 0, 0, 0, 0] S1x8x4x64x128 :=
  (by decide : ∀ n : Fin 16, S16x8x4x64x128.Slices ![n.val, 0, 0, 0, 0] S1x8x4x64x128) n

/-- One trip's new state at one element. -/
theorem next_at (n : Fin 16) (s : State Ideal) (b : Fin 8) (h : Fin 4) (d : Fin 64) (e : Fin 128) :
    ((step n.val s).main_v31_3 (ix4 b h d e) : EReal) = cdecR h * s.main_v31_3 (ix4 b h d e) + s.main_v31_0 (ix5 n b h d e) := by
  rw [step_main_v31_3]
  have he := WordCmp.dynamicSlice_eq_extract S1x8x4x64x128 s.main_v31_0 _ sliceFits_S16x8x4x64x128_S1x8x4x64x128 ![n.val, 0, 0, 0, 0]
    (entry_fits n) (start_eq n.val n.isLt)
  refine (congrArg (fun z => addf (b8 n.val s) (shapeCast S8x4x64x128 z shapeCasts_S1x8x4x64x128_S8x4x64x128) (ix4 b h d e)) he).trans ?_
  pointwise [b8, b7, b6]

/-- One trip's history at one element. -/
theorem stored_at (n k : Fin 16) (s : State Ideal) (b : Fin 8) (h : Fin 4) (d : Fin 64) (e : Fin 128) :
    ((step n.val s).main_v31_4 (ix5 k b h d e) : EReal)
      = if k.val = n.val then s.main_v31_3 (ix4 b h d e) else s.main_v31_4 (ix5 k b h d e) := by
  rw [step_main_v31_4]
  unfold b15
  refine (congrFun (WordCmp.dynamicUpdateSlice_eq_update s.main_v31_4 (b10 n.val s) _ _ ![n.val, 0, 0, 0, 0] (entry_fits n) (start_eq n.val n.isLt)) _).trans ?_
  pointwise [b10]
  by_cases hk : k.val = n.val
  · rw [if_pos hk, dif_pos (by omega)]
  · rw [if_neg hk, dif_neg (by omega)]

/-- The state before trip `n`. -/
theorem carried_at (b : Fin 8) (h : Fin 4) (d : Fin 64) (e : Fin 128) : ∀ n, n ≤ 16 →
    ((loopState (F := Ideal) x1 x2 n).main_v31_3 (ix4 b h d e) : EReal) = stateR x1 x2 b n h d e
  | 0, _ => by
    show K_main_v28 (F := Ideal) (ix4 b h d e) = (0 : EReal)
    pointwise [K_main_v28, K_main_cst_3]
  | n + 1, hn => by
    refine (next_at ⟨n, by omega⟩ _ b h d e).trans ?_
    rw [sums_eq]
    refine congrArg₂ (fun a b : EReal => a + b) (congrArg (fun a : EReal => cdecR h * a) (carried_at b h d e n (by omega))) ?_
    refine (sum_at x1 x2 ⟨n, by omega⟩ b h d e).trans ?_
    refine Finset.sum_congr rfl fun i _ => ?_
    rw [← pos_eq ⟨n, by omega⟩ i]
    rfl

/-- The history holds the states of the trips made. -/
theorem history_at (k : Fin 16) (b : Fin 8) (h : Fin 4) (d : Fin 64) (e : Fin 128) : ∀ n, n ≤ 16 → k.val < n →
    ((loopState (F := Ideal) x1 x2 n).main_v31_4 (ix5 k b h d e) : EReal) = stateR x1 x2 b k.val h d e
  | 0, _, hk => absurd hk (by omega)
  | n + 1, hn, hk => by
    refine (stored_at ⟨n, by omega⟩ k _ b h d e).trans ?_
    by_cases he : k.val = n
    · rw [if_pos he, he]
      exact carried_at x1 x2 b h d e n (by omega)
    · rw [if_neg he]
      exact history_at k b h d e n (by omega) (by omega)

end Cert.ReferenceIdeal.Ret

end
-- ==== Proof.Layer.RetEquation.lean ====
/- The retention's equation: the kernel's result array is the reference's. The decay tables are the same on both sides; the
   query's decay, which the kernel applies to the finished row and the reference to the query, moves over the sum because
   it is a real number that is not negative. -/
module

public import proofs.«01_k».proof.Proof.Layer.RetArray
public import proofs.«01_k».proof.Proof.Layer.RetHistory

@[expose] public section

set_option maxRecDepth 16384

noncomputable section

namespace Cert.Layer

open Idealize.ShloMosaic

/-- The row with the decay applied to the query. -/
theorem retRow_query (q : Fin 64 → EReal) (k : Fin 128 → Fin 64 → EReal) (din : Fin 128 → EReal) (v : Fin 128 → Fin 128 → EReal)
    (st : Fin 64 → Fin 128 → EReal) (c : EReal) (h0 : 0 ≤ c) (ht : c ≠ ⊤) (e : Fin 128) :
    (∑ i, v i e * ((∑ d, q d * k i d) * din i)) + ∑ d, st d e * (q d * c) = retRow q k din v st (fun _ => c) e := by
  refine congrArg₂ (fun a b : EReal => a + b) (Finset.sum_congr rfl fun i _ => mul_comm _ _) ?_
  rw [sum_mul_real _ _ _ h0 ht]
  refine Finset.sum_congr rfl fun d _ => ?_
  rw [← mul_assoc, mul_comm (st d e) (q d)]

end Cert.Layer

namespace Cert.KernelIdeal.Ret

open Cert.KernelIdeal Cert.KernelIdeal.Gen Cert.Layer Idealize.ShloMosaic Idealize.ShloMosaic.TcCoe Idealize.SL.Sem

theorem din_eq : dinT = Cert.ReferenceIdeal.Ret.dinR := rfl
theorem qdec_eq : qdecT = Cert.ReferenceIdeal.Ret.qdecR := rfl
theorem kdec_eq : kdecT = Cert.ReferenceIdeal.Step.K_main_v17 (F := Ideal) := rfl
theorem cdec_eq : cdecT = Cert.ReferenceIdeal.Step.K_main_v20 (F := Ideal) := rfl

/-- The logarithm of a decay is real. -/
theorem lg_real (h : Fin 4) : ∃ x : ℝ, (lgT (ix1 h) : EReal) = x := by
  unfold lgT
  pointwise
  have hw : (FloatOps.sitofp (F := Ideal) FTy.f32 (BitVec.ofNat 32 h.val) : EReal) = ((h.val : ℝ) : EReal) := by
    show (((BitVec.ofNat 32 h.val).toInt : ℝ) : EReal) = _
    rw [show (BitVec.ofNat 32 h.val).toInt = (h.val : Int) from (by decide : ∀ h : Fin 4, (BitVec.ofNat 32 h.val).toInt = (h.val : Int)) h]
    norm_cast
  have h2 : Ideal.ofBits FTy.f32 1073741824#32 = ((2 : ℝ) : EReal) := by simp [Ideal.ofBits, Ideal.ieee, -EReal.coe_mul]; norm_num
  have h5 : Ideal.ofBits FTy.f32 3231711232#32 = ((-5 : ℝ) : EReal) := by simp [Ideal.ofBits, Ideal.ieee, -EReal.coe_mul]; norm_num
  have hlt : Real.rpow 2 (-5 - (h.val : ℝ)) < 1 := Real.rpow_lt_one_of_one_lt_of_neg (by norm_num) (by have : (0 : ℝ) ≤ h.val := Nat.cast_nonneg _; linarith)
  refine ⟨Real.log (1 - Real.rpow 2 (-5 - (h.val : ℝ))), ?_⟩
  rw [hw, h2, h5, ← EReal.coe_sub, Ideal.pow_coe_coe, ← EReal.coe_one, ← EReal.coe_sub, Ideal.log_coe, if_neg (by linarith)]

/-- A query's decay is a real number and not negative. -/
theorem qdec_real (h : Fin 4) (i : Fin 128) : 0 ≤ qdecA h i ∧ qdecA h i ≠ ⊤ := by
  obtain ⟨l, hl⟩ := lg_real h
  have hx : ∃ x : ℝ, 0 ≤ x ∧ qdecA h i = x := by
    show ∃ x : ℝ, 0 ≤ x ∧ (qdecT (ix2 h i) : EReal) = x
    unfold qdecT
    pointwise
    rw [hl]
    show ∃ x : ℝ, 0 ≤ x ∧ Ideal.exp ((((IntOp.addi (BitVec.ofNat 32 i.val) 1#32).toInt : ℝ) : EReal) * (l : EReal)) = x
    rw [← EReal.coe_mul, Ideal.exp_coe]
    exact ⟨_, (Real.exp_pos _).le, rfl⟩
  obtain ⟨x, h0, hx⟩ := hx
  rw [hx]
  exact ⟨EReal.coe_nonneg.2 h0, EReal.coe_ne_top x⟩

/-- The reference's value over the kernel's arguments. -/
abbrev value (x0 x1 : FVec Ideal S8x2048x4x64 .f32) (x2 x3 : FVec Ideal S8x2048x512 .f32) (x4 x5 : FVec Ideal S512 .f32) :
    FVec Ideal S16384x512 .bf16 :=
  Cert.ReferenceIdeal.Step.R_main_v114 (F := Ideal) (Cert.ReferenceIdeal.Ret.loopState x1 x2 16) x0 x1 x2 x3 x4 x5

/-- The reference at one token, head and column. -/
theorem value_at (x0 x1 : FVec Ideal S8x2048x4x64 .f32) (x2 x3 : FVec Ideal S8x2048x512 .f32) (x4 x5 : FVec Ideal S512 .f32)
    (b : Fin 8) (n : Fin 16) (r : Fin 128) (h : Fin 4) (e : Fin 128) :
    (value x0 x1 x2 x3 x4 x5 (ix2 ⟨b.val * 2048 + n.val * 128 + r.val, by omega⟩ (col h e)) : EReal)
      = retOut (fun b l h d => x0 (ix4 b l h d)) (fun b l h d => x1 (ix4 b l h d)) (fun b l j => x2 (ix3 b l j)) (fun b l j => x3 (ix3 b l j))
          (fun j => x4 (ix1 j)) (fun j => x5 (ix1 j)) dinA kdecA qdecA cdecA b n.val r h e := by
  have hp := Cert.ReferenceIdeal.Ret.pos_eq n
  refine (congrFun (Cert.ReferenceIdeal.Ret.result_rows _ x0 x1 x2 x3 x4 x5) _).trans ?_
  refine (Cert.ReferenceIdeal.Ret.finish_at _ x3 x4 x5 _ _).trans ?_
  have e1 : (⟨(⟨b.val * 2048 + n.val * 128 + r.val, by omega⟩ : Fin 16384).val / 2048, by omega⟩ : Fin 8) = b :=
    Fin.ext (show (b.val * 2048 + n.val * 128 + r.val) / 2048 = b.val by omega)
  have e2 : (⟨(⟨b.val * 2048 + n.val * 128 + r.val, by omega⟩ : Fin 16384).val % 2048, by omega⟩ : Fin 2048) = pos n.val r :=
    (Fin.ext (show (b.val * 2048 + n.val * 128 + r.val) % 2048 = n.val * 128 + r.val by omega)).trans (hp r).symm
  have e3 : (⟨(⟨b.val * 2048 + n.val * 128 + r.val, by omega⟩ : Fin 16384).val % 2048 / 128, by omega⟩ : Fin 16) = n :=
    Fin.ext (show (b.val * 2048 + n.val * 128 + r.val) % 2048 / 128 = n.val by omega)
  have e4 : (⟨(⟨b.val * 2048 + n.val * 128 + r.val, by omega⟩ : Fin 16384).val % 2048 % 128, by omega⟩ : Fin 128) = r :=
    Fin.ext (show (b.val * 2048 + n.val * 128 + r.val) % 2048 % 128 = r.val by omega)
  have e5 : (⟨(col h e).val / 128, by have := (col h e).isLt; omega⟩ : Fin 4) = h :=
    Fin.ext (show (h.val * 128 + e.val) / 128 = h.val by omega)
  have e6 : (⟨(col h e).val % 128, Nat.mod_lt _ (by decide)⟩ : Fin 128) = e :=
    Fin.ext (show (h.val * 128 + e.val) % 128 = e.val by omega)
  rw [e1, e2, e3, e4, e5, e6]
  refine gnRow_congr (funext fun e => ?_) rfl rfl rfl e
  refine (Cert.ReferenceIdeal.Ret.rows_at x0 x1 x2 _ b n r h e).trans ?_
  refine Eq.trans ?_ (retRow_query (fun d => x0 (ix4 b (pos n.val r) h d)) (fun c d => x1 (ix4 b (pos n.val c) h d)) (dinA h r)
    (fun c e => x2 (ix3 b (pos n.val c) (col h e))) _ (qdecA h r) (qdec_real h r).1 (qdec_real h r).2 e)
  simp only [hp]
  refine congrArg₂ (fun a b : EReal => a + b) rfl (Finset.sum_congr rfl fun d _ => ?_)
  refine congrArg₂ (fun a b : EReal => a * b) ?_ rfl
  exact Cert.ReferenceIdeal.Ret.history_at x1 x2 n b h d e 16 le_rfl n.isLt

variable (m : (ℓ : Loc nD τ sig) → Buf (Elt Ideal) ℓ)

/-- THE EQUATION: the kernel's result array is the reference's value of the same arguments. -/
theorem array_eq (c : Dev nD) : (dats m 0 c).arrAt 10 cfg0.N
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  array m c _ fun b n r h e => value_at _ _ _ _ _ _ b n r h e

end Cert.KernelIdeal.Ret

end
-- ==== Proof.Layer.RetClaim.lean ====
/- The retention: the reference's frame, and the two runs end with equal results. -/
module

public import proofs.«01_k».proof.Defs
public import proofs.«01_k».proof.Proof.Layer.RetEquation
public import proofs.«01_k».proof.Proof.Layer.RetLoop
public import proofs.«01_k».proof.Proof.Gen.KernelIdeal.Value
public import Idealize.ShloMosaic.Lib.Claim
public import Idealize.ShloMosaic.Adequacy
public import Idealize.ShloMosaic.Init

@[expose] public section

set_option maxRecDepth 16384

noncomputable section

namespace Cert.Layer.RetClaim

open Idealize.ShloMosaic Idealize.ShloMosaic.TcCoe Idealize.SL.Sem

/-- Equal arguments have equal values. -/
theorem value_congr {x0 y0 x1 y1 x2 y2 x3 y3 x4 y4 x5 y5} (h0 : y0 = x0) (h1 : y1 = x1) (h2 : y2 = x2) (h3 : y3 = x3) (h4 : y4 = x4) (h5 : y5 = x5) :
    Cert.KernelIdeal.Ret.value y0 y1 y2 y3 y4 y5 = Cert.KernelIdeal.Ret.value x0 x1 x2 x3 x4 x5 := by
  subst h0 h1 h2 h3 h4 h5
  rfl

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Ret.run (F := Ideal) m ρ)

/-- THE EQUATION of the two runs: the kernel ends with the reference's value of the same arguments. -/
theorem equal : Cert.algebraic_KernelIdeal_ReferenceIdeal := fun m ρ m' ρ' _ hag =>
  ⟨fun c => Cert.KernelIdeal.Ret.value (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)),
    (θ_run _ _ _).mono (fun r h c => ⟨(h c).1.trans (Cert.KernelIdeal.Ret.array_eq m c), (h c).2⟩) (Cert.KernelIdeal.Value.run_blocks m ρ),
    (θ_run _ _ _).mono (fun r h c => ⟨(h c).1.trans (value_congr (hag c).1 (hag c).2.1 (hag c).2.2.1 (hag c).2.2.2.1 (hag c).2.2.2.2.1 (hag c).2.2.2.2.2), (h c).2⟩) (Cert.ReferenceIdeal.Ret.run (F := Ideal) m' ρ')⟩

end Cert.Layer.RetClaim

end
-- ==== Proof.Layer.FfnBlock.lean ====
/- What the feed-forward kernel's body leaves in its output block, read at one element: the layer norm of the residual
   row of the block's row. The body fills a scratch with the hidden activations in six column tiles and loads it back
   whole, so the scratch is read first. -/
module

public import proofs.«01_k».proof.Proof.Layer.Rows
public import proofs.«01_k».proof.Proof.Gen.Kernel2Ideal.Frame
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

namespace Cert.Kernel2Ideal.Ffn

open Cert.Kernel2Ideal Cert.Kernel2Ideal.Gen Cert.Layer Idealize.ShloMosaic Idealize.ShloMosaic.TcCoe Idealize.SL.Sem
open Idealize.ShloMosaic.Pipeline (Dat)

/-- The hidden activations of a block of 1024 tokens. -/
def hidden (x : FVec Ideal S1024x1024 .f32) (w : FVec Ideal S1024x5632 .bf16) : FVec Ideal S1024x2816 .bf16 := fun i =>
  hiddenRow (fun k => x (ix2 (i 0) k)) (fun k n => w (ix2 k n)) (i 1)

/-- The layer norm at the end of the body, of the residual row. -/
theorem norm_at (x : FVec Ideal S1024x1024 .f32) (a : FVec Ideal S1024x2816 .bf16) (w2 : FVec Ideal S2816x1024 .bf16)
    (g b : FVec Ideal S1x1024 .f32) (r j : Fin 1024) :
    k0_pay1 (F := Ideal) (k0_pay19 (k0_pay2 x) a w2 g) (k0_pay20 b) (ix2 r j)
      = lnRow (fun j => Ideal.ofBits .f32 0x3F9837F0#32 * x (ix2 r j)
            + Ideal.ofBits .f32 0x3F000000#32 * ∑ n : Fin 2816, a (ix2 r n) * w2 (ix2 n j))
          (g (ix2 0 j)) (b (ix2 0 j)) j := by
  pointwise [k0_pay1, k0_pay19, k0_pay2, k0_pay20]
  rfl

variable (m : (ℓ : Loc nD τ sig) → Buf (Elt Ideal) ℓ)

/-- What the body leaves in its output block at grid point `t`. -/
theorem block_at (c : Dev nD) (t : Fin cfg0.N) (x : FVec Ideal S1024x1024 .f32) (hx : x = iblk m c 0 t)
    (w : FVec Ideal S1024x5632 .bf16) (hw : w = iblk m c 1 t) (w2 : FVec Ideal S2816x1024 .bf16) (hw2 : w2 = iblk m c 2 t)
    (g b : FVec Ideal S1x1024 .f32) (hg : g = iblk m c 3 t) (hb : b = iblk m c 4 t) (r j : Fin 1024) :
    outsAt0 m c t (ix2 r j)
      = lnRow (ffnRow (fun k => x (ix2 r k)) (fun k n => w (ix2 k n)) (fun n j => w2 (ix2 n j))) (g (ix2 0 j)) (b (ix2 0 j)) j := by
  unfold outsAt0
  frame_out
  rw [← hx, ← hw, ← hw2, ← hg, ← hb]
  refine (congrArg (fun a => k0_pay1 (F := Ideal) (k0_pay19 (k0_pay2 x) a w2 g) (k0_pay20 b) (ix2 r j)) (?_ : _ = hidden x w)).trans ?_
  · rw [View.readCov_eq_canon']
    funext (y : S1024x2816.Idx)
    rw [show (Rect.unit (s := S1024x2816) ![0, 0] ![1024, 2816] inb_S1024x2816_S1024x2816_0_0).toLoadRect.idx y = y from Rect.emb_unit_full (s := S1024x2816) (off := ![0, 0]) inb_S1024x2816_S1024x2816_0_0 y]
    clear hx hw hw2 hg hb
    canon_tiles z h using View.cover_of_tiledBy (s := S1024x2816) _ ![1024, 256] (by sl_kernel_rfl) y
    all_goals
      pointwise [k0_pay18, k0_pay17, k0_pay16, k0_pay15, k0_pay14, k0_pay13, k0_pay12, k0_pay11, k0_pay10, k0_pay9, k0_pay8,
        k0_pay7, k0_pay6, k0_pay5, k0_pay4, k0_pay3, k0_pay2]
      refine (gated_tanh _ _).trans ?_
      unfold hidden hiddenRow
      refine congrArg₂ gated ?_ ?_ <;>
        refine Finset.sum_congr rfl fun k _ => congrArg₂ (fun p q : EReal => p * q) ?_ ?_ <;> blk_ext
  · exact norm_at x (hidden x w) w2 g b r j

end Cert.Kernel2Ideal.Ffn

end
-- ==== Proof.Layer.FfnReference.lean ====
/- The feed-forward reference, read at one element: the layer norm of the residual row of its token. -/
module

public import proofs.«01_k».proof.Proof.Layer.Rows
public import proofs.«01_k».proof.Proof.Gen.Reference2Ideal.Read
public import Idealize.ShloMosaic.Lib.Pointwise

@[expose] public section

set_option maxRecDepth 16384

noncomputable section

namespace Cert.Reference2Ideal.Ffn

open Cert.Reference2Ideal Cert.Reference2Ideal.Gen Cert.Reference2Ideal.Read Cert.Layer Idealize.ShloMosaic Idealize.ShloMosaic.TcCoe Idealize.SL.Sem

variable (x : FVec Ideal S8x2048x1024 .f32) (w : FVec Ideal S1024x5632 .f32) (w2 : FVec Ideal S2816x1024 .f32)
  (g b : FVec Ideal S1024 .f32)

/-- The hidden activations of one token. -/
theorem hidden_at (i : Fin 8) (l : Fin 2048) (n : Fin 2816) :
    val_main_v4 (F := Ideal) x w (ix3 i l n) = hiddenRow (fun k => x (ix3 i l k)) (fun k n => w (ix2 k n)) n := by
  pointwise [val_main_v4, val_main_v3, val_main_call0_v5, val_main_call0_v4, val_main_call0_cst_0, val_main_call0_v3,
    val_main_call0_v2, val_main_call0_cst, val_main_call0_v1, val_main_call0_v0, val_main_v1, val_main_v2, val_main_v0]
  rfl

/-- The residual row of one token. -/
theorem residual_at (i : Fin 8) (l : Fin 2048) (j : Fin 1024) :
    val_main_v10 (F := Ideal) x w w2 (ix3 i l j)
      = ffnRow (fun k => x (ix3 i l k)) (fun k n => w (ix2 k n)) (fun n j => w2 (ix2 n j)) j := by
  pointwise [val_main_v10, val_main_v9, val_main_v8, val_main_cst_0, val_main_v7, val_main_v6, val_main_cst, val_main_v5]
  simp only [hidden_at]
  rfl

/-- The whole reference at one element. -/
theorem out_at (r : Fin 16384) (j : Fin 1024) :
    val_main_v35 (F := Ideal) x w w2 g b (ix2 r j)
      = lnRow (ffnRow (fun k => x (ix3 ⟨r.val / 2048, by omega⟩ ⟨r.val % 2048, by omega⟩ k)) (fun k n => w (ix2 k n)) (fun n j => w2 (ix2 n j)))
          (g (ix1 j)) (b (ix1 j)) j := by
  pointwise [val_main_v35, val_main_v34, val_main_v33, val_main_v32, val_main_v31, val_main_v30, val_main_v29, val_main_v28,
    val_main_v27, val_main_v26, val_main_v25, val_main_v24, val_main_cst_5, val_main_v23, val_main_v22, val_main_v21,
    val_main_v20, val_main_cst_4, val_main_v19, val_main_v18, val_main_cst_3, val_main_v17, val_main_v16, val_main_v15,
    val_main_v14, val_main_v13, val_main_cst_2, val_main_v12, val_main_v11, val_main_cst_1]
  simp only [residual_at]
  rfl

end Cert.Reference2Ideal.Ffn

end
-- ==== Proof.Layer.FfnArray.lean ====
/- The feed-forward kernel's result array is the reference's: the sixteen grid points' blocks of 1024 rows tile it, and
   each row of a block is the layer norm of the residual row of its token. -/
module

public import proofs.«01_k».proof.Proof.Layer.FfnBlock
public import proofs.«01_k».proof.Proof.Layer.FfnReference
public import Idealize.ShloMosaic.Lib.Claim

@[expose] public section

set_option maxRecDepth 16384

noncomputable section

namespace Cert.Kernel2Ideal.Ffn

open Cert.Kernel2Ideal Cert.Kernel2Ideal.Gen Cert.Layer Idealize.ShloMosaic Idealize.ShloMosaic.TcCoe Idealize.SL.Sem
open Idealize.ShloMosaic.Pipeline (Dat)

variable (m : (ℓ : Loc nD τ sig) → Buf (Elt Ideal) ℓ)

/-- Where each window's block lies at a grid point. -/
theorem index_at : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ t.val < 16 :=
  (by decide +kernel : ∀ t : Fin grid0.N, _)

/-- The reference's value over the kernel's arguments. -/
abbrev value (x : FVec Ideal S8x2048x1024 .f32) (w : FVec Ideal S1024x5632 .f32) (w2 : FVec Ideal S2816x1024 .f32)
    (g b : FVec Ideal S1024 .f32) : FVec Ideal S16384x1024 .f32 :=
  Cert.Reference2Ideal.Read.val_main_v35 (F := Ideal) x w w2 g b

/-- The token block of a grid point, row by row. -/
theorem tokens_at (c : Dev nD) (t : Fin cfg0.N) (r k : Fin 1024) (R : Fin 16384) (hR : R.val = t.val * 1024 + r.val) :
    (iblk m c 0 t (ix2 r k) : EReal)
      = m ((c : Thread nD τ).loc main_arg0) (ix3 ⟨R.val / 2048, by omega⟩ ⟨R.val % 2048, by omega⟩ k) := by
  blk_simp [iblk]
  entry_read
  pointwise
  blk_ext [index_at t]

/-- The projection into the hidden width is read whole. -/
theorem proj_at (c : Dev nD) (t : Fin cfg0.N) (k : Fin 1024) (n : Fin 5632) :
    (iblk m c 1 t (ix2 k n) : EReal) = m ((c : Thread nD τ).loc main_arg1) (ix2 k n) := by
  blk_simp [iblk]
  entry_read
  pointwise
  blk_ext [index_at t]

/-- The projection back is read whole. -/
theorem back_at (c : Dev nD) (t : Fin cfg0.N) (n : Fin 2816) (j : Fin 1024) :
    (iblk m c 2 t (ix2 n j) : EReal) = m ((c : Thread nD τ).loc main_arg2) (ix2 n j) := by
  blk_simp [iblk]
  entry_read
  pointwise
  blk_ext [index_at t]

/-- The gain row. -/
theorem gain_at (c : Dev nD) (t : Fin cfg0.N) (j : Fin 1024) :
    (iblk m c 3 t (ix2 0 j) : EReal) = m ((c : Thread nD τ).loc main_arg3) (ix1 j) := by
  blk_simp [iblk]
  entry_read
  pointwise
  blk_ext [index_at t]

/-- The offset row. -/
theorem offset_at (c : Dev nD) (t : Fin cfg0.N) (j : Fin 1024) :
    (iblk m c 4 t (ix2 0 j) : EReal) = m ((c : Thread nD τ).loc main_arg4) (ix1 j) := by
  blk_simp [iblk]
  entry_read
  pointwise
  blk_ext [index_at t]

/-- THE RESULT ARRAY after the run. -/
theorem array (c : Dev nD) : (dats m 0 c).arrAt 5 cfg0.N
    = value (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  have hy : y = ix2 (y 0) (y 1) := by funext a; fin_cases a <;> rfl
  rw [hy]
  refine (block_at m c t _ rfl _ rfl _ rfl _ _ rfl rfl (y 0) (y 1)).trans ?_
  have h0 : (y 0).val < 1024 := (y 0).isLt
  have ht : t.val < 16 := (index_at t).2.2.2.2.2.2
  have he : (win0_5.blk t).view.emb (ix2 (y 0) (y 1)) = ix2 (⟨t.val * 1024 + (y 0).val, by omega⟩ : Fin 16384) (y 1) := by
    blk_ext [index_at t]
  refine Eq.trans ?_ (congrArg (value _ _ _ _ _) he).symm
  refine Eq.trans ?_ (Cert.Reference2Ideal.Ffn.out_at _ _ _ _ _ _ (y 1)).symm
  have e0 : (fun k => (iblk m c 0 t (ix2 (y 0) k) : EReal)) = _ :=
    funext fun k => tokens_at m c t (y 0) k ⟨t.val * 1024 + (y 0).val, by omega⟩ rfl
  have e1 : (fun k n => (iblk m c 1 t (ix2 k n) : EReal)) = _ := funext fun k => funext fun n => proj_at m c t k n
  have e2 : (fun n j => (iblk m c 2 t (ix2 n j) : EReal)) = _ := funext fun n => funext fun j => back_at m c t n j
  exact lnRow_congr (ffnRow_congr e0 e1 e2) (gain_at m c t (y 1)) (offset_at m c t (y 1)) (y 1)

end Cert.Kernel2Ideal.Ffn

end
-- ==== Proof.Layer.FfnClaim.lean ====
/- The feed-forward block: the reference's frame, and the two runs end with equal results. -/
module

public import proofs.«01_k».proof.Defs
public import proofs.«01_k».proof.Proof.Layer.FfnArray
public import proofs.«01_k».proof.Proof.Gen.Kernel2Ideal.Value
public import proofs.«01_k».proof.Proof.Gen.Reference2Ideal.Run
public import proofs.«01_k».proof.Proof.Gen.Reference2Ideal.Read
public import Idealize.ShloMosaic.Lib.Claim
public import Idealize.ShloMosaic.Adequacy
public import Idealize.ShloMosaic.Init

@[expose] public section

set_option maxRecDepth 16384

noncomputable section

namespace Cert.Layer.FfnClaim

open Idealize.ShloMosaic Idealize.ShloMosaic.TcCoe Idealize.SL.Sem

/-- Equal arguments have equal values. -/
theorem value_congr {x0 y0 x1 y1 x2 y2 x3 y3 x4 y4} (h0 : y0 = x0) (h1 : y1 = x1) (h2 : y2 = x2) (h3 : y3 = x3) (h4 : y4 = x4) :
    Cert.Kernel2Ideal.Ffn.value y0 y1 y2 y3 y4 = Cert.Kernel2Ideal.Ffn.value x0 x1 x2 x3 x4 := by
  subst h0 h1 h2 h3 h4
  rfl

/-- The reference's frame. -/
theorem frame_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- THE EQUATION of the two runs: the kernel ends with the reference's value of the same arguments. -/
theorem equal : Cert.algebraic_Kernel2Ideal_Reference2Ideal := fun m ρ m' ρ' _ hag =>
  ⟨fun c => Cert.Kernel2Ideal.Ffn.value (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)),
    (θ_run _ _ _).mono (fun r h c => ⟨(h c).1.trans (Cert.Kernel2Ideal.Ffn.array m c), (h c).2⟩) (Cert.Kernel2Ideal.Value.run_blocks m ρ),
    (θ_run _ _ _).mono (fun r h c => ⟨((h c).1.trans (Cert.Reference2Ideal.Read.val_main_v35_eq ..)).trans (value_congr (hag c).1 (hag c).2.1 (hag c).2.2.1 (hag c).2.2.2.1 (hag c).2.2.2.2), (h c).2⟩) (Cert.Reference2Ideal.Value.run (F := Ideal) m' ρ')⟩

end Cert.Layer.FfnClaim

end
-- ==== Proof.Layer.MergeBlock.lean ====
/- What the merge kernel's body leaves in its output block, read at one element: the layer norm of the residual row of the
   block's row, whose mixed part is the projection of the gated sum of the three mixers. -/
module

public import proofs.«01_k».proof.Proof.Layer.Rows
public import proofs.«01_k».proof.Proof.Gen.Kernel3Ideal.Frame
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

namespace Cert.Kernel3Ideal.Merge

open Cert.Kernel3Ideal Cert.Kernel3Ideal.Gen Cert.Layer Idealize.ShloMosaic Idealize.ShloMosaic.TcCoe Idealize.SL.Sem
open Idealize.ShloMosaic.Pipeline (Dat)

/-- One gated projection of a block: the gate times the mixer's projection. -/
theorem first_at (x : FVec Ideal S1024x1024 .f32) (v : FVec Ideal S1024x1024 .bf16) (o : FVec Ideal S1024x512 .bf16)
    (w : FVec Ideal S512x1024 .bf16) (r n : Fin 1024) :
    k0_pay4 (F := Ideal) x v o w (ix2 r n)
      = sigmoid (∑ k : Fin 1024, x (ix2 r k) * v (ix2 k n)) * ∑ e : Fin 512, o (ix2 r e) * w (ix2 e n) := by
  pointwise [k0_pay4, k0_pay3, k0_pay2]
  rw [half_tanh]
  rfl

/-- The second one. -/
theorem second_at (x : FVec Ideal S1024x1024 .f32) (v : FVec Ideal S1024x1024 .bf16) (o : FVec Ideal S1024x512 .bf16)
    (w : FVec Ideal S512x1024 .bf16) (r n : Fin 1024) :
    k0_pay5 (F := Ideal) x v o w (ix2 r n)
      = sigmoid (∑ k : Fin 1024, x (ix2 r k) * v (ix2 k n)) * ∑ e : Fin 512, o (ix2 r e) * w (ix2 e n) := by
  pointwise [k0_pay5, k0_pay3, k0_pay2]
  rw [half_tanh]
  rfl

/-- The sum of the two with the third, projected and added to the residual, and its layer norm. -/
theorem norm_at (x : FVec Ideal S1024x1024 .f32) (t1 t2 : FVec Ideal S1024x1024 .f32) (v : FVec Ideal S1024x1024 .bf16)
    (o : FVec Ideal S1024x512 .bf16) (w : FVec Ideal S512x1024 .bf16) (wo : FVec Ideal S1024x1024 .bf16)
    (g b : FVec Ideal S1x1024 .f32) (r j : Fin 1024) :
    k0_pay1 (F := Ideal) (k0_pay6 g) (k0_pay7 b) (k0_pay8 (k0_pay2 x) (k0_pay3 x) t1 t2 v o w wo)
        (k0_pay9 (k0_pay2 x) (k0_pay3 x) t1 t2 v o w wo) (ix2 r j)
      = lnRow (mixRow (fun k => x (ix2 r k)) (fun n => t1 (ix2 r n) + t2 (ix2 r n)
            + sigmoid (∑ k : Fin 1024, x (ix2 r k) * v (ix2 k n)) * ∑ e : Fin 512, o (ix2 r e) * w (ix2 e n)) (fun n j => wo (ix2 n j)))
          (g (ix2 0 j)) (b (ix2 0 j)) j := by
  pointwise [k0_pay1, k0_pay6, k0_pay7, k0_pay8, k0_pay9, k0_pay3, k0_pay2]
  simp only [half_tanh]
  rfl

/-- The columns of one gate, in the block of all three. -/
theorem cols_at (wg : FVec Ideal S1024x3072 .bf16) (k n : Fin 1024) :
    (View.ld (Val := Elt Ideal) (S := S1024x3072) (e' := .bf16) wg r0_1 (ix2 k n) : EReal) = wg (ix2 k ⟨n.val, by omega⟩)
      ∧ (View.ld (Val := Elt Ideal) (S := S1024x3072) (e' := .bf16) wg r0_4 (ix2 k n) : EReal) = wg (ix2 k ⟨1024 + n.val, by omega⟩)
      ∧ (View.ld (Val := Elt Ideal) (S := S1024x3072) (e' := .bf16) wg r0_5 (ix2 k n) : EReal) = wg (ix2 k ⟨2048 + n.val, by omega⟩) := by
  refine ⟨?_, ?_, ?_⟩ <;> (pointwise; blk_ext)

/-- What the body leaves in its output block. -/
theorem block_at (x : FVec Ideal S1024x1024 .f32) (o1 o2 o3 : FVec Ideal S1024x512 .bf16) (wg : FVec Ideal S1024x3072 .bf16)
    (w1 w2 w3 : FVec Ideal S512x1024 .bf16) (wo : FVec Ideal S1024x1024 .bf16) (g b : FVec Ideal S1x1024 .f32) (r j : Fin 1024) :
    out0_11 (F := Ideal) x o1 o2 o3 wg w1 w2 w3 wo g b (ix2 r j)
      = lnRow (mixRow (fun k => x (ix2 r k))
          (mergedRow (fun k => x (ix2 r k)) (fun e => o1 (ix2 r e)) (fun e => o2 (ix2 r e)) (fun e => o3 (ix2 r e)) (fun k n => wg (ix2 k n))
            (fun e n => w1 (ix2 e n)) (fun e n => w2 (ix2 e n)) (fun e n => w3 (ix2 e n))) (fun n j => wo (ix2 n j)))
          (g (ix2 0 j)) (b (ix2 0 j)) j := by
  unfold_out out0_11
  frame_out
  refine (norm_at _ _ _ _ _ _ _ _ _ r j).trans (lnRow_congr (mixRow_congr rfl (funext fun n => ?_) rfl) rfl rfl j)
  simp only [first_at, second_at]
  unfold mergedRow
  refine congrArg₂ (fun p q : EReal => p + q) (congrArg₂ (fun p q : EReal => p + q) ?_ ?_) ?_ <;>
    refine congrArg₂ (fun p q : EReal => p * q) (congrArg sigmoid (Finset.sum_congr rfl fun k _ => ?_)) rfl <;>
    refine congrArg₂ (fun p q : EReal => p * q) rfl ?_
  · exact (cols_at wg k n).1
  · exact (cols_at wg k n).2.1
  · exact (cols_at wg k n).2.2

end Cert.Kernel3Ideal.Merge

end
-- ==== Proof.Layer.MergeReference.lean ====
/- The merge reference, read at one element: the layer norm of the residual row of its token. -/
module

public import proofs.«01_k».proof.Proof.Layer.Rows
public import proofs.«01_k».proof.Proof.Gen.Reference3Ideal.Read
public import Idealize.ShloMosaic.Lib.Pointwise

@[expose] public section

set_option maxRecDepth 16384

noncomputable section

namespace Cert.Reference3Ideal.Merge

open Cert.Reference3Ideal Cert.Reference3Ideal.Gen Cert.Reference3Ideal.Read Cert.Layer Idealize.ShloMosaic Idealize.ShloMosaic.TcCoe Idealize.SL.Sem

variable (h : FVec Ideal S8x2048x1024 .f32) (o1 o2 o3 : FVec Ideal S8x2048x512 .f32) (w : FVec Ideal S1024x7240 .f32)
  (w1 w2 w3 : FVec Ideal S512x1024 .f32) (wo : FVec Ideal S1024x1024 .f32) (g b : FVec Ideal S1024 .f32)

/-- The columns of the input projection that hold the gates. -/
abbrev gateCols (k : Fin 1024) (n : Fin 3072) : EReal := w (ix2 k ⟨4168 + n.val, by have := n.isLt; omega⟩)

/-- The sum of a token's gated projections. -/
abbrev mergedA (i : Fin 8) (l : Fin 2048) : Fin 1024 → EReal :=
  mergedRow (fun k => h (ix3 i l k)) (fun e => o1 (ix3 i l e)) (fun e => o2 (ix3 i l e)) (fun e => o3 (ix3 i l e)) (gateCols w)
    (fun e n => w1 (ix2 e n)) (fun e n => w2 (ix2 e n)) (fun e n => w3 (ix2 e n))

/-- One gate. -/
theorem gate_at (i : Fin 8) (l : Fin 2048) (n : Fin 3072) :
    val_main_v7 (F := Ideal) h w (ix3 i l n) = sigmoid (∑ k, h (ix3 i l k) * gateCols w k n) := by
  have e : ∀ k : Fin 1024, val_main_v0 (F := Ideal) w (ix2 k n) = gateCols w k n := fun k => by
    pointwise [val_main_v0]
  pointwise [val_main_v7, val_main_v6, val_main_cst_0, val_main_v5, val_main_v4, val_main_cst, val_main_v3, val_main_v2, val_main_v1]
  simp only [e, ofBits_one]
  rfl

/-- The gated sum of one token. -/
theorem merged_at (i : Fin 8) (l : Fin 2048) (n : Fin 1024) :
    val_main_v18 (F := Ideal) h o1 o2 o3 w w1 w2 w3 (ix3 i l n) = mergedA h o1 o2 o3 w w1 w2 w3 i l n := by
  pointwise [val_main_v18, val_main_v17, val_main_v16, val_main_v15, val_main_v14, val_main_v13, val_main_v12, val_main_v11,
    val_main_v10, val_main_v9, val_main_v8]
  simp only [gate_at]
  rfl

/-- The residual row of one token. -/
theorem residual_at (i : Fin 8) (l : Fin 2048) (j : Fin 1024) :
    val_main_v22 (F := Ideal) h o1 o2 o3 w w1 w2 w3 wo (ix3 i l j)
      = mixRow (fun k => h (ix3 i l k)) (mergedA h o1 o2 o3 w w1 w2 w3 i l) (fun n j => wo (ix2 n j)) j := by
  pointwise [val_main_v22, val_main_v21, val_main_v20, val_main_v19, val_main_cst_1]
  simp only [merged_at]
  rfl

/-- The whole reference at one element. -/
theorem out_at (r : Fin 16384) (j : Fin 1024) :
    val_main_v47 (F := Ideal) h o1 o2 o3 w w1 w2 w3 wo g b (ix2 r j)
      = lnRow (mixRow (fun k => h (ix3 ⟨r.val / 2048, by omega⟩ ⟨r.val % 2048, by omega⟩ k))
          (mergedA h o1 o2 o3 w w1 w2 w3 ⟨r.val / 2048, by omega⟩ ⟨r.val % 2048, by omega⟩) (fun n j => wo (ix2 n j)))
          (g (ix1 j)) (b (ix1 j)) j := by
  pointwise [val_main_v47, val_main_v46, val_main_v45, val_main_v44, val_main_v43, val_main_v42, val_main_v41, val_main_v40,
    val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_cst_2,
    val_main_cst_3, val_main_cst_4, val_main_cst_5, val_main_cst_6]
  simp only [residual_at]
  rfl

end Cert.Reference3Ideal.Merge

end
-- ==== Proof.Layer.MergeArray.lean ====
/- The merge kernel's result array is the reference's: the sixteen grid points' blocks of 1024 rows tile it, and each row of
   a block is the layer norm of the residual row of its token. -/
module

public import proofs.«01_k».proof.Proof.Layer.MergeBlock
public import proofs.«01_k».proof.Proof.Layer.MergeReference
public import Idealize.ShloMosaic.Lib.Claim

@[expose] public section

set_option maxRecDepth 16384

noncomputable section

namespace Cert.Kernel3Ideal.Merge

open Cert.Kernel3Ideal Cert.Kernel3Ideal.Gen Cert.Layer Idealize.ShloMosaic Idealize.ShloMosaic.TcCoe Idealize.SL.Sem
open Idealize.ShloMosaic.Pipeline (Dat)

variable (m : (ℓ : Loc nD τ sig) → Buf (Elt Ideal) ℓ)

/-- Where each window's block lies at a grid point. -/
theorem index_at : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ t.val < 16 :=
  (by decide +kernel : ∀ t : Fin grid0.N, _)

/-- The reference's value over the kernel's arguments. -/
abbrev value (h : FVec Ideal S8x2048x1024 .f32) (o1 o2 o3 : FVec Ideal S8x2048x512 .f32) (w : FVec Ideal S1024x7240 .f32)
    (w1 w2 w3 : FVec Ideal S512x1024 .f32) (wo : FVec Ideal S1024x1024 .f32) (g b : FVec Ideal S1024 .f32) :
    FVec Ideal S16384x1024 .f32 :=
  Cert.Reference3Ideal.Read.val_main_v47 (F := Ideal) h o1 o2 o3 w w1 w2 w3 wo g b

/-- The token block of a grid point, row by row. -/
theorem tokens_at (c : Dev nD) (t : Fin cfg0.N) (r k : Fin 1024) (R : Fin 16384) (hR : R.val = t.val * 1024 + r.val) :
    (iblk m c 0 t (ix2 r k) : EReal) = m ((c : Thread nD τ).loc main_arg0) (ix3 ⟨R.val / 2048, by omega⟩ ⟨R.val % 2048, by omega⟩ k) := by
  blk_simp [iblk]
  entry_read
  pointwise
  blk_ext [index_at t]

/-- The first mixer's rows. -/
theorem first_mixer_at (c : Dev nD) (t : Fin cfg0.N) (r : Fin 1024) (e : Fin 512) (R : Fin 16384) (hR : R.val = t.val * 1024 + r.val) :
    (iblk m c 1 t (ix2 r e) : EReal) = m ((c : Thread nD τ).loc main_arg1) (ix3 ⟨R.val / 2048, by omega⟩ ⟨R.val % 2048, by omega⟩ e) := by
  blk_simp [iblk]
  entry_read
  pointwise
  blk_ext [index_at t]

/-- The second mixer's rows. -/
theorem second_mixer_at (c : Dev nD) (t : Fin cfg0.N) (r : Fin 1024) (e : Fin 512) (R : Fin 16384) (hR : R.val = t.val * 1024 + r.val) :
    (iblk m c 2 t (ix2 r e) : EReal) = m ((c : Thread nD τ).loc main_arg2) (ix3 ⟨R.val / 2048, by omega⟩ ⟨R.val % 2048, by omega⟩ e) := by
  blk_simp [iblk]
  entry_read
  pointwise
  blk_ext [index_at t]

/-- The third mixer's rows. -/
theorem third_mixer_at (c : Dev nD) (t : Fin cfg0.N) (r : Fin 1024) (e : Fin 512) (R : Fin 16384) (hR : R.val = t.val * 1024 + r.val) :
    (iblk m c 3 t (ix2 r e) : EReal) = m ((c : Thread nD τ).loc main_arg3) (ix3 ⟨R.val / 2048, by omega⟩ ⟨R.val % 2048, by omega⟩ e) := by
  blk_simp [iblk]
  entry_read
  pointwise
  blk_ext [index_at t]

/-- The gate columns of the input projection. -/
theorem gates_at (c : Dev nD) (t : Fin cfg0.N) (k : Fin 1024) (n : Fin 3072) :
    (iblk m c 4 t (ix2 k n) : EReal) = m ((c : Thread nD τ).loc main_arg4) (ix2 k ⟨4168 + n.val, by have := n.isLt; omega⟩) := by
  blk_simp [iblk]
  entry_read
  pointwise
  blk_ext [index_at t]

/-- The first mixer's projection is read whole. -/
theorem first_weight_at (c : Dev nD) (t : Fin cfg0.N) (e : Fin 512) (n : Fin 1024) :
    (iblk m c 5 t (ix2 e n) : EReal) = m ((c : Thread nD τ).loc main_arg5) (ix2 e n) := by
  blk_simp [iblk]
  entry_read
  pointwise
  blk_ext [index_at t]

/-- The second mixer's projection is read whole. -/
theorem second_weight_at (c : Dev nD) (t : Fin cfg0.N) (e : Fin 512) (n : Fin 1024) :
    (iblk m c 6 t (ix2 e n) : EReal) = m ((c : Thread nD τ).loc main_arg6) (ix2 e n) := by
  blk_simp [iblk]
  entry_read
  pointwise
  blk_ext [index_at t]

/-- The third mixer's projection is read whole. -/
theorem third_weight_at (c : Dev nD) (t : Fin cfg0.N) (e : Fin 512) (n : Fin 1024) :
    (iblk m c 7 t (ix2 e n) : EReal) = m ((c : Thread nD τ).loc main_arg7) (ix2 e n) := by
  blk_simp [iblk]
  entry_read
  pointwise
  blk_ext [index_at t]

/-- The output projection is read whole. -/
theorem output_at (c : Dev nD) (t : Fin cfg0.N) (n j : Fin 1024) :
    (iblk m c 8 t (ix2 n j) : EReal) = m ((c : Thread nD τ).loc main_arg8) (ix2 n j) := by
  blk_simp [iblk]
  entry_read
  pointwise
  blk_ext [index_at t]

/-- The gain row. -/
theorem gain_at (c : Dev nD) (t : Fin cfg0.N) (j : Fin 1024) :
    (iblk m c 9 t (ix2 0 j) : EReal) = m ((c : Thread nD τ).loc main_arg9) (ix1 j) := by
  blk_simp [iblk]
  entry_read
  pointwise
  blk_ext [index_at t]

/-- The offset row. -/
theorem offset_at (c : Dev nD) (t : Fin cfg0.N) (j : Fin 1024) :
    (iblk m c 10 t (ix2 0 j) : EReal) = m ((c : Thread nD τ).loc main_arg10) (ix1 j) := by
  blk_simp [iblk]
  entry_read
  pointwise
  blk_ext [index_at t]

/-- THE RESULT ARRAY after the run. -/
theorem array (c : Dev nD) : (dats m 0 c).arrAt 11 cfg0.N
    = value (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10)) := by
  refine (dats m 0 c).arrAt_eq_of_covers 11 _ (by decide +kernel) fun t hf y => ?_
  blk_simp
  rw [after0_11]
  have hy : y = ix2 (y 0) (y 1) := by funext a; fin_cases a <;> rfl
  rw [hy]
  refine (block_at _ _ _ _ _ _ _ _ _ _ _ (y 0) (y 1)).trans ?_
  have h0 : (y 0).val < 1024 := (y 0).isLt
  have ht : t.val < 16 := (index_at t).2.2.2.2.2.2.2.2.2.2.2.2
  have he : (win0_11.blk t).view.emb (ix2 (y 0) (y 1)) = ix2 (⟨t.val * 1024 + (y 0).val, by omega⟩ : Fin 16384) (y 1) := by
    blk_ext [index_at t]
  refine Eq.trans ?_ (congrArg (value _ _ _ _ _ _ _ _ _ _ _) he).symm
  refine Eq.trans ?_ (Cert.Reference3Ideal.Merge.out_at _ _ _ _ _ _ _ _ _ _ _ _ (y 1)).symm
  have e0 : (fun k => (iblk m c 0 t (ix2 (y 0) k) : EReal)) = _ :=
    funext fun k => tokens_at m c t (y 0) k ⟨t.val * 1024 + (y 0).val, by omega⟩ rfl
  have e1 : (fun k => (iblk m c 1 t (ix2 (y 0) k) : EReal)) = _ :=
    funext fun k => first_mixer_at m c t (y 0) k ⟨t.val * 1024 + (y 0).val, by omega⟩ rfl
  have e2 : (fun k => (iblk m c 2 t (ix2 (y 0) k) : EReal)) = _ :=
    funext fun k => second_mixer_at m c t (y 0) k ⟨t.val * 1024 + (y 0).val, by omega⟩ rfl
  have e3 : (fun k => (iblk m c 3 t (ix2 (y 0) k) : EReal)) = _ :=
    funext fun k => third_mixer_at m c t (y 0) k ⟨t.val * 1024 + (y 0).val, by omega⟩ rfl
  have e4 : (fun k n => (iblk m c 4 t (ix2 k n) : EReal)) = _ := funext fun k => funext fun n => gates_at m c t k n
  have e5 : (fun k n => (iblk m c 5 t (ix2 k n) : EReal)) = _ := funext fun k => funext fun n => first_weight_at m c t k n
  have e6 : (fun k n => (iblk m c 6 t (ix2 k n) : EReal)) = _ := funext fun k => funext fun n => second_weight_at m c t k n
  have e7 : (fun k n => (iblk m c 7 t (ix2 k n) : EReal)) = _ := funext fun k => funext fun n => third_weight_at m c t k n
  have e8 : (fun n j => (iblk m c 8 t (ix2 n j) : EReal)) = _ := funext fun n => funext fun j => output_at m c t n j
  exact lnRow_congr (mixRow_congr e0 (mergedRow_congr e0 e1 e2 e3 e4 e5 e6 e7) e8) (gain_at m c t (y 1)) (offset_at m c t (y 1)) (y 1)

end Cert.Kernel3Ideal.Merge

end
-- ==== Proof.Layer.MergeClaim.lean ====
/- The merge: the reference's frame, and the two runs end with equal results. -/
module

public import proofs.«01_k».proof.Defs
public import proofs.«01_k».proof.Proof.Layer.MergeArray
public import proofs.«01_k».proof.Proof.Gen.Kernel3Ideal.Value
public import proofs.«01_k».proof.Proof.Gen.Reference3Ideal.Run
public import proofs.«01_k».proof.Proof.Gen.Reference3Ideal.Read
public import Idealize.ShloMosaic.Lib.Claim
public import Idealize.ShloMosaic.Adequacy
public import Idealize.ShloMosaic.Init

@[expose] public section

set_option maxRecDepth 16384

noncomputable section

namespace Cert.Layer.MergeClaim

open Idealize.ShloMosaic Idealize.ShloMosaic.TcCoe Idealize.SL.Sem

/-- Equal arguments have equal values. -/
theorem value_congr {x0 y0 x1 y1 x2 y2 x3 y3 x4 y4 x5 y5 x6 y6 x7 y7 x8 y8 x9 y9 x10 y10} (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) :
    Cert.Kernel3Ideal.Merge.value y0 y1 y2 y3 y4 y5 y6 y7 y8 y9 y10 = Cert.Kernel3Ideal.Merge.value x0 x1 x2 x3 x4 x5 x6 x7 x8 x9 x10 := by
  subst h0 h1 h2 h3 h4 h5 h6 h7 h8 h9 h10
  rfl

/-- The reference's frame. -/
theorem frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- THE EQUATION of the two runs: the kernel ends with the reference's value of the same arguments. -/
theorem equal : Cert.algebraic_Kernel3Ideal_Reference3Ideal := fun m ρ m' ρ' _ hag =>
  ⟨fun c => Cert.Kernel3Ideal.Merge.value (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) (m ((c : Thread Cert.Kernel3Ideal.nD Cert.Kernel3Ideal.τ).loc Cert.Kernel3Ideal.main_arg6)) (m ((c : Thread Cert.Kernel3Ideal.nD Cert.Kernel3Ideal.τ).loc Cert.Kernel3Ideal.main_arg7)) (m ((c : Thread Cert.Kernel3Ideal.nD Cert.Kernel3Ideal.τ).loc Cert.Kernel3Ideal.main_arg8)) (m ((c : Thread Cert.Kernel3Ideal.nD Cert.Kernel3Ideal.τ).loc Cert.Kernel3Ideal.main_arg9)) (m ((c : Thread Cert.Kernel3Ideal.nD Cert.Kernel3Ideal.τ).loc Cert.Kernel3Ideal.main_arg10)),
    (θ_run _ _ _).mono (fun r h c => ⟨(h c).1.trans (Cert.Kernel3Ideal.Merge.array m c), (h c).2⟩) (Cert.Kernel3Ideal.Value.run_blocks m ρ),
    (θ_run _ _ _).mono (fun r h c => ⟨((h c).1.trans (Cert.Reference3Ideal.Read.val_main_v47_eq ..)).trans (value_congr (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2), (h c).2⟩) (Cert.Reference3Ideal.Value.run (F := Ideal) m' ρ')⟩

end Cert.Layer.MergeClaim

end
-- ==== Proof.Layer.AttRows.lean ====
/- The memory attention as a function of rows: the logits of one query against a block of keys, their softmax, and the
   weighted sum of the values. The kernel divides the weighted sum by the sum of the exponentials; the reference divides
   each exponential. The two agree when the largest logit is a real number. -/
module

public import proofs.«01_k».proof.Proof.Layer.Scalars

@[expose] public section

set_option maxRecDepth 16384

noncomputable section

namespace Cert.Layer

open Idealize.ShloMosaic

/-- Every element of an array is a real number. -/
def AllReal {s : Shape} {φ : FTy} (a : FVec Ideal s φ) : Prop := ∀ i, ∃ x : ℝ, (a i : EReal) = x

/-- One logit. -/
def logitRow (q : Fin 128 → EReal) (k : Fin 256 → Fin 128 → EReal) (i : Fin 256) : EReal :=
  (∑ d, q d * k i d) * Ideal.ofBits .f32 0x3DB504F3#32

/-- The largest of a row of logits. -/
def topRow (l : Fin 256 → EReal) : EReal := Finset.univ.fold max (Ideal.ofBits .f32 0xFF800000#32) l

/-- The exponential of a logit's distance from the largest. -/
def powerRow (l : Fin 256 → EReal) (i : Fin 256) : EReal := Ideal.exp (l i - topRow l)

/-- The softmax of a row of logits times the values: the weighted sum over the sum of the weights. -/
def attRow (l : Fin 256 → EReal) (v : Fin 256 → EReal) : EReal :=
  Ideal.div (∑ i, powerRow l i * v i) (∑ i, powerRow l i)

/-- Equal queries, keys and values have equal results. -/
theorem att_congr {q q' : Fin 128 → EReal} {k k' : Fin 256 → Fin 128 → EReal} {v v' : Fin 256 → EReal} (hq : ∀ d, q d = q' d)
    (hk : ∀ i d, k i d = k' i d) (hv : ∀ i, v i = v' i) : attRow (logitRow q k) v = attRow (logitRow q' k') v' := by
  rw [funext hq, funext fun i => funext (hk i), funext hv]

/-- The literal the maximum starts from is `-∞`. -/
theorem ofBits_bottom : Ideal.ofBits .f32 0xFF800000#32 = (⊥ : EReal) := by
  simp [Ideal.ofBits, Ideal.ieee]

/-- The maximum with `-∞` once more changes nothing. -/
theorem max_topRow (l : Fin 256 → EReal) : max (Ideal.ofBits .f32 0xFF800000#32) (topRow l) = topRow l := by
  rw [ofBits_bottom]
  exact max_eq_right bot_le

/-- A sum of reals, as an extended real. -/
theorem coe_sum {ι : Type} (s : Finset ι) (g : ι → ℝ) : ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- A finite sum of reals is a real. -/
theorem sum_real {ι : Type} (s : Finset ι) (f : ι → EReal) (h : ∀ i, ∃ x : ℝ, f i = x) : ∃ x : ℝ, ∑ i ∈ s, f i = x := by
  choose g hg using h
  refine ⟨∑ i ∈ s, g i, ?_⟩
  rw [coe_sum]
  exact Finset.sum_congr rfl fun i _ => hg i

/-- A product of reals is a real. -/
theorem mul_real {a b : EReal} (ha : ∃ x : ℝ, a = x) (hb : ∃ x : ℝ, b = x) : ∃ x : ℝ, a * b = x := by
  obtain ⟨x, rfl⟩ := ha
  obtain ⟨y, rfl⟩ := hb
  exact ⟨x * y, (EReal.coe_mul x y).symm⟩

/-- The logits of real queries and keys are real. -/
theorem logit_real (q : Fin 128 → EReal) (k : Fin 256 → Fin 128 → EReal) (hq : ∀ d, ∃ x : ℝ, q d = x)
    (hk : ∀ i d, ∃ x : ℝ, k i d = x) (i : Fin 256) : ∃ x : ℝ, logitRow q k i = x := by
  refine mul_real (sum_real _ _ fun d => mul_real (hq d) (hk i d)) ?_
  refine ⟨(11863283 / 134217728 : ℝ), ?_⟩
  simp [Ideal.ofBits, Ideal.ieee, -EReal.coe_mul]
  norm_num

/-- The largest of a row of real logits is one of them. -/
theorem top_mem (l : Fin 256 → EReal) : ∃ i, topRow l = l i := by
  unfold topRow
  rw [ofBits_bottom]
  obtain ⟨i, _, hi⟩ := Finset.exists_mem_eq_sup (Finset.univ : Finset (Fin 256)) Finset.univ_nonempty l
  exact ⟨i, hi⟩

/-- The exponentials of a row of real logits are real and not negative, and their sum is not zero. -/
theorem power_real (l : Fin 256 → EReal) (h : ∀ i, ∃ x : ℝ, l i = x) :
    (∀ i, ∃ x : ℝ, 0 ≤ x ∧ powerRow l i = x) ∧ ∃ x : ℝ, 0 < x ∧ ∑ i, powerRow l i = x := by
  obtain ⟨j, hj⟩ := top_mem l
  choose g hg using h
  have hp : ∀ i, powerRow l i = ((Real.exp (g i - g j) : ℝ) : EReal) := fun i => by
    unfold powerRow
    rw [hj, hg, hg, ← EReal.coe_sub, Ideal.exp_coe]
  refine ⟨fun i => ⟨_, (Real.exp_pos _).le, hp i⟩, ∑ i, Real.exp (g i - g j), ?_, ?_⟩
  · exact Finset.sum_pos (fun i _ => Real.exp_pos _) ⟨0, Finset.mem_univ _⟩
  · rw [coe_sum]
    exact Finset.sum_congr rfl fun i _ => hp i

/-- The weighted sum of the values with each weight divided is the divided weighted sum, for real logits. -/
theorem att_weights (l v : Fin 256 → EReal) (h : ∀ i, ∃ x : ℝ, l i = x) :
    ∑ i, v i * Ideal.div (powerRow l i) (∑ i, powerRow l i) = attRow l v := by
  obtain ⟨_, x, hx, hs⟩ := power_real l h
  unfold attRow
  rw [hs]
  have hd : ∀ a : EReal, Ideal.div a (x : EReal) = a * ((x⁻¹ : ℝ) : EReal) := fun a => by
    rw [Ideal.div, if_neg (EReal.coe_eq_zero.not.mpr hx.ne'), EReal.coe_inv]
  rw [hd, sum_mul_real _ _ _ (EReal.coe_nonneg.2 (inv_nonneg.2 hx.le)) (EReal.coe_ne_top _)]
  refine Finset.sum_congr rfl fun i _ => ?_
  rw [hd, ← mul_assoc, mul_comm (v i)]

end Cert.Layer

end
-- ==== Proof.Layer.MemoryBlock.lean ====
/- What the memory attention's body leaves in its output block, read at one element: the softmax of the row's logits
   against the block's keys, times the values. The body projects the memory into a scratch, keys in its first 512 columns
   and values in the rest, and takes the four heads from it. -/
module

public import proofs.«01_k».proof.Proof.Layer.AttRows
public import proofs.«01_k».proof.Proof.Gen.Kernel4Ideal.Frame
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

namespace Cert.Kernel4Ideal.Memory

open Cert.Kernel4Ideal Cert.Kernel4Ideal.Gen Cert.Layer Idealize.ShloMosaic Idealize.ShloMosaic.TcCoe Idealize.SL.Sem
open Idealize.ShloMosaic.Pipeline (Dat)

/-- The first head. -/
theorem first_at (x : FVec Ideal S2048x512 .bf16) (k v : FVec Ideal S256x128 .bf16) (r : Fin 2048) (e : Fin 128) :
    k0_pay4 (F := Ideal) x k v (ix2 r e)
      = attRow (logitRow (fun d => x (ix2 r ⟨d.val, by omega⟩)) (fun i d => k (ix2 i d))) (fun i => v (ix2 i e)) := by
  pointwise [k0_pay4, k0_pay3]
  rfl

/-- The second head. -/
theorem second_at (x : FVec Ideal S2048x512 .bf16) (k v : FVec Ideal S256x128 .bf16) (r : Fin 2048) (e : Fin 128) :
    k0_pay7 (F := Ideal) (k0_pay5 x k) (k0_pay6 x k) v (ix2 r e)
      = attRow (logitRow (fun d => x (ix2 r ⟨128 + d.val, by omega⟩)) (fun i d => k (ix2 i d))) (fun i => v (ix2 i e)) := by
  pointwise [k0_pay7, k0_pay6, k0_pay5, k0_pay3]
  rfl

/-- The third head. -/
theorem third_at (x : FVec Ideal S2048x512 .bf16) (k v : FVec Ideal S256x128 .bf16) (r : Fin 2048) (e : Fin 128) :
    k0_pay8 (F := Ideal) (k0_pay3 x) k v (ix2 r e)
      = attRow (logitRow (fun d => x (ix2 r ⟨256 + d.val, by omega⟩)) (fun i d => k (ix2 i d))) (fun i => v (ix2 i e)) := by
  pointwise [k0_pay8, k0_pay3]
  rfl

/-- The fourth head. -/
theorem fourth_at (x : FVec Ideal S2048x512 .bf16) (k v : FVec Ideal S256x128 .bf16) (r : Fin 2048) (e : Fin 128) :
    k0_pay1 (F := Ideal) (k0_pay9 (k0_pay3 x) k) v (ix2 r e)
      = attRow (logitRow (fun d => x (ix2 r ⟨384 + d.val, by omega⟩)) (fun i d => k (ix2 i d))) (fun i => v (ix2 i e)) := by
  pointwise [k0_pay1, k0_pay9, k0_pay3]
  rfl

/-- The projected memory: keys and values. -/
theorem project_at (mem : FVec Ideal S256x1024 .f32) (w : FVec Ideal S1024x1024 .bf16) (i : Fin 256) (n : Fin 1024) :
    (k0_pay2 (F := Ideal) mem w (ix2 i n) : EReal) = ∑ k : Fin 1024, mem (ix2 i k) * w (ix2 k n) := by
  pointwise [k0_pay2]

/-- Two places of a matrix with equal coordinates are one. -/
theorem place {a b : ℕ} (i i' : Fin a) (j j' : Fin b) (hi : i.val = i'.val) (hj : j.val = j'.val) :
    (ix2 i j : (⟨2, ![a, b]⟩ : Shape).Idx) = ix2 i' j' := by rw [Fin.ext hi, Fin.ext hj]

/-- A head's columns of the projected memory. -/
theorem column_at (p : FVec Ideal S256x1024 .bf16) (o : ℕ) (inb : ∀ a, (![0, o] : Fin 2 → ℕ) a + (![256, 128] : Fin 2 → ℕ) a ≤ S256x1024.size a)
    (i : Fin 256) (d : Fin 128) :
    (View.ld (Val := Elt Ideal) (S := S256x1024) (e' := .bf16) p (Rect.unit (s := S256x1024) ![0, o] ![256, 128] inb) (ix2 i d) : EReal)
      = p (ix2 i ⟨o + d.val, by have h : o + 128 ≤ 1024 := inb 1; omega⟩) := by
  pointwise
  blk_ext

/-- One block of the result: each column's head and place in the head. -/
def blockValue (x : FVec Ideal S2048x512 .bf16) (p : FVec Ideal S256x1024 .bf16) : FVec Ideal S2048x512 .bf16 := fun y =>
  attRow (logitRow (fun d => x (ix2 (y 0) ⟨(y 1).val / 128 * 128 + d.val, by have : (y 1).val < 512 := (y 1).isLt; omega⟩))
      (fun i d => p (ix2 i ⟨(y 1).val / 128 * 128 + d.val, by have : (y 1).val < 512 := (y 1).isLt; omega⟩)))
    (fun i => p (ix2 i ⟨512 + (y 1).val, by have : (y 1).val < 512 := (y 1).isLt; omega⟩))

variable (m : (ℓ : Loc nD τ sig) → Buf (Elt Ideal) ℓ)

/-- What the body leaves in its output block at grid point `t`. -/
theorem block_at (c : Dev nD) (t : Fin cfg0.N) : outsAt0 m c t = blockValue (iblk m c 0 t) (k0_pay2 (iblk m c 1 t) (iblk m c 2 t)) := by
  unfold outsAt0
  frame_out
  generalize iblk m c 0 t = x
  generalize k0_pay2 (iblk m c 1 t) (iblk m c 2 t) = p
  simp (disch := decide) only [View.readCov_fill]
  funext (y : S2048x512.Idx)
  canon_tiles z h using View.cover_of_tiledBy (s := S2048x512) _ ![2048, 128] (by sl_kernel_rfl) y
  · have hz : z = ix2 (z 0) (z 1) := by funext a; fin_cases a <;> rfl
    rw [hz]
    refine (fourth_at x _ _ (z 0) (z 1)).trans (att_congr (fun d => ?_) (fun i d => ?_) fun i => ?_)
    · exact congrArg x (place _ _ _ _ h0.symm (show 384 + d.val = (y 1).val / 128 * 128 + d.val by omega))
    · refine (column_at p 384 _ i d).trans (congrArg p (place _ _ _ _ rfl ?_))
      show 384 + d.val = (y 1).val / 128 * 128 + d.val
      omega
    · refine (column_at p 896 _ i (z 1)).trans (congrArg p (place _ _ _ _ rfl ?_))
      show 896 + (z 1).val = 512 + (y 1).val
      omega
  · have hz : z = ix2 (z 0) (z 1) := by funext a; fin_cases a <;> rfl
    rw [hz]
    refine (third_at x _ _ (z 0) (z 1)).trans (att_congr (fun d => ?_) (fun i d => ?_) fun i => ?_)
    · exact congrArg x (place _ _ _ _ h0.symm (show 256 + d.val = (y 1).val / 128 * 128 + d.val by omega))
    · refine (column_at p 256 _ i d).trans (congrArg p (place _ _ _ _ rfl ?_))
      show 256 + d.val = (y 1).val / 128 * 128 + d.val
      omega
    · refine (column_at p 768 _ i (z 1)).trans (congrArg p (place _ _ _ _ rfl ?_))
      show 768 + (z 1).val = 512 + (y 1).val
      omega
  · have hz : z = ix2 (z 0) (z 1) := by funext a; fin_cases a <;> rfl
    rw [hz]
    refine (second_at x _ _ (z 0) (z 1)).trans (att_congr (fun d => ?_) (fun i d => ?_) fun i => ?_)
    · exact congrArg x (place _ _ _ _ h0.symm (show 128 + d.val = (y 1).val / 128 * 128 + d.val by omega))
    · refine (column_at p 128 _ i d).trans (congrArg p (place _ _ _ _ rfl ?_))
      show 128 + d.val = (y 1).val / 128 * 128 + d.val
      omega
    · refine (column_at p 640 _ i (z 1)).trans (congrArg p (place _ _ _ _ rfl ?_))
      show 640 + (z 1).val = 512 + (y 1).val
      omega
  · have hz : z = ix2 (z 0) (z 1) := by funext a; fin_cases a <;> rfl
    rw [hz]
    refine (first_at x _ _ (z 0) (z 1)).trans (att_congr (fun d => ?_) (fun i d => ?_) fun i => ?_)
    · exact congrArg x (place _ _ _ _ h0.symm (show d.val = (y 1).val / 128 * 128 + d.val by omega))
    · refine (column_at p 0 _ i d).trans (congrArg p (place _ _ _ _ rfl ?_))
      show 0 + d.val = (y 1).val / 128 * 128 + d.val
      omega
    · refine (column_at p 512 _ i (z 1)).trans (congrArg p (place _ _ _ _ rfl ?_))
      show 512 + (z 1).val = 512 + (y 1).val
      omega

end Cert.Kernel4Ideal.Memory

end
-- ==== Proof.Layer.MemoryReference.lean ====
/- The memory attention's reference, read at one element: the softmax of its token's logits against the memory, times the values. -/
module

public import proofs.«01_k».proof.Proof.Layer.AttRows
public import proofs.«01_k».proof.Proof.Gen.Reference4Ideal.Read
public import Idealize.ShloMosaic.Lib.Pointwise

@[expose] public section

set_option maxRecDepth 16384

noncomputable section

namespace Cert.Reference4Ideal.Memory

open Cert.Reference4Ideal Cert.Reference4Ideal.Gen Cert.Reference4Ideal.Read Cert.Layer Idealize.ShloMosaic Idealize.ShloMosaic.TcCoe Idealize.SL.Sem

variable (q : FVec Ideal S8x2048x4x128 .f32) (mem : FVec Ideal S8x256x1024 .f32) (w : FVec Ideal S1024x1024 .f32)

/-- One key of the memory, at head `h`. -/
abbrev keyA (b : Fin 8) (h : Fin 4) (i : Fin 256) (d : Fin 128) : EReal :=
  ∑ k : Fin 1024, mem (ix3 b i k) * w (ix2 k ⟨h.val * 128 + d.val, by omega⟩)

/-- One value of the memory, at head `h`. -/
abbrev valueA (b : Fin 8) (h : Fin 4) (i : Fin 256) (e : Fin 128) : EReal :=
  ∑ k : Fin 1024, mem (ix3 b i k) * w (ix2 k ⟨512 + (h.val * 128 + e.val), by omega⟩)

/-- The logits of one query. -/
abbrev logitsA (b : Fin 8) (h : Fin 4) (l : Fin 2048) : Fin 256 → EReal :=
  logitRow (fun d => q (ix4 b l h d)) (keyA mem w b h)

/-- One logit: the scaled product of a query with a key, the key a row of the memory projected. -/
theorem logit_at (b : Fin 8) (h : Fin 4) (l : Fin 2048) (i : Fin 256) :
    val_main_v7 (F := Ideal) q mem w (ix4 b h l i)
      = (∑ d : Fin 128, q (ix4 b l h d) * ∑ k : Fin 1024, mem (ix3 b i k) * w (ix2 k ⟨h.val * 128 + d.val, by omega⟩)) * Ideal.ofBits .f32 0x3DB504F3#32 := by
  pointwise [val_main_v7, val_main_v6, val_main_cst, val_main_v5, val_main_v4, val_main_v3, val_main_v2, val_main_v1, val_main_v0]

/-- The largest logit of a query. -/
theorem max_at (b : Fin 8) (h : Fin 4) (l : Fin 2048) :
    val_main_v8 (F := Ideal) q mem w (ix3 b h l) = Finset.univ.fold max (Ideal.ofBits .f32 0xFF800000#32) (fun x : Fin 256 => val_main_v7 (F := Ideal) q mem w (ix4 b h l x)) := by
  pointwise [val_main_v8, val_main_cst_0]

/-- The largest logit, joined with `-∞` once more. -/
theorem top_at (b : Fin 8) (h : Fin 4) (l : Fin 2048) (i : Fin 256) :
    val_main_v12 (F := Ideal) q mem w (ix4 b h l i)
      = max (Ideal.ofBits .f32 0xFF800000#32) (val_main_v8 (F := Ideal) q mem w (ix3 b h l)) := by
  have e : val_main_v12 (F := Ideal) q mem w (ix4 b h l i) = val_main_v10 (F := Ideal) q mem w (ix3 b h l) := by
    pointwise [val_main_v12, val_main_v11]
  have e9 : (val_main_v9 (F := Ideal) (ix3 b h l) : EReal) = Ideal.ofBits .f32 0xFF800000#32 := rfl
  rw [e, val_main_v10_apply]
  generalize (val_main_v8 (F := Ideal) q mem w (ix3 b h l)) = y
  generalize (val_main_v9 (F := Ideal) (ix3 b h l)) = z at e9 ⊢
  exact congrArg (fun x : EReal => max x y) e9

/-- The exponential of a logit less the largest. -/
theorem power_at (b : Fin 8) (h : Fin 4) (l : Fin 2048) (i : Fin 256) :
    val_main_v14 (F := Ideal) q mem w (ix4 b h l i) = Ideal.exp (val_main_v7 (F := Ideal) q mem w (ix4 b h l i) - val_main_v12 (F := Ideal) q mem w (ix4 b h l i)) := by
  pointwise [val_main_v14, val_main_v13]

/-- The sum of the exponentials. -/
theorem total_at (b : Fin 8) (h : Fin 4) (l : Fin 2048) :
    val_main_v15 (F := Ideal) q mem w (ix3 b h l) = ∑ x : Fin 256, val_main_v14 (F := Ideal) q mem w (ix4 b h l x) := by
  pointwise [val_main_v15, val_main_cst_2]

/-- One weight of the softmax. -/
theorem weight_at (b : Fin 8) (h : Fin 4) (l : Fin 2048) (i : Fin 256) :
    val_main_v18 (F := Ideal) q mem w (ix4 b h l i) = Ideal.div (val_main_v14 (F := Ideal) q mem w (ix4 b h l i)) (val_main_v15 (F := Ideal) q mem w (ix3 b h l)) := by
  pointwise [val_main_v18, val_main_v17, val_main_v16]

/-- One value. -/
theorem value_at (b : Fin 8) (i : Fin 256) (h : Fin 4) (e : Fin 128) :
    val_main_v4 (F := Ideal) mem w (ix4 b i h e) = ∑ k : Fin 1024, mem (ix3 b i k) * w (ix2 k ⟨512 + (h.val * 128 + e.val), by omega⟩) := by
  pointwise [val_main_v4, val_main_v2, val_main_v0]

/-- The result, as the weighted sum of the values. -/
theorem mix_at (r : Fin 16384) (j : Fin 512) :
    val_main_v22 (F := Ideal) q mem w (ix2 r j) = ∑ x : Fin 256, val_main_v4 (F := Ideal) mem w (ix4 ⟨r.val / 2048, by omega⟩ x ⟨j.val / 128, by omega⟩ ⟨j.val % 128, by omega⟩) * val_main_v18 (F := Ideal) q mem w (ix4 ⟨r.val / 2048, by omega⟩ ⟨j.val / 128, by omega⟩ ⟨r.val % 2048, by omega⟩ x) := by
  pointwise [val_main_v22, val_main_v21, val_main_v20, val_main_v19]

/-- The logits are the logits of the row functions. -/
theorem logits_at (b : Fin 8) (h : Fin 4) (l : Fin 2048) :
    (fun x : Fin 256 => (val_main_v7 (F := Ideal) q mem w (ix4 b h l x) : EReal)) = logitsA q mem w b h l :=
  funext fun x => logit_at q mem w b h l x

/-- The exponentials are the row functions'. -/
theorem powers_at (b : Fin 8) (h : Fin 4) (l : Fin 2048) (i : Fin 256) :
    (val_main_v14 (F := Ideal) q mem w (ix4 b h l i) : EReal) = powerRow (logitsA q mem w b h l) i := by
  rw [power_at, top_at, max_at]
  refine Eq.trans ?_ (congrArg (fun t : EReal => Ideal.exp (logitsA q mem w b h l i - t)) (max_topRow (logitsA q mem w b h l)))
  rw [← logits_at]
  rfl

/-- The reference at one element, for real logits. -/
theorem out_at (hq : AllReal q) (hm : AllReal mem) (hw : AllReal w)
    (r : Fin 16384) (j : Fin 512) :
    (val_main_v22 (F := Ideal) q mem w (ix2 r j) : EReal)
      = attRow (logitsA q mem w ⟨r.val / 2048, by omega⟩ ⟨j.val / 128, by omega⟩ ⟨r.val % 2048, by omega⟩)
          (fun i => valueA mem w ⟨r.val / 2048, by omega⟩ ⟨j.val / 128, by omega⟩ i ⟨j.val % 128, by omega⟩) := by
  rw [mix_at]
  refine Eq.trans (Finset.sum_congr rfl fun i _ => ?_) (att_weights _ _ (logit_real _ _ (fun d => hq _) fun i d =>
    sum_real _ _ fun k => mul_real (hm _) (hw _)))
  rw [weight_at, total_at, value_at]
  simp only [powers_at]

end Cert.Reference4Ideal.Memory

end
-- ==== Proof.Layer.MemoryArray.lean ====
/- The memory attention's result array is the reference's, for real arguments: the eight grid points' blocks of 2048 rows
   tile it, one batch each. -/
module

public import proofs.«01_k».proof.Proof.Layer.MemoryBlock
public import proofs.«01_k».proof.Proof.Layer.MemoryReference
public import Idealize.ShloMosaic.Lib.Claim

@[expose] public section

set_option maxRecDepth 16384

noncomputable section

namespace Cert.Kernel4Ideal.Memory

open Cert.Kernel4Ideal Cert.Kernel4Ideal.Gen Cert.Layer Idealize.ShloMosaic Idealize.ShloMosaic.TcCoe Idealize.SL.Sem
open Idealize.ShloMosaic.Pipeline (Dat)

variable (m : (ℓ : Loc nD τ sig) → Buf (Elt Ideal) ℓ)

/-- Where each window's block lies at a grid point. -/
theorem index_at : ∀ t : Fin cfg0.N, win0_0.index t = ![t.val, 0] ∧ win0_1.index t = ![t.val, 0] ∧ win0_2.index t = ![0, 0]
    ∧ win0_3.index t = ![t.val, 0] ∧ t.val < 8 :=
  (by decide +kernel : ∀ t : Fin grid0.N, _)

/-- The reference's value over the kernel's arguments. -/
abbrev value (q : FVec Ideal S8x2048x4x128 .f32) (mem : FVec Ideal S8x256x1024 .f32) (w : FVec Ideal S1024x1024 .f32) :
    FVec Ideal S16384x512 .bf16 :=
  Cert.Reference4Ideal.Read.val_main_v22 (F := Ideal) q mem w

/-- The queries of a grid point, row by row. -/
theorem queries_at (c : Dev nD) (t : Fin cfg0.N) (r : Fin 2048) (n : Fin 512) (R : Fin 16384) (hR : R.val = t.val * 2048 + r.val)
    (h : Fin 4) (d : Fin 128) (hn : n.val = h.val * 128 + d.val) :
    (iblk m c 0 t (ix2 r n) : EReal)
      = m ((c : Thread nD τ).loc main_arg0) (ix4 ⟨R.val / 2048, by omega⟩ ⟨R.val % 2048, by omega⟩ h d) := by
  blk_simp [iblk]
  entry_read
  pointwise
  blk_ext [index_at t]

/-- The memory of a grid point, row by row. -/
theorem memory_at (c : Dev nD) (t : Fin cfg0.N) (i : Fin 256) (k : Fin 1024) (b : Fin 8) (hb : b.val = t.val) :
    (iblk m c 1 t (ix2 i k) : EReal) = m ((c : Thread nD τ).loc main_arg1) (ix3 b i k) := by
  blk_simp [iblk]
  entry_read
  pointwise
  blk_ext [index_at t]

/-- The projection is read whole. -/
theorem weight_at (c : Dev nD) (t : Fin cfg0.N) (k n : Fin 1024) :
    (iblk m c 2 t (ix2 k n) : EReal) = m ((c : Thread nD τ).loc main_arg2) (ix2 k n) := by
  blk_simp [iblk]
  entry_read
  pointwise
  blk_ext [index_at t]

/-- THE RESULT ARRAY after the run. -/
theorem array (c : Dev nD) (hq : AllReal (s := S8x2048x4x128) (φ := .f32) (m ((c : Thread nD τ).loc main_arg0)))
    (hm : AllReal (s := S8x256x1024) (φ := .f32) (m ((c : Thread nD τ).loc main_arg1)))
    (hw : AllReal (s := S1024x1024) (φ := .f32) (m ((c : Thread nD τ).loc main_arg2))) : (dats m 0 c).arrAt 3 cfg0.N
    = value (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, block_at]
  have hy : y = ix2 (y 0) (y 1) := by funext a; fin_cases a <;> rfl
  rw [hy]
  have h0 : (y 0).val < 2048 := (y 0).isLt
  have h1 : (y 1).val < 512 := (y 1).isLt
  have ht : t.val < 8 := (index_at t).2.2.2.2
  have he : (win0_3.blk t).view.emb (ix2 (y 0) (y 1)) = ix2 (⟨t.val * 2048 + (y 0).val, by omega⟩ : Fin 16384) (y 1) := by
    blk_ext [index_at t]
  refine Eq.trans ?_ (congrArg (value _ _ _) he).symm
  refine Eq.trans ?_ (Cert.Reference4Ideal.Memory.out_at _ _ _ hq hm hw _ (y 1)).symm
  have hb : (t.val * 2048 + (y 0).val) / 2048 = t.val := by omega
  refine att_congr (fun d => ?_) (fun i d => ?_) fun i => ?_
  · exact queries_at m c t (y 0) _ ⟨t.val * 2048 + (y 0).val, by omega⟩ rfl ⟨(y 1).val / 128, by omega⟩ d rfl
  · refine (project_at _ _ _ _).trans (Finset.sum_congr rfl fun k _ => ?_)
    exact congrArg₂ (fun a b : EReal => a * b) (memory_at m c t i k _ hb) (weight_at m c t k _)
  · refine (project_at _ _ _ _).trans (Finset.sum_congr rfl fun k _ => ?_)
    refine congrArg₂ (fun a b : EReal => a * b) (memory_at m c t i k _ hb) ((weight_at m c t k _).trans ?_)
    refine congrArg (m ((c : Thread nD τ).loc main_arg2)) (place _ _ _ _ rfl ?_)
    show 512 + (y 1).val = 512 + ((y 1).val / 128 * 128 + (y 1).val % 128)
    omega

end Cert.Kernel4Ideal.Memory

end
-- ==== Proof.Layer.MemoryFinite.lean ====
/- What the memory attention's precondition says: every element of the three arguments is a real number. -/
module

public import proofs.«01_k».proof.Pre_finite
public import proofs.«01_k».proof.Proof.Layer.AttRows
public import Idealize.ShloMosaic.Lib.ReduceAll
public import Idealize.ShloMosaic.Lib.Pointwise

@[expose] public section

set_option maxRecDepth 16384

noncomputable section

namespace Cert.Layer.Finite

open Idealize.ShloMosaic Cert.Pre_finite

/-- The side conditions of the precondition hold. -/
instance facts : Cert.Pre_finite.Facts where
  bcast_S_S8x2048x4x128 := by decide
  reducesTo_S8x2048x4x128_S_d0_1_2_3 := by decide
  h_S_ := by decide
  bcast_S_S8x256x1024 := by decide
  reducesTo_S8x256x1024_S_d0_1_2 := by decide
  bcast_S_S1024x1024 := by decide
  reducesTo_S1024x1024_S_d0_1 := by decide

/-- A number whose absolute value is below `+∞` is real. -/
theorem real_of_small (x : Ideal .f32) (h : FloatOps.cmpf .olt (FloatOps.absf x) (FloatOps.ofBits .f32 0x7F800000#32 : Ideal .f32) = 1#1) :
    ∃ r : ℝ, (x : EReal) = r := by
  have ht : (Ideal.ofBits .f32 0x7F800000#32 : EReal) = ⊤ := by simp [Ideal.ofBits, Ideal.ieee]
  have hlt : max (x : EReal) (-(x : EReal)) < ⊤ := by
    rw [← ht]
    by_contra hn
    have h' : Ideal.cmp .olt (max (x : EReal) (-(x : EReal))) (Ideal.ofBits .f32 0x7F800000#32) = 1#1 := h
    simp only [Ideal.cmp, decide_eq_false hn] at h'
    exact absurd h' (by decide)
  induction (x : EReal) using EReal.rec with
  | bot => simp at hlt
  | top => simp at hlt
  | coe r => exact ⟨r, rfl⟩

variable [Facts]

/-- One of two words of one bit whose conjunction is 1. -/
theorem and_one {a b : BitVec 1} (h : IntOp.andi a b = 1#1) : a = 1#1 ∧ b = 1#1 := by
  revert h; revert a b; decide

/-- The precondition, element by element. -/
theorem all_real (q : FVec Ideal S8x2048x4x128 .f32) (mem : FVec Ideal S8x256x1024 .f32) (w : FVec Ideal S1024x1024 .f32)
    (h : fn (F := Ideal) q mem w = fun _ => 1#1) :
    AllReal q ∧ AllReal mem ∧ AllReal w := by
  have e := congrFun h ix0
  unfold fn at e
  haveI : Subsingleton S_.Idx := ⟨fun a b => funext fun i => i.elim0⟩
  obtain ⟨e1, e3⟩ := and_one e
  obtain ⟨e1, e2⟩ := and_one e1
  have r1 := fun i => Host.reduce_andi_all _ _ _ _ _ e1 i
  have r2 := fun i => Host.reduce_andi_all _ _ _ _ _ e2 i
  have r3 := fun i => Host.reduce_andi_all _ _ _ _ _ e3 i
  exact ⟨fun i => real_of_small _ (r1 i), fun i => real_of_small _ (r2 i), fun i => real_of_small _ (r3 i)⟩

end Cert.Layer.Finite

end
-- ==== Proof.Layer.MemoryClaim.lean ====
/- The memory attention: the frames, and under the precondition the two runs end with equal results. -/
module

public import proofs.«01_k».proof.Defs
public import proofs.«01_k».proof.Proof.Layer.MemoryArray
public import proofs.«01_k».proof.Proof.Layer.MemoryFinite
public import proofs.«01_k».proof.Proof.Gen.Kernel4Ideal.Value
public import proofs.«01_k».proof.Proof.Gen.Reference4Ideal.Run
public import proofs.«01_k».proof.Proof.Gen.Reference4Ideal.Read
public import Idealize.ShloMosaic.Lib.Claim
public import Idealize.ShloMosaic.Adequacy
public import Idealize.ShloMosaic.Init

@[expose] public section

set_option maxRecDepth 16384

noncomputable section

namespace Cert.Layer.MemoryClaim

open Idealize.ShloMosaic Idealize.ShloMosaic.TcCoe Idealize.SL.Sem

/-- Equal arguments have equal values. -/
theorem value_congr {x0 y0 x1 y1 x2 y2} (h0 : y0 = x0) (h1 : y1 = x1) (h2 : y2 = x2) :
    Cert.Kernel4Ideal.Memory.value y0 y1 y2 = Cert.Kernel4Ideal.Memory.value x0 x1 x2 := by
  subst h0 h1 h2
  rfl

/-- The reference's frame. -/
theorem frame_reference : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- The same under the precondition. -/
theorem frame_reference_finite : Cert.quiescent_Reference4Ideal_pre_finite := fun m ρ _ => frame_reference m ρ trivial

/-- The kernel's frame under the precondition. -/
theorem frame_kernel_finite : Cert.quiescent_Kernel4Ideal_pre_finite := fun m ρ _ => Cert.Kernel4Ideal.Gen.frame m ρ

/-- Under the precondition the arguments are real. -/
theorem real (m : (ℓ : Loc Cert.Kernel4Ideal.nD Cert.Kernel4Ideal.τ Cert.Kernel4Ideal.sig) → Buf (Elt Ideal) ℓ) (h : Cert.Pre_Kernel4Ideal_finite m) (c : Dev Cert.Kernel4Ideal.nD) :
    AllReal (s := Cert.Kernel4Ideal.S8x2048x4x128) (φ := .f32) (m ((c : Thread Cert.Kernel4Ideal.nD Cert.Kernel4Ideal.τ).loc Cert.Kernel4Ideal.main_arg0)) ∧
    AllReal (s := Cert.Kernel4Ideal.S8x256x1024) (φ := .f32) (m ((c : Thread Cert.Kernel4Ideal.nD Cert.Kernel4Ideal.τ).loc Cert.Kernel4Ideal.main_arg1)) ∧
    AllReal (s := Cert.Kernel4Ideal.S1024x1024) (φ := .f32) (m ((c : Thread Cert.Kernel4Ideal.nD Cert.Kernel4Ideal.τ).loc Cert.Kernel4Ideal.main_arg2)) :=
  Cert.Layer.Finite.all_real _ _ _ (h c)

/-- THE EQUATION of the two runs: the kernel ends with the reference's value of the same arguments. -/
theorem equal : Cert.algebraic_Kernel4Ideal_Reference4Ideal_pre_finite := fun m ρ m' ρ' hpre hag =>
  ⟨fun c => Cert.Kernel4Ideal.Memory.value (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)),
    (θ_run _ _ _).mono (fun r h c => ⟨(h c).1.trans (Cert.Kernel4Ideal.Memory.array m c (real m hpre c).1 (real m hpre c).2.1 (real m hpre c).2.2), (h c).2⟩) (Cert.Kernel4Ideal.Value.run_blocks m ρ),
    (θ_run _ _ _).mono (fun r h c => ⟨((h c).1.trans (Cert.Reference4Ideal.Read.val_main_v22_eq ..)).trans (value_congr (hag c).1 (hag c).2.1 (hag c).2.2), (h c).2⟩) (Cert.Reference4Ideal.Value.run (F := Ideal) m' ρ')⟩

end Cert.Layer.MemoryClaim

end
-- ==== Proof.Layer.ProjRope.lean ====
/- The rotary embedding of the projections' body, read at one element. -/
module

public import proofs.«01_k».proof.Proof.Layer.Rows
public import proofs.«01_k».proof.Proof.Gen.Kernel5Ideal.Frame
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

namespace Cert.Kernel5Ideal.Proj

open Cert.Kernel5Ideal Cert.Kernel5Ideal.Gen Cert.Layer Idealize.ShloMosaic Idealize.ShloMosaic.TcCoe Idealize.SL.Sem
open Idealize.ShloMosaic.Pipeline (Dat)

/-- Whether a lane is in the lower half of its group of 64, as the body computes it. -/
abbrev lowerHalf (n : ℕ) : BitVec 1 :=
  IntOp.cmpi CmpIPredicate.slt
    (Scalar.select
      (IntOp.andi
        (IntOp.xori
          (IntOp.cmpi CmpIPredicate.slt
            (IntOp.remsi ArithUnit.vector (BitVec.ofNat 32 n)
              (Scalar.select (Scalar.cmpi CmpIPredicate.eq 64#32 0#32) 1#32 64#32))
            0#32)
          (Scalar.cmpi CmpIPredicate.slt (Scalar.select (Scalar.cmpi CmpIPredicate.eq 64#32 0#32) 1#32 64#32)
            0#32))
        (IntOp.cmpi CmpIPredicate.ne
          (IntOp.remsi ArithUnit.vector (BitVec.ofNat 32 n)
            (Scalar.select (Scalar.cmpi CmpIPredicate.eq 64#32 0#32) 1#32 64#32))
          0#32))
      (IntOp.addi
        (IntOp.remsi ArithUnit.vector (BitVec.ofNat 32 n)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 n)
        (Scalar.select (Scalar.cmpi CmpIPredicate.eq 64#32 0#32) 1#32 64#32)))
    32#32

/-- It is what it says. -/
theorem lowerHalf_eq : ∀ j : Fin 256, lowerHalf j.val = if j.val % 64 < 32 then 1#1 else 0#1 := by decide +kernel

/-- The partner of a lane: 32 lanes on for the lower half of a group of 64, 32 lanes back for the upper half. -/
abbrev partner (j : Fin 256) : Fin 256 :=
  if j.val % 64 < 32 then ⟨(j.val + 256 - 224) % 256, by omega⟩ else ⟨(j.val + 256 - 32) % 256, by omega⟩

/-- The body's choice between the two rotations is the partner's value. -/
theorem select_partner (p : Fin 256 → EReal) (j : Fin 256) :
    Scalar.select (lowerHalf j.val) (p ⟨(j.val + 256 - 224) % 256, by omega⟩) (p ⟨(j.val + 256 - 32) % 256, by omega⟩)
      = p (partner j) := by
  rw [lowerHalf_eq]
  unfold partner
  split <;> rfl

/-- One lane rotated: the product with the cosine, plus the partner lane's with the signed sine. -/
abbrev ropeLane (p : Fin 256 → EReal) (cos sin : EReal) (j : Fin 256) : EReal := p j * cos + p (partner j) * sin

/-- The queries' rotation. -/
theorem rope_at (x : FVec Ideal S1024x1024 .f32) (cos sin : FVec Ideal S1024x256 .f32) (w : FVec Ideal S1024x256 .bf16)
    (r : Fin 1024) (j : Fin 256) :
    k0_pay5 (F := Ideal) x cos sin w (ix2 r j)
      = ropeLane (fun j => ∑ k : Fin 1024, x (ix2 r k) * w (ix2 k j)) (cos (ix2 r j)) (sin (ix2 r j)) j := by
  have e := select_partner (fun j => ∑ k : Fin 1024, x (ix2 r k) * w (ix2 k j)) j
  unfold ropeLane
  beta_reduce at e ⊢
  rw [← e]
  pointwise [k0_pay5, k0_pay2, k0_pay3, k0_pay4]

/-- The keys' rotation, scaled. -/
theorem rope_scaled_at (x : FVec Ideal S1024x1024 .f32) (cos sin : FVec Ideal S1024x256 .f32) (w : FVec Ideal S1024x256 .bf16)
    (r : Fin 1024) (j : Fin 256) :
    k0_pay18 (F := Ideal) (k0_pay3 cos) (k0_pay4 sin) (k0_pay13 (k0_pay2 x) w)
        (Scalar.select (Scalar.cmpi CmpIPredicate.eq 64#32 0#32) 1#32 64#32) k0_pay14 k0_pay15 k0_pay16 k0_pay17 (ix2 r j)
      = ropeLane (fun j => ∑ k : Fin 1024, x (ix2 r k) * w (ix2 k j)) (cos (ix2 r j)) (sin (ix2 r j)) j
        * FloatOps.ofBits (F := Ideal) .f32 0x3E000000#32 := by
  have e := select_partner (fun j => ∑ k : Fin 1024, x (ix2 r k) * w (ix2 k j)) j
  unfold ropeLane
  beta_reduce at e ⊢
  rw [← e]
  pointwise [k0_pay18, k0_pay13, k0_pay14, k0_pay15, k0_pay16, k0_pay17, k0_pay2, k0_pay3, k0_pay4]

end Cert.Kernel5Ideal.Proj

end
-- ==== Proof.Layer.ProjPieces.lean ====
/- What the projections' body leaves in the output blocks it stores piece by piece: each head's columns padded to a full
   group of lanes. -/
module

public import proofs.«01_k».proof.Proof.Layer.ProjRope
public import proofs.«01_k».proof.Proof.Gen.Kernel5Ideal.Frame
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

namespace Cert.Kernel5Ideal.Proj

open Cert.Kernel5Ideal Cert.Kernel5Ideal.Gen Cert.Layer Idealize.ShloMosaic Idealize.ShloMosaic.TcCoe Idealize.SL.Sem
open Idealize.ShloMosaic.Pipeline (Dat)

/-- Whether a lane is in the lower half of its group of 128, as the body computes it. -/
theorem lane_lt : ∀ n : Fin 128, IntOp.cmpi CmpIPredicate.slt (BitVec.ofNat 32 n.val) 64#32 = if n.val < 64 then 1#1 else 0#1 := by
  decide +kernel

/-- A choice by half of a group. -/
theorem pick {n : ℕ} (hn : n < 128) {a b d e : EReal} {P : Prop} [Decidable P] (hP : n < 64 ↔ P) (ha : n < 64 → a = d)
    (hb : ¬n < 64 → b = e) :
    Scalar.select (IntOp.cmpi CmpIPredicate.slt (BitVec.ofNat 32 n) 64#32) a b = if P then d else e := by
  have h := lane_lt ⟨n, hn⟩
  dsimp only at h
  rw [h]
  by_cases hl : n < 64
  · rw [if_pos hl, if_pos (hP.mp hl)]
    exact ha hl
  · rw [if_neg hl, if_neg (fun p => hl (hP.mpr p))]
    exact hb hl

/-- A choice by half of a group, the other way round. -/
theorem pick_not {n : ℕ} (hn : n < 128) {a b d e : EReal} {P : Prop} [Decidable P] (hP : n < 64 ↔ ¬P) (ha : n < 64 → a = e)
    (hb : ¬n < 64 → b = d) :
    Scalar.select (IntOp.cmpi CmpIPredicate.slt (BitVec.ofNat 32 n) 64#32) a b = if P then d else e := by
  have h := lane_lt ⟨n, hn⟩
  dsimp only at h
  rw [h]
  by_cases hl : n < 64
  · rw [if_pos hl, if_neg (hP.mp hl)]
    exact ha hl
  · rw [if_neg hl, if_pos (not_not.mp fun p => hl (hP.mpr p))]
    exact hb hl

/-- Two places of a matrix with equal coordinates are one. -/
theorem place {a b : ℕ} (i i' : Fin a) (j j' : Fin b) (hi : i.val = i'.val) (hj : j.val = j'.val) :
    (ix2 i j : (⟨2, ![a, b]⟩ : Shape).Idx) = ix2 i' j' := by rw [Fin.ext hi, Fin.ext hj]

/-- Each of the four heads' 64 columns, the first 64 of 128. -/
abbrev spread (f : Fin 256 → EReal) (j : Fin 512) : EReal :=
  if j.val % 128 < 64 then f ⟨j.val / 128 * 64 + j.val % 64, by omega⟩ else 0

/-- Each head's 64 columns in 128 of its own, an even head's in the lower half and an odd head's in the upper half. -/
abbrev alternate (f : Fin 512 → EReal) (j : Fin 1024) : EReal :=
  if j.val / 64 % 4 = 0 ∨ j.val / 64 % 4 = 3 then f ⟨j.val / 256 * 128 + j.val % 128, by omega⟩ else 0

/-- One head's 64 columns, at both ends of 256. -/
abbrev ends (f : Fin 64 → EReal) (j : Fin 256) : EReal :=
  if j.val / 64 = 0 ∨ j.val / 64 = 3 then f ⟨j.val % 64, by omega⟩ else 0

/-- A run of 256 columns of the weights, as the body loads it. -/
abbrev columns (w : FVec Ideal S1024x3584 .bf16) (o : ℕ) (inb : ∀ a, (![0, o] : Fin 2 → ℕ) a + (![1024, 256] : Fin 2 → ℕ) a ≤ S1024x3584.size a) :
    FVec Ideal S1024x256 .bf16 :=
  View.ld (Val := Elt Ideal) (S := S1024x3584) (e' := .bf16) w (Rect.unit (s := S1024x3584) ![0, o] ![1024, 256] inb)

theorem columns_at (w : FVec Ideal S1024x3584 .bf16) (o : ℕ)
    (inb : ∀ a, (![0, o] : Fin 2 → ℕ) a + (![1024, 256] : Fin 2 → ℕ) a ≤ S1024x3584.size a) (k : Fin 1024) (j : Fin 256) :
    (columns w o inb (ix2 k j) : EReal) = w (ix2 k ⟨o + j.val, by have h : o + 256 ≤ 3584 := inb 1; omega⟩) := by
  unfold columns
  pointwise

variable (m : (ℓ : Loc nD τ sig) → Buf (Elt Ideal) ℓ)

/-- The retention's queries, rotated. -/
theorem queries_at (c : Dev nD) (t : Fin cfg0.N) (x : FVec Ideal S1024x1024 .f32) (hx : x = iblk m c 0 t)
    (w : FVec Ideal S1024x3584 .bf16) (hw : w = X0_1 m c t) (cos sin : FVec Ideal S1024x256 .f32) (hcos : cos = iblk m c 4 t)
    (hsin : sin = iblk m c 5 t) (r : Fin 1024) (j : Fin 512) :
    (outsAt0 m c t).1 (ix2 r j) = spread (fun j => ropeLane (fun j => ∑ k : Fin 1024, x (ix2 r k) * w (ix2 k ⟨0 + j.val, by omega⟩))
      (cos (ix2 r j)) (sin (ix2 r j)) j) j := by
  unfold outsAt0
  frame_out
  rw [← hx, ← hw, ← hcos, ← hsin]
  have hf : ∀ (r : Fin 1024) (j : Fin 256), (k0_pay5 (F := Ideal) x cos sin (columns w 0 inb_S1024x3584_S1024x256_0_0) (ix2 r j) : EReal)
      = ropeLane (fun j => ∑ k : Fin 1024, x (ix2 r k) * w (ix2 k ⟨0 + j.val, by omega⟩)) (cos (ix2 r j)) (sin (ix2 r j)) j := fun r j => by
    refine (rope_at _ _ _ _ r j).trans (congrArg (fun p => ropeLane p (cos (ix2 r j)) (sin (ix2 r j)) j) (funext fun j => ?_))
    exact Finset.sum_congr rfl fun k _ => congrArg (fun q : EReal => x (ix2 r k) * q) (columns_at w 0 _ k j)
  simp only [← hf]
  unfold k0_pay7
  generalize k0_pay5 (F := Ideal) x cos sin (columns w 0 inb_S1024x3584_S1024x256_0_0) = f
  generalize hy : (ix2 r j : S1024x512.Idx) = y
  have hy0 : (y 0).val = r.val := by rw [← hy]; rfl
  have hy1 : (y 1).val = j.val := by rw [← hy]; rfl
  clear hy hf
  canon_tiles z h using View.cover_of_tiledBy (s := S1024x512) _ ![1024, 128] (by sl_kernel_rfl) y
  all_goals
    have hz : z = ix2 (z 0) (z 1) := by funext a; fin_cases a <;> rfl
    rw [hz]
    pointwise [k0_pay12, k0_pay11, k0_pay10, k0_pay9, k0_pay8, k0_pay6]
    refine pick z1_lt (by omega) (fun hl => congrArg f (place _ _ _ _ ?_ ?_)) fun _ => ?_ <;> first | rfl | omega | (dsimp only; omega)

/-- The retention's keys before their padding: rotated and scaled. -/
abbrev keyRow (x : FVec Ideal S1024x1024 .f32) (w : FVec Ideal S1024x3584 .bf16) (cos sin : FVec Ideal S1024x256 .f32) (r : Fin 1024)
    (j : Fin 256) : EReal :=
  ropeLane (fun j => ∑ k : Fin 1024, x (ix2 r k) * w (ix2 k ⟨256 + j.val, by omega⟩)) (cos (ix2 r j)) (sin (ix2 r j)) j
    * FloatOps.ofBits (F := Ideal) .f32 0x3E000000#32

/-- What the body computes of them. -/
theorem key_row_at (x : FVec Ideal S1024x1024 .f32) (w : FVec Ideal S1024x3584 .bf16) (cos sin : FVec Ideal S1024x256 .f32) (r : Fin 1024)
    (j : Fin 256) :
    (k0_pay18 (F := Ideal) (k0_pay3 cos) (k0_pay4 sin) (k0_pay13 (k0_pay2 x) (columns w 256 inb_S1024x3584_S1024x256_0_256)) 64#32 k0_pay14
        k0_pay15 k0_pay16 k0_pay17 (ix2 r j) : EReal) = keyRow x w cos sin r j := by
  refine (rope_scaled_at _ _ _ _ r j).trans (congrArg (fun p => ropeLane p (cos (ix2 r j)) (sin (ix2 r j)) j
    * FloatOps.ofBits (F := Ideal) .f32 0x3E000000#32) (funext fun j => ?_))
  exact Finset.sum_congr rfl fun k _ => congrArg (fun q : EReal => x (ix2 r k) * q) (columns_at w 256 _ k j)

/-- The retention's keys, padded. -/
theorem keys_at (c : Dev nD) (t : Fin cfg0.N) (x : FVec Ideal S1024x1024 .f32) (hx : x = iblk m c 0 t)
    (w : FVec Ideal S1024x3584 .bf16) (hw : w = X0_1 m c t) (cos sin : FVec Ideal S1024x256 .f32) (hcos : cos = iblk m c 4 t)
    (hsin : sin = iblk m c 5 t) (r : Fin 1024) (j : Fin 512) :
    (outsAt0 m c t).2.1 (ix2 r j) = spread (keyRow x w cos sin r) j := by
  unfold outsAt0
  frame_out
  rw [← hx, ← hw, ← hcos, ← hsin]
  have hf := key_row_at x w cos sin
  refine Eq.trans ?_ (congrArg (fun f => spread f j) (funext fun j => hf r j))
  unfold k0_pay25 k0_pay24 k0_pay23 k0_pay22 k0_pay21 k0_pay20
  generalize k0_pay18 (F := Ideal) (k0_pay3 cos) (k0_pay4 sin) (k0_pay13 (k0_pay2 x) (columns w 256 inb_S1024x3584_S1024x256_0_256)) 64#32
    k0_pay14 k0_pay15 k0_pay16 k0_pay17 = f
  generalize hy : (ix2 r j : S1024x512.Idx) = y
  have hy0 : (y 0).val = r.val := by rw [← hy]; rfl
  have hy1 : (y 1).val = j.val := by rw [← hy]; rfl
  clear hy hf
  canon_tiles z h using View.cover_of_tiledBy (s := S1024x512) _ ![1024, 128] (by sl_kernel_rfl) y
  all_goals
    have hz : z = ix2 (z 0) (z 1) := by funext a; fin_cases a <;> rfl
    rw [hz]
    pointwise [k0_pay19]
    refine pick z1_lt (by omega) (fun hl => congrArg f (place _ _ _ _ ?_ ?_)) fun _ => ?_ <;> first | rfl | omega | (dsimp only; omega)

/-- The retention's keys, decayed and transposed. -/
theorem decayed_keys_at (c : Dev nD) (t : Fin cfg0.N) (x : FVec Ideal S1024x1024 .f32) (hx : x = iblk m c 0 t)
    (w : FVec Ideal S1024x3584 .bf16) (hw : w = X0_1 m c t) (cos sin dec : FVec Ideal S1024x256 .f32) (hcos : cos = iblk m c 4 t)
    (hsin : sin = iblk m c 5 t) (hdec : dec = iblk m c 6 t) (j : Fin 256) (r : Fin 1024) :
    (outsAt0 m c t).2.2.1 (ix2 j r) = (keyRow x w cos sin r j * dec (ix2 r j) : EReal) := by
  unfold outsAt0
  frame_out
  rw [← hx, ← hw, ← hcos, ← hsin, ← hdec]
  refine Eq.trans ?_ (congrArg (fun f : EReal => f * dec (ix2 r j)) (key_row_at x w cos sin r j))
  generalize k0_pay18 (F := Ideal) (k0_pay3 cos) (k0_pay4 sin) (k0_pay13 (k0_pay2 x) (columns w 256 inb_S1024x3584_S1024x256_0_256)) 64#32
    k0_pay14 k0_pay15 k0_pay16 k0_pay17 = f
  pointwise [k0_pay26]

/-- The sparse attention's keys. -/
theorem sparse_keys_at (c : Dev nD) (t : Fin cfg0.N) (x : FVec Ideal S1024x1024 .f32) (hx : x = iblk m c 0 t)
    (w : FVec Ideal S1024x3584 .bf16) (hw : w = X0_1 m c t) (r : Fin 1024) (j : Fin 1024) :
    (outsAt0 m c t).2.2.2.2.2.2.1 (ix2 r j)
      = alternate (fun j => ∑ k : Fin 1024, x (ix2 r k) * w (ix2 k ⟨2048 + j.val, by omega⟩)) j := by
  unfold outsAt0
  frame_out
  rw [← hx, ← hw]
  have hf : ∀ j : Fin 512, (k0_pay30 (F := Ideal) (k0_pay2 x) (View.ld (Val := Elt Ideal) (S := S1024x3584) (e' := .bf16) w
        (Rect.unit (s := S1024x3584) ![0, 2048] ![1024, 512] inb_S1024x3584_S1024x512_0_2048)) (ix2 r j) : EReal)
      = ∑ k : Fin 1024, x (ix2 r k) * w (ix2 k ⟨2048 + j.val, by omega⟩) := fun j => by
    pointwise [k0_pay30, k0_pay2]
  refine Eq.trans ?_ (congrArg (fun f => alternate f j) (funext hf))
  unfold k0_pay32
  generalize k0_pay30 (F := Ideal) (k0_pay2 x) (View.ld (Val := Elt Ideal) (S := S1024x3584) (e' := .bf16) w
        (Rect.unit (s := S1024x3584) ![0, 2048] ![1024, 512] inb_S1024x3584_S1024x512_0_2048)) = f
  generalize hy : (ix2 r j : S1024x1024.Idx) = y
  have hy0 : (y 0).val = r.val := by rw [← hy]; rfl
  have hy1 : (y 1).val = j.val := by rw [← hy]; rfl
  clear hy hf
  canon_tiles z h using View.cover_of_tiledBy (s := S1024x1024) _ ![1024, 128] (by sl_kernel_rfl) y
  all_goals
    have hz : z = ix2 (z 0) (z 1) := by funext a; fin_cases a <;> rfl
    rw [hz]
    pointwise [k0_pay33, k0_pay34, k0_pay36, k0_pay37, k0_pay39, k0_pay40, k0_pay42, k0_pay44, k0_pay31, k0_pay35, k0_pay38, k0_pay41, k0_pay43]
    first
      | refine pick z1_lt (by omega) (fun hl => congrArg f (place _ _ _ _ ?_ ?_)) fun _ => ?_ <;> first | rfl | omega | (dsimp only; omega)
      | refine pick_not z1_lt (by omega) (fun _ => ?_) fun hl => congrArg f (place _ _ _ _ ?_ ?_) <;> first | rfl | omega | (dsimp only; omega)

/-- The indexer's keys, at both ends of a wide row. -/
theorem wide_index_keys_at (c : Dev nD) (t : Fin cfg0.N) (x : FVec Ideal S1024x1024 .f32) (hx : x = iblk m c 0 t)
    (w : FVec Ideal S640x1024 .bf16) (hw : w = iblk m c 3 t) (r : Fin 1024) (j : Fin 256) :
    (outsAt0 m c t).2.2.2.2.2.2.2.2.2.2.2 (ix2 r j) = ends (fun j => ∑ k : Fin 1024, x (ix2 r k) * w (ix2 ⟨512 + j.val, by omega⟩ k)) j := by
  unfold outsAt0
  frame_out
  rw [← hx, ← hw]
  have hf : ∀ n : Fin 128, (k0_pay48 (F := Ideal) (k0_pay2 x) w (ix2 n r) : EReal)
      = ∑ k : Fin 1024, x (ix2 r k) * w (ix2 ⟨512 + n.val, by omega⟩ k) := fun n => by
    pointwise [k0_pay48, k0_pay47, k0_pay2]
    exact Finset.sum_congr rfl fun k _ => mul_comm _ _
  refine Eq.trans ?_ (congrArg (fun f => ends f j) (funext fun n : Fin 64 => hf ⟨n.val, by omega⟩))
  unfold k0_pay51 k0_pay50 k0_pay49
  generalize k0_pay48 (F := Ideal) (k0_pay2 x) w = f
  generalize hy : (ix2 r j : S1024x256.Idx) = y
  have hy0 : (y 0).val = r.val := by rw [← hy]; rfl
  have hy1 : (y 1).val = j.val := by rw [← hy]; rfl
  clear hy hf
  canon_tiles z h using View.cover_of_tiledBy (s := S1024x256) _ ![1024, 128] (by sl_kernel_rfl) y
  all_goals
    have hz : z = ix2 (z 0) (z 1) := by funext a; fin_cases a <;> rfl
    rw [hz]
    pointwise
    refine pick (by omega) (by omega) (fun hl => congrArg f (place _ _ _ _ ?_ ?_)) fun _ => ?_ <;> first | rfl | omega | (dsimp only; omega)

end Cert.Kernel5Ideal.Proj

end
-- ==== Proof.Layer.ProjValues.lean ====
/- What the projections' body leaves in the block of the sparse attention's values: four blocks of keys, in each the eight
   heads' 64 rows, followed by 16 rows of ones. -/
module

public import proofs.«01_k».proof.Proof.Layer.ProjPieces
public import proofs.«01_k».proof.Proof.Gen.Kernel5Ideal.Frame
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

namespace Cert.Kernel5Ideal.Proj

open Cert.Kernel5Ideal Cert.Kernel5Ideal.Gen Cert.Layer Idealize.ShloMosaic Idealize.ShloMosaic.TcCoe Idealize.SL.Sem
open Idealize.ShloMosaic.Pipeline (Dat)

/-- One element of the block over the transposed products `f`. -/
abbrev onesBelow (f : Fin 512 → Fin 1024 → EReal) (s : Fin 4) (i : Fin 640) (k : Fin 256) : EReal :=
  if i.val % 80 < 64 then f ⟨i.val / 80 * 64 + i.val % 80 % 64, by omega⟩ ⟨s.val * 256 + k.val, by omega⟩ else 1

variable (m : (ℓ : Loc nD τ sig) → Buf (Elt Ideal) ℓ)

/-- The sparse attention's values. -/
theorem sparse_values_at (c : Dev nD) (t : Fin cfg0.N) (x : FVec Ideal S1024x1024 .f32) (hx : x = iblk m c 0 t)
    (w : FVec Ideal S640x1024 .bf16) (hw : w = iblk m c 3 t) (s : Fin 4) (i : Fin 640) (k : Fin 256) :
    (outsAt0 m c t).2.2.2.2.2.2.2.1 (ix3 s i k)
      = onesBelow (fun j r => ∑ k : Fin 1024, x (ix2 r k) * w (ix2 ⟨j.val, by omega⟩ k)) s i k := by
  unfold outsAt0
  frame_out
  rw [← hx, ← hw]
  have hf : ∀ (j : Fin 512) (r : Fin 1024), (k0_pay52 (F := Ideal) (k0_pay47 (k0_pay2 x) w) (ix2 j r) : EReal)
      = ∑ k : Fin 1024, x (ix2 r k) * w (ix2 ⟨0 + j.val, by omega⟩ k) := fun j r => by
    pointwise [k0_pay52, k0_pay47, k0_pay2]
    exact Finset.sum_congr rfl fun k _ => mul_comm _ _
  simp only [Nat.zero_add] at hf
  refine Eq.trans ?_ (congrArg (fun f => onesBelow f s i k) (funext fun j => funext fun r => hf j r))
  unfold k0_pay54 k0_pay56 k0_pay58 k0_pay60
  generalize k0_pay52 (F := Ideal) (k0_pay47 (k0_pay2 x) w) = f
  generalize hy : (ix3 s i k : S4x640x256.Idx) = y
  have hy0 : (y 0).val = s.val := by rw [← hy]; rfl
  have hy1 : (y 1).val = i.val := by rw [← hy]; rfl
  have hy2 : (y 2).val = k.val := by rw [← hy]; rfl
  clear hy hf
  canon_tiles z h using View.cover_of_tiledBy (s := S4x640x256) _ ![1, 16, 256] (by sl_kernel_rfl) y
  all_goals
    have hz : z = ix3 (z 0) (z 1) (z 2) := by funext a; fin_cases a <;> rfl
    rw [hz]
    pointwise [k0_pay54, k0_pay55, k0_pay56, k0_pay57, k0_pay58, k0_pay59, k0_pay60, k0_pay61, k0_pay62, k0_pay63,
      k0_pay64, k0_pay65, k0_pay66, k0_pay67, k0_pay68, k0_pay69, k0_pay70, k0_pay71, k0_pay72, k0_pay73, k0_pay74,
      k0_pay75, k0_pay76, k0_pay77, k0_pay78, k0_pay79, k0_pay80, k0_pay81, k0_pay82, k0_pay83, k0_pay84, k0_pay85,
      k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106,
      k0_pay107, k0_pay108, k0_pay109, k0_pay110, k0_pay111, k0_pay112, k0_pay113, k0_pay114, k0_pay115, k0_pay116,
      k0_pay1, k0_pay53]
    unfold onesBelow
    first
      | (rw [if_pos (by omega)]
         refine congrArg f (place _ _ _ _ ?_ ?_) <;> first | rfl | omega | (dsimp only; omega))
      | (rw [if_neg (by omega)])

end Cert.Kernel5Ideal.Proj

end
-- ==== Proof.Layer.ProjReference.lean ====
/- The projections' reference, read at one element. -/
module

public import proofs.«01_k».proof.Proof.Layer.ProjValues
public import proofs.«01_k».proof.Proof.Gen.Reference5Ideal.Read
public import Idealize.ShloMosaic.Lib.Pointwise

@[expose] public section

set_option maxRecDepth 16384

noncomputable section

namespace Cert.Reference5Ideal.Proj

open Cert.Reference5Ideal Cert.Reference5Ideal.Gen Cert.Reference5Ideal.Read Cert.Layer Cert.Kernel5Ideal.Proj Idealize.ShloMosaic Idealize.ShloMosaic.TcCoe Idealize.SL.Sem

variable (h : FVec Ideal S8x2048x1024 .f32) (w : FVec Ideal S1024x7240 .f32)

/-- A token's product with one column of the input projection. -/
abbrev product (R : Fin 16384) (n : Fin 7240) : EReal :=
  ∑ k : Fin 1024, h (ix3 ⟨R.val / 2048, by omega⟩ ⟨R.val % 2048, by omega⟩ k) * w (ix2 k n)

theorem at_token (R : Fin 16384) (n : Fin 7240) :
    val_main_v0 (F := Ideal) h w (ix3 ⟨R.val / 2048, by omega⟩ ⟨R.val % 2048, by omega⟩ n) = product h w R n := by
  pointwise [val_main_v0]

/-- The same, by a token's place in the batch. -/
theorem at_place (R : Fin 16384) (n n' : Fin 7240) (b : Fin 8) (l : Fin 2048) (hb : b.val = R.val / 2048) (hl : l.val = R.val % 2048)
    (hn : n.val = n'.val) : val_main_v0 (F := Ideal) h w (ix3 b l n) = product h w R n' := by
  have e1 : b = ⟨R.val / 2048, by omega⟩ := Fin.ext hb
  have e2 : l = ⟨R.val % 2048, by omega⟩ := Fin.ext hl
  rw [e1, e2, Fin.ext hn]
  exact at_token h w R n'

/-- The retention's values. -/
theorem values_at (R : Fin 16384) (j : Fin 512) :
    val_main_v127 (F := Ideal) h w (ix2 R j) = product h w R ⟨512 + j.val, by omega⟩ := by
  pointwise [val_main_v127, val_main_v126, val_main_v3, val_main_v0]

/-- The retention's gates. -/
theorem gates_at (R : Fin 16384) (j : Fin 512) :
    val_main_v128 (F := Ideal) h w (ix2 R j) = product h w R ⟨1024 + j.val, by omega⟩ := by
  pointwise [val_main_v128, val_main_v4, val_main_v0]

/-- The sparse attention's queries. -/
theorem sparse_queries_at (j : Fin 512) (R : Fin 16384) :
    val_main_v133 (F := Ideal) h w (ix2 j R)
      = (product h w R ⟨1536 + j.val, by omega⟩ * FloatOps.ofBits (F := Ideal) .f32 0x3E38AA3B#32 : EReal) := by
  pointwise [val_main_v133, val_main_v132, val_main_v131, val_main_v130, val_main_v129, val_main_cst_14, val_main_v5, val_main_v0]

/-- The indexer's queries. -/
theorem index_queries_at (j : Fin 512) (R : Fin 16384) :
    val_main_v140 (F := Ideal) h w (ix2 j R) = product h w R ⟨3072 + j.val, by omega⟩ := by
  pointwise [val_main_v140, val_main_v139, val_main_v138, val_main_v8, val_main_v0]

/-- The memory attention's queries. -/
theorem memory_queries_at (R : Fin 16384) (j : Fin 512) :
    val_main_v142 (F := Ideal) h w (ix2 R j) = product h w R ⟨3656 + j.val, by omega⟩ := by
  pointwise [val_main_v142, val_main_v141, val_main_v11, val_main_v0]

/-- The indexer's keys and weights. -/
theorem index_keys_at (j : Fin 128) (R : Fin 16384) :
    val_main_v145 (F := Ideal) h w (ix2 j R) = product h w R ⟨3584 + j.val, by omega⟩ := by
  pointwise [val_main_v145, val_main_v144, val_main_v143, val_main_v0]

/-- The sparse attention's keys. -/
theorem sparse_keys_at (R : Fin 16384) (j : Fin 1024) :
    val_main_v135 (F := Ideal) h w (ix2 R j)
      = if j.val / 64 % 4 = 0 ∨ j.val / 64 % 4 = 3 then product h w R ⟨2048 + (j.val / 256 * 128 + j.val % 128), by omega⟩ else 0 := by
  pointwise [val_main_v135, val_main_v134, val_main_v105, val_main_v101, val_main_v102, val_main_v103, val_main_v104, val_main_v100,
    val_main_cst_7, val_main_cst_8, val_main_v6]
  by_cases h1 : j.val % 256 < 64
  · refine (dif_pos h1).trans (Eq.trans ?_ (if_pos (show j.val / 64 % 4 = 0 ∨ j.val / 64 % 4 = 3 by omega)).symm)
    exact at_place h w _ _ _ _ _ rfl rfl (by show 2048 + (j.val / 256 * 128 + j.val % 256) = 2048 + (j.val / 256 * 128 + j.val % 128); omega)
  · refine (dif_neg h1).trans ?_
    by_cases h2 : j.val % 256 - 64 < 64
    · exact (dif_pos h2).trans (if_neg (show ¬(j.val / 64 % 4 = 0 ∨ j.val / 64 % 4 = 3) by omega)).symm
    · refine (dif_neg h2).trans ?_
      by_cases h3 : j.val % 256 - 64 - 64 < 64
      · exact (dif_pos h3).trans (if_neg (show ¬(j.val / 64 % 4 = 0 ∨ j.val / 64 % 4 = 3) by omega)).symm
      · refine (dif_neg h3).trans (Eq.trans ?_ (if_pos (show j.val / 64 % 4 = 0 ∨ j.val / 64 % 4 = 3 by omega)).symm)
        exact at_place h w _ _ _ _ _ rfl rfl (by show 2048 + (j.val / 256 * 128 + (64 + (j.val % 256 - 64 - 64 - 64))) = 2048 + (j.val / 256 * 128 + j.val % 128); omega)

/-- The indexer's keys, at both ends of a wide row. -/
theorem wide_index_keys_at (R : Fin 16384) (j : Fin 256) :
    val_main_v147 (F := Ideal) h w (ix2 R j)
      = if j.val / 64 = 0 ∨ j.val / 64 = 3 then product h w R ⟨3584 + j.val % 64, by omega⟩ else 0 := by
  pointwise [val_main_v147, val_main_v146, val_main_v110, val_main_v109, val_main_v108, val_main_v107, val_main_v106, val_main_cst_9,
    val_main_cst_10, val_main_v9]
  by_cases h1 : j.val < 64
  · refine (dif_pos h1).trans (Eq.trans ?_ (if_pos (show j.val / 64 = 0 ∨ j.val / 64 = 3 by omega)).symm)
    exact at_place h w _ _ _ _ _ rfl rfl (by show 3584 + j.val = 3584 + j.val % 64; omega)
  · refine (dif_neg h1).trans ?_
    by_cases h2 : j.val - 64 < 64
    · exact (dif_pos h2).trans (if_neg (show ¬(j.val / 64 = 0 ∨ j.val / 64 = 3) by omega)).symm
    · refine (dif_neg h2).trans ?_
      by_cases h3 : j.val - 64 - 64 < 64
      · exact (dif_pos h3).trans (if_neg (show ¬(j.val / 64 = 0 ∨ j.val / 64 = 3) by omega)).symm
      · refine (dif_neg h3).trans (Eq.trans ?_ (if_pos (show j.val / 64 = 0 ∨ j.val / 64 = 3 by omega)).symm)
        exact at_place h w _ _ _ _ _ rfl rfl (by show 3584 + (j.val - 64 - 64 - 64) = 3584 + j.val % 64; omega)

/-- The sparse attention's values. -/
theorem sparse_values_at (s : Fin 64) (i : Fin 640) (k : Fin 256) :
    val_main_v137 (F := Ideal) h w (ix3 s i k)
      = if i.val % 80 < 64 then product h w ⟨s.val * 256 + k.val, by omega⟩ ⟨2560 + (i.val / 80 * 64 + i.val % 80 % 64), by omega⟩ else 1 := by
  pointwise [val_main_v137, val_main_v136, val_main_v114, val_main_v113, val_main_v112, val_main_v111, val_main_cst_11, val_main_v7]
  by_cases h1 : i.val % 80 < 64
  · rw [dif_pos h1, if_pos h1]
    exact at_place h w _ _ _ _ _ (by show s.val / 8 = (s.val * 256 + k.val) / 2048; omega)
      (by show s.val % 8 * 256 + k.val = (s.val * 256 + k.val) % 2048; omega)
      (by show 2560 + (i.val / 80 * 64 + i.val % 80) = 2560 + (i.val / 80 * 64 + i.val % 80 % 64); omega)
  · rw [dif_neg h1, if_neg h1]

/-- The cosine of a position's angle on a lane. -/
abbrev cosine (R : Fin 16384) (j : Fin 256) : EReal := val_main_v27 (F := Ideal) (ix2 ⟨R.val % 2048, by omega⟩ ⟨j.val % 32, by omega⟩)

/-- The sine of a position's angle on a lane, negative on the lower half of a head. -/
abbrev signedSine (R : Fin 16384) (j : Fin 256) : EReal :=
  if j.val % 64 < 32 then -(val_main_v29 (F := Ideal) (ix2 ⟨R.val % 2048, by omega⟩ ⟨j.val % 32, by omega⟩) : EReal)
  else (val_main_v29 (F := Ideal) (ix2 ⟨R.val % 2048, by omega⟩ ⟨j.val % 32, by omega⟩) : EReal)

/-- A column as far into the projection as an offset and a lane. -/
abbrev columnOf (o : ℕ) (ho : o + 256 ≤ 7240) (R : Fin 16384) (j : Fin 256) : EReal := product h w R ⟨o + j.val, by omega⟩

/-- The rotation of a lower lane: its own column times the cosine less its partner's times the sine. -/
theorem rotation_lower (o : ℕ) (ho : o + 256 ≤ 7240) (R : Fin 16384) (j : Fin 256) (hj : j.val % 64 < 32)
    (x1 x2 : Fin 7240) (l1 l2 : Fin 2048) (q1 q2 : Fin 32) (hx1 : x1.val = o + j.val) (hx2 : x2.val = o + j.val + 32)
    (hl1 : l1.val = R.val % 2048) (hl2 : l2.val = R.val % 2048) (hq1 : q1.val = j.val % 32) (hq2 : q2.val = j.val % 32) :
    (product h w R x1 * val_main_v27 (F := Ideal) (ix2 l1 q1) - product h w R x2 * val_main_v29 (F := Ideal) (ix2 l2 q2) : EReal)
      = ropeLane (columnOf h w o ho R) (cosine R j) (signedSine R j) j := by
  obtain ⟨x1, px1⟩ := x1
  obtain ⟨x2, px2⟩ := x2
  obtain ⟨l1, pl1⟩ := l1
  obtain ⟨l2, pl2⟩ := l2
  obtain ⟨q1, pq1⟩ := q1
  obtain ⟨q2, pq2⟩ := q2
  dsimp only at hx1 hx2 hl1 hl2 hq1 hq2
  subst hl1 hl2 hq1 hq2
  have e1 : (⟨x1, px1⟩ : Fin 7240) = ⟨o + j.val, by omega⟩ := Fin.ext hx1
  have e2 : (⟨x2, px2⟩ : Fin 7240) = ⟨o + (j.val + 256 - 224) % 256, by omega⟩ := Fin.ext (by show x2 = o + (j.val + 256 - 224) % 256; omega)
  rw [e1, e2]
  unfold ropeLane partner signedSine columnOf
  rw [if_pos hj, if_pos hj, sub_eq_add_neg, mul_neg]

/-- The rotation of an upper lane: its partner's column times the sine plus its own times the cosine. -/
theorem rotation_upper (o : ℕ) (ho : o + 256 ≤ 7240) (R : Fin 16384) (j : Fin 256) (hj : ¬ j.val % 64 < 32)
    (x1 x2 : Fin 7240) (l1 l2 : Fin 2048) (q1 q2 : Fin 32) (hx1 : x1.val + 32 = o + j.val) (hx2 : x2.val = o + j.val)
    (hl1 : l1.val = R.val % 2048) (hl2 : l2.val = R.val % 2048) (hq1 : q1.val = j.val % 32) (hq2 : q2.val = j.val % 32) :
    (product h w R x1 * val_main_v29 (F := Ideal) (ix2 l1 q1) + product h w R x2 * val_main_v27 (F := Ideal) (ix2 l2 q2) : EReal)
      = ropeLane (columnOf h w o ho R) (cosine R j) (signedSine R j) j := by
  obtain ⟨x1, px1⟩ := x1
  obtain ⟨x2, px2⟩ := x2
  obtain ⟨l1, pl1⟩ := l1
  obtain ⟨l2, pl2⟩ := l2
  obtain ⟨q1, pq1⟩ := q1
  obtain ⟨q2, pq2⟩ := q2
  dsimp only at hx1 hx2 hl1 hl2 hq1 hq2
  subst hl1 hl2 hq1 hq2
  have e1 : (⟨x1, px1⟩ : Fin 7240) = ⟨o + (j.val + 256 - 32) % 256, by omega⟩ := Fin.ext (by show x1 = o + (j.val + 256 - 32) % 256; omega)
  have e2 : (⟨x2, px2⟩ : Fin 7240) = ⟨o + j.val, by omega⟩ := Fin.ext hx2
  rw [e1, e2]
  unfold ropeLane partner signedSine columnOf
  rw [if_neg hj, if_neg hj, add_comm]

/-- The cosines of the keys are those of the queries. -/
theorem cosines_same : (val_main_v57 (F := Ideal) : FVec Ideal S2048x32 .f32) = val_main_v27 := rfl

/-- And so are the sines. -/
theorem sines_same : (val_main_v59 (F := Ideal) : FVec Ideal S2048x32 .f32) = val_main_v29 := rfl

/-- The rotated queries, head by head. -/
theorem queries_rotated_at (R : Fin 16384) (n : Fin 4) (d : Fin 64) (j : Fin 256) (hn : n.val = j.val / 64) (hd : d.val = j.val % 64) :
    val_main_v43 (F := Ideal) h w (ix4 ⟨R.val / 2048, by omega⟩ ⟨R.val % 2048, by omega⟩ n d)
      = ropeLane (columnOf h w 0 (by omega) R) (cosine R j) (signedSine R j) j := by
  pointwise [val_main_v43, val_main_v42, val_main_v41, val_main_v40, val_main_v39, val_main_v38, val_main_v37, val_main_v36, val_main_v35, val_main_v34,
    val_main_v33, val_main_v32, val_main_v31, val_main_v30, val_main_v28, val_main_v14, val_main_v1]
  simp only [at_token]
  by_cases hlt : d.val < 32
  · rw [dif_pos hlt]
    exact rotation_lower h w 0 (by omega) R j (by omega) _ _ _ _ _ _ (by show n.val * 64 + d.val = _; omega)
      (by show n.val * 64 + (32 + d.val) = _; omega) rfl rfl (by show d.val = _; omega) (by show d.val = _; omega)
  · rw [dif_neg hlt]
    exact rotation_upper h w 0 (by omega) R j (by omega) _ _ _ _ _ _ (by show n.val * 64 + (d.val - 32) + 32 = _; omega)
      (by show n.val * 64 + (32 + (d.val - 32)) = _; omega) rfl rfl (by show d.val - 32 = _; omega) (by show d.val - 32 = _; omega)

/-- The rotated and scaled keys, head by head. -/
theorem keys_rotated_at (R : Fin 16384) (b : Fin 8) (l : Fin 2048) (n : Fin 4) (d : Fin 64) (j : Fin 256)
    (hb : b.val = R.val / 2048) (hl : l.val = R.val % 2048) (hn : n.val = j.val / 64) (hd : d.val = j.val % 64) :
    val_main_v75 (F := Ideal) h w (ix4 b l n d)
      = (ropeLane (columnOf h w 256 (by omega) R) (cosine R j) (signedSine R j) j * FloatOps.ofBits (F := Ideal) .f32 0x3E000000#32 : EReal) := by
  have e1 : b = ⟨R.val / 2048, by omega⟩ := Fin.ext hb
  have e2 : l = ⟨R.val % 2048, by omega⟩ := Fin.ext hl
  rw [e1, e2]
  pointwise [val_main_v75, val_main_v74, val_main_v73, val_main_v72, val_main_v71, val_main_v70, val_main_v69, val_main_v68, val_main_v67, val_main_v66,
    val_main_v65, val_main_v64, val_main_v63, val_main_v62, val_main_v61, val_main_v60, val_main_v58, val_main_v44, val_main_v2, val_main_cst_3]
  simp only [at_token, cosines_same, sines_same]
  refine congrArg (fun e : EReal => e * FloatOps.ofBits (F := Ideal) .f32 0x3E000000#32) ?_
  by_cases hlt : d.val < 32
  · rw [dif_pos hlt]
    exact rotation_lower h w 256 (by omega) R j (by omega) _ _ _ _ _ _ (by show 256 + (n.val * 64 + d.val) = _; omega)
      (by show 256 + (n.val * 64 + (32 + d.val)) = _; omega) rfl rfl (by show d.val = _; omega) (by show d.val = _; omega)
  · rw [dif_neg hlt]
    exact rotation_upper h w 256 (by omega) R j (by omega) _ _ _ _ _ _ (by show 256 + (n.val * 64 + (d.val - 32)) + 32 = _; omega)
      (by show 256 + (n.val * 64 + (32 + (d.val - 32))) = _; omega) rfl rfl (by show d.val - 32 = _; omega) (by show d.val - 32 = _; omega)

theorem queries_at (R : Fin 16384) (j : Fin 512) :
    val_main_v118 (F := Ideal) h w (ix2 R j)
      = spread (fun i => ropeLane (columnOf h w 0 (by omega) R) (cosine R i) (signedSine R i) i) j := by
  pointwise [val_main_v118, val_main_v117, val_main_v116, val_main_v115, val_main_cst_12]
  unfold spread
  split_ifs with hj
  · exact queries_rotated_at h w R _ _ _ (by show j.val / 128 = (j.val / 128 * 64 + j.val % 64) / 64; omega)
      (by show j.val % 128 = (j.val / 128 * 64 + j.val % 64) % 64; omega)
  · rfl

theorem keys_at (R : Fin 16384) (j : Fin 512) :
    val_main_v122 (F := Ideal) h w (ix2 R j)
      = spread (fun i => (ropeLane (columnOf h w 256 (by omega) R) (cosine R i) (signedSine R i) i
          * FloatOps.ofBits (F := Ideal) .f32 0x3E000000#32 : EReal)) j := by
  pointwise [val_main_v122, val_main_v121, val_main_v120, val_main_v119, val_main_cst_13]
  unfold spread
  split_ifs with hj
  · exact keys_rotated_at h w R _ _ _ _ _ rfl rfl (by show j.val / 128 = (j.val / 128 * 64 + j.val % 64) / 64; omega)
      (by show j.val % 128 = (j.val / 128 * 64 + j.val % 64) % 64; omega)
  · rfl

theorem decayed_keys_at (R : Fin 16384) (j : Fin 256) :
    val_main_v125 (F := Ideal) h w (ix2 j R)
      = (ropeLane (columnOf h w 256 (by omega) R) (cosine R j) (signedSine R j) j
          * FloatOps.ofBits (F := Ideal) .f32 0x3E000000#32
          * val_main_v93 (F := Ideal) (ix2 ⟨j.val / 64, by omega⟩ ⟨R.val % 128, by omega⟩) : EReal) := by
  pointwise [val_main_v125, val_main_v124, val_main_v123, val_main_v99, val_main_v98, val_main_v97, val_main_v96, val_main_v95, val_main_v94]
  exact congrArg (fun e : EReal => e * val_main_v93 (F := Ideal) (ix2 ⟨j.val / 64, by omega⟩ ⟨R.val % 128, by omega⟩))
    (keys_rotated_at h w R _ _ _ _ j rfl (by show R.val / 128 % 16 * 128 + R.val % 128 = R.val % 2048; omega) rfl rfl)

end Cert.Reference5Ideal.Proj

end
-- ==== Proof.Layer.ProjTables.lean ====
/- What the projections' host code hands to the kernel, in terms of the call's arguments and of the tables it builds. -/
module

public import proofs.«01_k».proof.Proof.Layer.ProjReference
public import Idealize.ShloMosaic.Lib.Claim

@[expose] public section

set_option maxRecDepth 16384

noncomputable section

namespace Cert.Kernel5Ideal.Proj

open Cert.Kernel5Ideal Cert.Kernel5Ideal.Gen Cert.Layer Idealize.ShloMosaic Idealize.ShloMosaic.TcCoe Idealize.SL.Sem
open Idealize.ShloMosaic.Pipeline (Dat)

variable (m : (ℓ : Loc nD τ sig) → Buf (Elt Ideal) ℓ)

/-- The angle of a position on a lane, as the host computes it. -/
def angT : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table of 64 lanes repeated for the four heads. -/
def tileT (x : FVec Ideal S2048x64 .f32) : FVec Ideal S2048x256 .f32 :=
  shapeCast S2048x256 (broadcastInDim S1x2048x4x64 ![0, 1, 2, 3] bcast_S1x2048x1x64_S1x2048x4x64_0_1_2_3
    (shapeCast S1x2048x1x64 x shapeCasts_S2048x64_S1x2048x1x64)) shapeCasts_S1x2048x4x64_S2048x256

/-- The logarithm of each head's decay, as the host computes it. -/
def lgT : FVec Ideal S4 .f32 :=
  Host.log (subf (broadcastInDim S4 ![] bcast_S_S4 (constant S_ .f32 0x3F800000#32)) (Host.powf (broadcastInDim S4 ![] bcast_S_S4
    (constant S_ .f32 0x40000000#32)) (subf (broadcastInDim S4 ![] bcast_S_S4 (constant S_ .f32 0xC0A00000#32)) (sitofp .f32 (iotaInDim S4 32 0)))))

/-- The decay of a key to the end of its chunk. -/
def kdecT : FVec Ideal S4x128 .f32 :=
  Host.exp (mulf (broadcastInDim S4x128 ![0, 1] bcast_S1x128_S4x128_0_1 (sitofp .f32 (broadcastInDim S1x128 ![1] bcast_S128_S1x128_1
    (subi (broadcastInDim S128 ![] bcast_S_S128 (constantI S_ 32 127#32)) (iotaInDim S128 32 0)))))
    (broadcastInDim S4x128 ![0, 1] bcast_S4x1_S4x128_0_1 (broadcastInDim S4x1 ![0] bcast_S4_S4x1_0 lgT)))

/-- The cosines. -/
theorem V_18 (c : Dev nD) : (V m c main_v18 : FVec Ideal S2048x256 .f32) = (tileT (concatenate S2048x64 1 [⟨S2048x32, Host.cos angT⟩, ⟨S2048x32, Host.cos angT⟩] concatenates_S2048x32_S2048x32_S2048x64_d1) : FVec Ideal S2048x256 .f32) := by
  simp only [V, List.flatten_cons, List.flatten_nil, List.append_nil, hostOps0, hostOps0_1, hostOps0_2, List.cons_append, List.nil_append]
  entry_read
  rfl

/-- The sines, negative on the lower half of a head. -/
theorem V_23 (c : Dev nD) : (V m c main_v23 : FVec Ideal S2048x256 .f32) = (tileT (concatenate S2048x64 1 [⟨S2048x32, Host.negf (Host.sin angT)⟩, ⟨S2048x32, Host.sin angT⟩] concatenates_S2048x32_S2048x32_S2048x64_d1) : FVec Ideal S2048x256 .f32) := by
  simp only [V, List.flatten_cons, List.flatten_nil, List.append_nil, hostOps0, hostOps0_1, hostOps0_2, List.cons_append, List.nil_append]
  entry_read
  rfl

/-- The input projection. -/
theorem V_80 (c : Dev nD) : (V m c main_v80 : FVec Ideal S1024x7240 .bf16) = (truncf .bf16 (m ((c : Thread nD τ).loc main_arg1) : FVec Ideal S1024x7240 .f32) bitsLt_bf16_f32 : FVec Ideal S1024x7240 .bf16) := by
  simp only [V, List.flatten_cons, List.flatten_nil, List.append_nil, hostOps0, hostOps0_1, hostOps0_2, List.cons_append, List.nil_append]
  entry_read
  rfl

/-- The memory attention's columns. -/
theorem V_81 (c : Dev nD) : (V m c main_v81 : FVec Ideal S1024x512 .bf16) = (extractStridedSlice S1024x512 ![0, 3656] (truncf .bf16 (m ((c : Thread nD τ).loc main_arg1) : FVec Ideal S1024x7240 .f32) bitsLt_bf16_f32) slices_S1024x7240_S1024x512_0_3656 : FVec Ideal S1024x512 .bf16) := by
  simp only [V, List.flatten_cons, List.flatten_nil, List.append_nil, hostOps0, hostOps0_1, hostOps0_2, List.cons_append, List.nil_append]
  entry_read
  rfl

/-- The transposed columns. -/
theorem V_85 (c : Dev nD) : (V m c main_v85 : FVec Ideal S640x1024 .bf16) = (transpose S640x1024 [1, 0] (concatenate S1024x640 1 [⟨S1024x512, extractStridedSlice S1024x512 ![0, 2560] (truncf .bf16 (m ((c : Thread nD τ).loc main_arg1) : FVec Ideal S1024x7240 .f32) bitsLt_bf16_f32) slices_S1024x7240_S1024x512_0_2560⟩,
    ⟨S1024x128, extractStridedSlice S1024x128 ![0, 3584] (truncf .bf16 (m ((c : Thread nD τ).loc main_arg1) : FVec Ideal S1024x7240 .f32) bitsLt_bf16_f32) slices_S1024x7240_S1024x128_0_3584⟩] concatenates_S1024x512_S1024x128_S1024x640_d1)
    transposes_S1024x640_S640x1024_1_0 : FVec Ideal S640x1024 .bf16) := by
  simp only [V, List.flatten_cons, List.flatten_nil, List.append_nil, hostOps0, hostOps0_1, hostOps0_2, List.cons_append, List.nil_append]
  entry_read
  rfl

/-- The decay, repeated for the eight chunks of a block. -/
theorem V_88 (c : Dev nD) : (V m c main_v88 : FVec Ideal S1024x256 .f32) = (shapeCast S1024x256 (broadcastInDim S8x128x1x256 ![0, 1, 2, 3] bcast_S1x128x1x256_S8x128x1x256_0_1_2_3 (shapeCast S1x128x1x256
    (shapeCast S128x256 (broadcastInDim S128x4x64 ![0, 1] bcast_S128x4_S128x4x64_0_1 (transpose S128x4 [1, 0] kdecT transposes_S4x128_S128x4_1_0)) shapeCasts_S128x4x64_S128x256)
    shapeCasts_S128x256_S1x128x1x256)) shapeCasts_S8x128x1x256_S1024x256 : FVec Ideal S1024x256 .f32) := by
  simp only [V, List.flatten_cons, List.flatten_nil, List.append_nil, hostOps0, hostOps0_1, hostOps0_2, List.cons_append, List.nil_append]
  entry_read
  rfl

/-- The tokens. -/
theorem V_89 (c : Dev nD) : (V m c main_v89 : FVec Ideal S16384x1024 .f32) = (shapeCast S16384x1024 (m ((c : Thread nD τ).loc main_arg0) : FVec Ideal S8x2048x1024 .f32) shapeCasts_S8x2048x1024_S16384x1024 : FVec Ideal S16384x1024 .f32) := by
  simp only [V, List.flatten_cons, List.flatten_nil, List.append_nil, hostOps0, hostOps0_1, hostOps0_2, List.cons_append, List.nil_append]
  entry_read
  rfl

/-- The angles are the reference's. -/
theorem angT_at (l : Fin 2048) (d : Fin 32) : (angT (ix2 l d) : EReal) = Cert.Reference5Ideal.Read.val_main_v26 (F := Ideal) (ix2 l d) := by
  pointwise [angT, Cert.Reference5Ideal.Read.val_main_v26, Cert.Reference5Ideal.Read.val_main_v25, Cert.Reference5Ideal.Read.val_main_v24,
    Cert.Reference5Ideal.Read.val_main_v23, Cert.Reference5Ideal.Read.val_main_v22, Cert.Reference5Ideal.Read.val_main_v21,
    Cert.Reference5Ideal.Read.val_main_v20, Cert.Reference5Ideal.Read.val_main_v19, Cert.Reference5Ideal.Read.val_main_v18,
    Cert.Reference5Ideal.Read.val_main_v17, Cert.Reference5Ideal.Read.val_main_v16, Cert.Reference5Ideal.Read.val_main_v15,
    Cert.Reference5Ideal.Read.val_main_v13, Cert.Reference5Ideal.Read.val_main_cst, Cert.Reference5Ideal.Read.val_main_cst_0]

/-- The decay is the reference's. -/
theorem kdecT_at (n : Fin 4) (d : Fin 128) : (kdecT (ix2 n d) : EReal) = Cert.Reference5Ideal.Read.val_main_v93 (F := Ideal) (ix2 n d) := by
  pointwise [kdecT, lgT, Cert.Reference5Ideal.Read.val_main_v93, Cert.Reference5Ideal.Read.val_main_v92, Cert.Reference5Ideal.Read.val_main_v91, Cert.Reference5Ideal.Read.val_main_v90, Cert.Reference5Ideal.Read.val_main_v89, Cert.Reference5Ideal.Read.val_main_v88, Cert.Reference5Ideal.Read.val_main_v87, Cert.Reference5Ideal.Read.val_main_v86, Cert.Reference5Ideal.Read.val_main_v85, Cert.Reference5Ideal.Read.val_main_v84, Cert.Reference5Ideal.Read.val_main_v83, Cert.Reference5Ideal.Read.val_main_v82, Cert.Reference5Ideal.Read.val_main_v81, Cert.Reference5Ideal.Read.val_main_v80, Cert.Reference5Ideal.Read.val_main_v79, Cert.Reference5Ideal.Read.val_main_v78, Cert.Reference5Ideal.Read.val_main_v77, Cert.Reference5Ideal.Read.val_main_v76,
    Cert.Reference5Ideal.Read.val_main_c, Cert.Reference5Ideal.Read.val_main_cst_4, Cert.Reference5Ideal.Read.val_main_cst_5, Cert.Reference5Ideal.Read.val_main_cst_6]

/-- The cosines at a position and a lane. -/
theorem cosines_table_at (l : Fin 2048) (j : Fin 256) :
    (tileT (concatenate S2048x64 1 [⟨S2048x32, Host.cos angT⟩, ⟨S2048x32, Host.cos angT⟩] concatenates_S2048x32_S2048x32_S2048x64_d1) (ix2 l j) : EReal)
      = Cert.Reference5Ideal.Read.val_main_v27 (F := Ideal) (ix2 l ⟨j.val % 32, by omega⟩) := by
  pointwise [tileT, Cert.Reference5Ideal.Read.val_main_v27]
  simp only [angT_at]
  by_cases hj : j.val % 64 < 32
  · refine (dif_pos hj).trans (congrArg (fun q => Ideal.cos (Cert.Reference5Ideal.Read.val_main_v26 (F := Ideal) (ix2 l q) : EReal)) (Fin.ext (by show j.val % 64 = j.val % 32; omega)))
  · refine (dif_neg hj).trans (congrArg (fun q => Ideal.cos (Cert.Reference5Ideal.Read.val_main_v26 (F := Ideal) (ix2 l q) : EReal)) (Fin.ext (by show j.val % 64 - 32 = j.val % 32; omega)))

/-- The sines at a position and a lane. -/
theorem sines_table_at (l : Fin 2048) (j : Fin 256) :
    (tileT (concatenate S2048x64 1 [⟨S2048x32, Host.negf (Host.sin angT)⟩, ⟨S2048x32, Host.sin angT⟩] concatenates_S2048x32_S2048x32_S2048x64_d1) (ix2 l j) : EReal)
      = if j.val % 64 < 32 then -(Cert.Reference5Ideal.Read.val_main_v29 (F := Ideal) (ix2 l ⟨j.val % 32, by omega⟩) : EReal)
        else (Cert.Reference5Ideal.Read.val_main_v29 (F := Ideal) (ix2 l ⟨j.val % 32, by omega⟩) : EReal) := by
  pointwise [tileT, Cert.Reference5Ideal.Read.val_main_v29]
  simp only [angT_at]
  by_cases hj : j.val % 64 < 32
  · exact ((dif_pos hj).trans (congrArg (fun q => -Ideal.sin (Cert.Reference5Ideal.Read.val_main_v26 (F := Ideal) (ix2 l q) : EReal)) (Fin.ext (by show j.val % 64 = j.val % 32; omega)))).trans (if_pos hj).symm
  · exact ((dif_neg hj).trans (congrArg (fun q => Ideal.sin (Cert.Reference5Ideal.Read.val_main_v26 (F := Ideal) (ix2 l q) : EReal)) (Fin.ext (by show j.val % 64 - 32 = j.val % 32; omega)))).trans (if_neg hj).symm

/-- The decay of a block's row on a lane. -/
theorem decay_table_at (r : Fin 1024) (j : Fin 256) :
    (shapeCast S1024x256 (broadcastInDim S8x128x1x256 ![0, 1, 2, 3] bcast_S1x128x1x256_S8x128x1x256_0_1_2_3 (shapeCast S1x128x1x256
    (shapeCast S128x256 (broadcastInDim S128x4x64 ![0, 1] bcast_S128x4_S128x4x64_0_1 (transpose S128x4 [1, 0] kdecT transposes_S4x128_S128x4_1_0)) shapeCasts_S128x4x64_S128x256)
    shapeCasts_S128x256_S1x128x1x256)) shapeCasts_S8x128x1x256_S1024x256 (ix2 r j) : EReal)
      = Cert.Reference5Ideal.Read.val_main_v93 (F := Ideal) (ix2 ⟨j.val / 64, by omega⟩ ⟨r.val % 128, by omega⟩) := by
  pointwise
  simp only [kdecT_at]

/-- The transposed columns at one element. -/
theorem turned_table_at (X : FVec Ideal S1024x7240 .f32) (n : Fin 640) (k : Fin 1024) (n' : Fin 7240)
    (hn : n'.val = if n.val < 512 then 2560 + n.val else 3072 + n.val) :
    (transpose S640x1024 [1, 0] (concatenate S1024x640 1 [⟨S1024x512, extractStridedSlice S1024x512 ![0, 2560] (truncf .bf16 X bitsLt_bf16_f32) slices_S1024x7240_S1024x512_0_2560⟩,
    ⟨S1024x128, extractStridedSlice S1024x128 ![0, 3584] (truncf .bf16 X bitsLt_bf16_f32) slices_S1024x7240_S1024x128_0_3584⟩] concatenates_S1024x512_S1024x128_S1024x640_d1)
    transposes_S1024x640_S640x1024_1_0 (ix2 n k) : EReal) = X (ix2 k n') := by
  pointwise
  by_cases h1 : n.val < 512
  · rw [if_pos h1] at hn
    exact (dif_pos h1).trans (congrArg (fun q => (X (ix2 k q) : EReal)) (Fin.ext (by show 2560 + n.val = n'.val; omega)))
  · rw [if_neg h1] at hn
    exact (dif_neg h1).trans (congrArg (fun q => (X (ix2 k q) : EReal)) (Fin.ext (by show 3584 + (n.val - 512) = n'.val; omega)))

end Cert.Kernel5Ideal.Proj

end
-- ==== Proof.Layer.ProjOperands.lean ====
/- The blocks of the projections' operands, read at one element: the tokens, the columns of the input projection, the
   tables of the rotation and the table of the decay. -/
module

public import proofs.«01_k».proof.Proof.Layer.ProjTables
public import Idealize.ShloMosaic.Lib.Claim

@[expose] public section

set_option maxRecDepth 16384

noncomputable section

namespace Cert.Kernel5Ideal.Proj

open Cert.Kernel5Ideal Cert.Kernel5Ideal.Gen Cert.Layer Idealize.ShloMosaic Idealize.ShloMosaic.TcCoe Idealize.SL.Sem
open Idealize.ShloMosaic.Pipeline (Dat)

variable (m : (ℓ : Loc nD τ sig) → Buf (Elt Ideal) ℓ)

/-- Where each operand's block lies at a grid point. -/
theorem index_at : ∀ t : Fin cfg0.N, win0_0.index t = ![t.val, 0] ∧ win0_1.index t = ![0, 0] ∧ win0_2.index t = ![0, 0]
    ∧ win0_3.index t = ![0, 0] ∧ win0_4.index t = ![t.val % 2, 0] ∧ win0_5.index t = ![t.val % 2, 0] ∧ win0_6.index t = ![0, 0]
    ∧ t.val < 16 :=
  (by decide +kernel : ∀ t : Fin grid0.N, _)

/-- The tokens, laid out row by row. -/
theorem token_table_at (X : FVec Ideal S8x2048x1024 .f32) (R : Fin 16384) (k : Fin 1024) :
    (shapeCast S16384x1024 X shapeCasts_S8x2048x1024_S16384x1024 (ix2 R k) : EReal) = X (ix3 ⟨R.val / 2048, by omega⟩ ⟨R.val % 2048, by omega⟩ k) := by
  pointwise

/-- The memory attention's columns at one element. -/
theorem memory_table_at (X : FVec Ideal S1024x7240 .f32) (k : Fin 1024) (n : Fin 512) :
    (extractStridedSlice S1024x512 ![0, 3656] (truncf .bf16 X bitsLt_bf16_f32) slices_S1024x7240_S1024x512_0_3656 (ix2 k n) : EReal)
      = X (ix2 k ⟨3656 + n.val, by omega⟩) := by
  pointwise

/-- The token block of a grid point, row by row. -/
theorem tokens_at (c : Dev nD) (t : Fin cfg0.N) (r k : Fin 1024) (R : Fin 16384) (hR : R.val = t.val * 1024 + r.val) :
    (iblk m c 0 t (ix2 r k) : EReal) = m ((c : Thread nD τ).loc main_arg0) (ix3 ⟨R.val / 2048, by omega⟩ ⟨R.val % 2048, by omega⟩ k) := by
  have ht : t.val < 16 := (index_at t).2.2.2.2.2.2.2
  have he : (win0_0.blk t).view.emb (ix2 r k) = ix2 R k := by
    blk_ext [index_at t]
  show V m c main_v89 ((win0_0.blk t).view.emb (ix2 r k)) = _
  exact (congrArg (V m c main_v89) he).trans ((congrFun (V_89 m c) _).trans (token_table_at _ R k))

/-- The input projection at one element. -/
theorem weight_table_at (X : FVec Ideal S1024x7240 .f32) (k : Fin 1024) (n : Fin 7240) :
    ((truncf .bf16 X bitsLt_bf16_f32 : FVec Ideal S1024x7240 .bf16) (ix2 k n) : EReal) = X (ix2 k n) := by
  pointwise

/-- Where the moved part of the block of the input projection lies. -/
theorem weights_place (t : Fin cfg0.N) (Y : (win0_1.xblock (grid0.coords t)).Idx) (k : Fin 1024) (n' : Fin 7240)
    (h0 : (Y ⟨0, Nat.zero_lt_two⟩).val = k.val) (h1 : (Y ⟨1, Nat.one_lt_two⟩).val = n'.val) : (win0_1.blk t).view.emb Y = ix2 k n' := by
  have hi := (index_at t).2.1
  funext a
  refine Fin.ext ?_
  show win0_1.index t a * win0_1.size a + 1 * (Y a).val = _
  rw [hi]
  match a with
  | ⟨0, _⟩ =>
    show 0 * _ + 1 * (Y ⟨0, _⟩).val = k.val
    rw [Nat.zero_mul, Nat.zero_add, Nat.one_mul]
    exact h0
  | ⟨1, _⟩ =>
    show 0 * _ + 1 * (Y ⟨1, _⟩).val = n'.val
    rw [Nat.zero_mul, Nat.zero_add, Nat.one_mul]
    exact h1

/-- The first columns of the input projection. -/
theorem weights_at (c : Dev nD) (t : Fin cfg0.N) (k : Fin 1024) (n : Fin 3584) (n' : Fin 7240) (hn : n'.val = n.val) :
    (X0_1 m c t (ix2 k n) : EReal) = m ((c : Thread nD τ).loc main_arg1) (ix2 k n') := by
  obtain ⟨Y, e, h0, h1⟩ : ∃ Y : (win0_1.xblock (grid0.coords t)).Idx, X0_1 m c t (ix2 k n) = iblk m c 1 t Y
      ∧ (Y ⟨0, Nat.zero_lt_two⟩).val = k.val ∧ (Y ⟨1, Nat.one_lt_two⟩).val = n.val := by
    refine ⟨fun a => ⟨((ix2 k n : (cfg0.win 1).block.Idx) a).val, ((cfg0.win 1).moved_iff _ _).mp (moved0_1 t _) a⟩, ?_, rfl, rfl⟩
    unfold X0_1 Pipeline.Window.fill
    exact dif_pos (moved0_1 t (ix2 k n))
  have hv : iblk m c 1 t Y = V m c main_v80 ((win0_1.blk t).view.emb Y) := rfl
  refine e.trans (hv.trans ?_)
  rw [weights_place t Y k n' h0 (h1.trans hn.symm)]
  exact (congrFun (V_80 m c) _).trans (weight_table_at _ k n')

/-- The columns of the memory attention's queries. -/
theorem memory_weights_at (c : Dev nD) (t : Fin cfg0.N) (k : Fin 1024) (n : Fin 512) :
    (iblk m c 2 t (ix2 k n) : EReal) = m ((c : Thread nD τ).loc main_arg1) (ix2 k ⟨3656 + n.val, by omega⟩) := by
  have ht : t.val < 16 := (index_at t).2.2.2.2.2.2.2
  have he : (win0_2.blk t).view.emb (ix2 k n) = ix2 k n := by
    blk_ext [index_at t]
  show V m c main_v81 ((win0_2.blk t).view.emb (ix2 k n)) = _
  exact (congrArg (V m c main_v81) he).trans ((congrFun (V_81 m c) _).trans (memory_table_at _ k n))

/-- The transposed columns. -/
theorem turned_at (c : Dev nD) (t : Fin cfg0.N) (n : Fin 640) (k : Fin 1024) (n' : Fin 7240)
    (hn : n'.val = if n.val < 512 then 2560 + n.val else 3072 + n.val) :
    (iblk m c 3 t (ix2 n k) : EReal) = m ((c : Thread nD τ).loc main_arg1) (ix2 k n') := by
  have ht : t.val < 16 := (index_at t).2.2.2.2.2.2.2
  have he : (win0_3.blk t).view.emb (ix2 n k) = ix2 n k := by
    blk_ext [index_at t]
  show V m c main_v85 ((win0_3.blk t).view.emb (ix2 n k)) = _
  exact (congrArg (V m c main_v85) he).trans ((congrFun (V_85 m c) _).trans (turned_table_at _ n k n' hn))

/-- The table of the cosines. -/
theorem cosines_at (c : Dev nD) (t : Fin cfg0.N) (r : Fin 1024) (j : Fin 256) (R : Fin 16384) (hR : R.val = t.val * 1024 + r.val) :
    (iblk m c 4 t (ix2 r j) : EReal) = Cert.Reference5Ideal.Proj.cosine R j := by
  have ht : t.val < 16 := (index_at t).2.2.2.2.2.2.2
  have he : (win0_4.blk t).view.emb (ix2 r j) = ix2 (⟨R.val % 2048, by omega⟩ : Fin 2048) j := by
    blk_ext [index_at t]
  show V m c main_v18 ((win0_4.blk t).view.emb (ix2 r j)) = _
  exact (congrArg (V m c main_v18) he).trans ((congrFun (V_18 m c) _).trans (cosines_table_at _ j))

/-- The table of the sines. -/
theorem sines_at (c : Dev nD) (t : Fin cfg0.N) (r : Fin 1024) (j : Fin 256) (R : Fin 16384) (hR : R.val = t.val * 1024 + r.val) :
    (iblk m c 5 t (ix2 r j) : EReal) = Cert.Reference5Ideal.Proj.signedSine R j := by
  have ht : t.val < 16 := (index_at t).2.2.2.2.2.2.2
  have he : (win0_5.blk t).view.emb (ix2 r j) = ix2 (⟨R.val % 2048, by omega⟩ : Fin 2048) j := by
    blk_ext [index_at t]
  show V m c main_v23 ((win0_5.blk t).view.emb (ix2 r j)) = _
  exact (congrArg (V m c main_v23) he).trans ((congrFun (V_23 m c) _).trans (sines_table_at _ j))

/-- The table of the decay. -/
theorem decay_at (c : Dev nD) (t : Fin cfg0.N) (r : Fin 1024) (j : Fin 256) (R : Fin 16384) (hR : R.val = t.val * 1024 + r.val) :
    (iblk m c 6 t (ix2 r j) : EReal) = Cert.Reference5Ideal.Read.val_main_v93 (F := Ideal) (ix2 ⟨j.val / 64, by omega⟩ ⟨R.val % 128, by omega⟩) := by
  have ht : t.val < 16 := (index_at t).2.2.2.2.2.2.2
  have he : (win0_6.blk t).view.emb (ix2 r j) = ix2 r j := by
    blk_ext [index_at t]
  show V m c main_v88 ((win0_6.blk t).view.emb (ix2 r j)) = _
  exact (congrArg (V m c main_v88) he).trans ((congrFun (V_88 m c) _).trans ((decay_table_at r j).trans (congrArg (fun q => (Cert.Reference5Ideal.Read.val_main_v93 (F := Ideal) (ix2 ⟨j.val / 64, by omega⟩ q) : EReal))
    (Fin.ext (by show r.val % 128 = R.val % 128; omega)))))

end Cert.Kernel5Ideal.Proj

end
-- ==== Proof.Layer.ProjBlock.lean ====
/- What the projections' body leaves in its plain output blocks, read at one element: products of the token's row and a
   column of the weights. -/
module

public import proofs.«01_k».proof.Proof.Layer.Rows
public import proofs.«01_k».proof.Proof.Gen.Kernel5Ideal.Frame
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

namespace Cert.Kernel5Ideal.Proj

open Cert.Kernel5Ideal Cert.Kernel5Ideal.Gen Cert.Layer Idealize.ShloMosaic Idealize.ShloMosaic.TcCoe Idealize.SL.Sem
open Idealize.ShloMosaic.Pipeline (Dat)

variable (m : (ℓ : Loc nD τ sig) → Buf (Elt Ideal) ℓ)

/-- The retention's values. -/
theorem values_at (c : Dev nD) (t : Fin cfg0.N) (x : FVec Ideal S1024x1024 .f32) (hx : x = iblk m c 0 t)
    (w : FVec Ideal S1024x3584 .bf16) (hw : w = X0_1 m c t) (r : Fin 1024) (j : Fin 512) :
    (outsAt0 m c t).2.2.2.1 (ix2 r j) = (∑ k : Fin 1024, x (ix2 r k) * w (ix2 k ⟨512 + j.val, by omega⟩) : EReal) := by
  unfold outsAt0
  frame_out
  rw [← hx, ← hw]
  pointwise [k0_pay27, k0_pay2]

/-- The retention's gates. -/
theorem gates_at (c : Dev nD) (t : Fin cfg0.N) (x : FVec Ideal S1024x1024 .f32) (hx : x = iblk m c 0 t)
    (w : FVec Ideal S1024x3584 .bf16) (hw : w = X0_1 m c t) (r : Fin 1024) (j : Fin 512) :
    (outsAt0 m c t).2.2.2.2.1 (ix2 r j) = (∑ k : Fin 1024, x (ix2 r k) * w (ix2 k ⟨1024 + j.val, by omega⟩) : EReal) := by
  unfold outsAt0
  frame_out
  rw [← hx, ← hw]
  pointwise [k0_pay28, k0_pay2]

/-- The sparse attention's queries, scaled and transposed. -/
theorem sparse_queries_at (c : Dev nD) (t : Fin cfg0.N) (x : FVec Ideal S1024x1024 .f32) (hx : x = iblk m c 0 t)
    (w : FVec Ideal S1024x3584 .bf16) (hw : w = X0_1 m c t) (j : Fin 512) (r : Fin 1024) :
    (outsAt0 m c t).2.2.2.2.2.1 (ix2 j r) = ((∑ k : Fin 1024, x (ix2 r k) * w (ix2 k ⟨1536 + j.val, by omega⟩))
      * FloatOps.ofBits (F := Ideal) .f32 0x3E38AA3B#32 : EReal) := by
  unfold outsAt0
  frame_out
  rw [← hx, ← hw]
  pointwise [k0_pay29, k0_pay2]

/-- The indexer's queries, transposed. -/
theorem index_queries_at (c : Dev nD) (t : Fin cfg0.N) (x : FVec Ideal S1024x1024 .f32) (hx : x = iblk m c 0 t)
    (w : FVec Ideal S1024x3584 .bf16) (hw : w = X0_1 m c t) (j : Fin 512) (r : Fin 1024) :
    (outsAt0 m c t).2.2.2.2.2.2.2.2.1 (ix2 j r) = (∑ k : Fin 1024, x (ix2 r k) * w (ix2 k ⟨3072 + j.val, by omega⟩) : EReal) := by
  unfold outsAt0
  frame_out
  rw [← hx, ← hw]
  pointwise [k0_pay45, k0_pay2]

/-- The memory attention's queries. -/
theorem memory_queries_at (c : Dev nD) (t : Fin cfg0.N) (x : FVec Ideal S1024x1024 .f32) (hx : x = iblk m c 0 t)
    (w : FVec Ideal S1024x512 .bf16) (hw : w = iblk m c 2 t) (r : Fin 1024) (j : Fin 512) :
    (outsAt0 m c t).2.2.2.2.2.2.2.2.2.1 (ix2 r j) = (∑ k : Fin 1024, x (ix2 r k) * w (ix2 k j) : EReal) := by
  unfold outsAt0
  frame_out
  rw [← hx, ← hw]
  pointwise [k0_pay46, k0_pay2]

/-- The indexer's keys and weights, transposed. -/
theorem index_keys_at (c : Dev nD) (t : Fin cfg0.N) (x : FVec Ideal S1024x1024 .f32) (hx : x = iblk m c 0 t)
    (w : FVec Ideal S640x1024 .bf16) (hw : w = iblk m c 3 t) (j : Fin 128) (r : Fin 1024) :
    (outsAt0 m c t).2.2.2.2.2.2.2.2.2.2.1 (ix2 j r) = (∑ k : Fin 1024, x (ix2 r k) * w (ix2 ⟨512 + j.val, by omega⟩ k) : EReal) := by
  unfold outsAt0
  frame_out
  rw [← hx, ← hw]
  pointwise [k0_pay48, k0_pay47, k0_pay2]
  exact Finset.sum_congr rfl fun k _ => (mul_comm _ _).trans (congrArg₂ (fun p q : EReal => p * q) rfl rfl)

end Cert.Kernel5Ideal.Proj

end
-- ==== Proof.Layer.ProjOut.lean ====
/- A grid point's blocks are the reference's values of the point's tokens, result by result. -/
module

public import proofs.«01_k».proof.Proof.Layer.ProjOperands
public import proofs.«01_k».proof.Proof.Layer.ProjBlock
public import Idealize.ShloMosaic.Lib.Claim

@[expose] public section

set_option maxRecDepth 16384

noncomputable section

namespace Cert.Kernel5Ideal.Proj

open Cert.Kernel5Ideal Cert.Kernel5Ideal.Gen Cert.Layer Idealize.ShloMosaic Idealize.ShloMosaic.TcCoe Idealize.SL.Sem
open Idealize.ShloMosaic.Pipeline (Dat)

variable (m : (ℓ : Loc nD τ sig) → Buf (Elt Ideal) ℓ)

open Cert.Reference5Ideal.Proj (product columnOf cosine signedSine)

/-- The tokens at launch. -/
abbrev tokens (c : Dev nD) : FVec Ideal S8x2048x1024 .f32 := m ((c : Thread nD τ).loc main_arg0)

/-- The input projection at launch. -/
abbrev weights (c : Dev nD) : FVec Ideal S1024x7240 .f32 := m ((c : Thread nD τ).loc main_arg1)

/-- A block's product with one of the first columns. -/
theorem product_eq (c : Dev nD) (t : Fin cfg0.N) (x : FVec Ideal S1024x1024 .f32) (hx : x = iblk m c 0 t)
    (w : FVec Ideal S1024x3584 .bf16) (hw : w = X0_1 m c t) (r : Fin 1024) (R : Fin 16384) (hR : R.val = t.val * 1024 + r.val)
    (n : Fin 3584) (n' : Fin 7240) (hn : n'.val = n.val) :
    (∑ k : Fin 1024, x (ix2 r k) * w (ix2 k n) : EReal) = product (tokens m c) (weights m c) R n' := by
  subst hx hw
  exact Finset.sum_congr rfl fun k _ => congrArg₂ (fun a b : EReal => a * b) (tokens_at m c t r k R hR) (weights_at m c t k n n' hn)

/-- A block's product with one of the memory attention's columns. -/
theorem memory_product_eq (c : Dev nD) (t : Fin cfg0.N) (x : FVec Ideal S1024x1024 .f32) (hx : x = iblk m c 0 t)
    (w : FVec Ideal S1024x512 .bf16) (hw : w = iblk m c 2 t) (r : Fin 1024) (R : Fin 16384) (hR : R.val = t.val * 1024 + r.val) (n : Fin 512) :
    (∑ k : Fin 1024, x (ix2 r k) * w (ix2 k n) : EReal) = product (tokens m c) (weights m c) R ⟨3656 + n.val, by omega⟩ := by
  subst hx hw
  exact Finset.sum_congr rfl fun k _ => congrArg₂ (fun a b : EReal => a * b) (tokens_at m c t r k R hR) (memory_weights_at m c t k n)

/-- A block's product with one of the transposed columns. -/
theorem turned_product_eq (c : Dev nD) (t : Fin cfg0.N) (x : FVec Ideal S1024x1024 .f32) (hx : x = iblk m c 0 t)
    (w : FVec Ideal S640x1024 .bf16) (hw : w = iblk m c 3 t) (r : Fin 1024) (R : Fin 16384) (hR : R.val = t.val * 1024 + r.val)
    (n : Fin 640) (n' : Fin 7240) (hn : n'.val = if n.val < 512 then 2560 + n.val else 3072 + n.val) :
    (∑ k : Fin 1024, x (ix2 r k) * w (ix2 n k) : EReal) = product (tokens m c) (weights m c) R n' := by
  subst hx hw
  exact Finset.sum_congr rfl fun k _ => congrArg₂ (fun a b : EReal => a * b) (tokens_at m c t r k R hR) (turned_at m c t n k n' hn)

/-- A block's rotated lane. -/
theorem rope_eq (c : Dev nD) (t : Fin cfg0.N) (x : FVec Ideal S1024x1024 .f32) (hx : x = iblk m c 0 t)
    (w : FVec Ideal S1024x3584 .bf16) (hw : w = X0_1 m c t) (cos sin : FVec Ideal S1024x256 .f32) (hcos : cos = iblk m c 4 t) (hsin : sin = iblk m c 5 t)
    (r : Fin 1024) (R : Fin 16384) (hR : R.val = t.val * 1024 + r.val) (o : ℕ) (ho : o + 256 ≤ 3584) (j : Fin 256) :
    ropeLane (fun j => (∑ k : Fin 1024, x (ix2 r k) * w (ix2 k ⟨o + j.val, by omega⟩) : EReal)) (cos (ix2 r j)) (sin (ix2 r j)) j
      = ropeLane (columnOf (tokens m c) (weights m c) o (by omega) R) (cosine R j) (signedSine R j) j := by
  have e1 : (cos (ix2 r j) : EReal) = cosine R j := by rw [hcos]; exact cosines_at m c t r j R hR
  have e2 : (sin (ix2 r j) : EReal) = signedSine R j := by rw [hsin]; exact sines_at m c t r j R hR
  have e3 : (fun j : Fin 256 => (∑ k : Fin 1024, x (ix2 r k) * w (ix2 k ⟨o + j.val, by omega⟩) : EReal))
      = columnOf (tokens m c) (weights m c) o (by omega) R := funext fun j => product_eq m c t x hx w hw r R hR _ _ rfl
  rw [e1, e2, e3]

/-- The retention's queries. -/
theorem out_7 (c : Dev nD) (t : Fin cfg0.N) (r : Fin 1024) (j : Fin 512) (R : Fin 16384) (hR : R.val = t.val * 1024 + r.val) :
    ((outsAt0 m c t).1 (ix2 r j) : EReal) = Cert.Reference5Ideal.Read.val_main_v118 (F := Ideal) (tokens m c) (weights m c) (ix2 R j) := by
  refine (queries_at m c t _ rfl _ rfl _ _ rfl rfl r j).trans (Eq.trans ?_ (Cert.Reference5Ideal.Proj.queries_at (tokens m c) (weights m c) R j).symm)
  exact congrArg (fun f => spread f j) (funext fun i => rope_eq m c t _ rfl _ rfl _ _ rfl rfl r R hR 0 (by omega) i)

/-- The retention's keys. -/
theorem out_8 (c : Dev nD) (t : Fin cfg0.N) (r : Fin 1024) (j : Fin 512) (R : Fin 16384) (hR : R.val = t.val * 1024 + r.val) :
    ((outsAt0 m c t).2.1 (ix2 r j) : EReal) = Cert.Reference5Ideal.Read.val_main_v122 (F := Ideal) (tokens m c) (weights m c) (ix2 R j) := by
  refine (keys_at m c t _ rfl _ rfl _ _ rfl rfl r j).trans (Eq.trans ?_ (Cert.Reference5Ideal.Proj.keys_at (tokens m c) (weights m c) R j).symm)
  exact congrArg (fun f => spread f j) (funext fun i => congrArg (fun e : EReal => e * FloatOps.ofBits (F := Ideal) .f32 0x3E000000#32)
    (rope_eq m c t _ rfl _ rfl _ _ rfl rfl r R hR 256 (by omega) i))

/-- The retention's keys, decayed. -/
theorem out_9 (c : Dev nD) (t : Fin cfg0.N) (r : Fin 1024) (j : Fin 256) (R : Fin 16384) (hR : R.val = t.val * 1024 + r.val) :
    ((outsAt0 m c t).2.2.1 (ix2 j r) : EReal) = Cert.Reference5Ideal.Read.val_main_v125 (F := Ideal) (tokens m c) (weights m c) (ix2 j R) := by
  refine (decayed_keys_at m c t _ rfl _ rfl _ _ _ rfl rfl rfl j r).trans (Eq.trans ?_ (Cert.Reference5Ideal.Proj.decayed_keys_at (tokens m c) (weights m c) R j).symm)
  exact congrArg₂ (fun a b : EReal => a * b) (congrArg (fun e : EReal => e * FloatOps.ofBits (F := Ideal) .f32 0x3E000000#32)
    (rope_eq m c t _ rfl _ rfl _ _ rfl rfl r R hR 256 (by omega) j)) (decay_at m c t r j R hR)

/-- The retention's values. -/
theorem out_10 (c : Dev nD) (t : Fin cfg0.N) (r : Fin 1024) (j : Fin 512) (R : Fin 16384) (hR : R.val = t.val * 1024 + r.val) :
    ((outsAt0 m c t).2.2.2.1 (ix2 r j) : EReal) = Cert.Reference5Ideal.Read.val_main_v127 (F := Ideal) (tokens m c) (weights m c) (ix2 R j) := by
  refine (values_at m c t _ rfl _ rfl r j).trans (Eq.trans ?_ (Cert.Reference5Ideal.Proj.values_at (tokens m c) (weights m c) R j).symm)
  exact product_eq m c t _ rfl _ rfl r R hR _ _ rfl

/-- The retention's gates. -/
theorem out_11 (c : Dev nD) (t : Fin cfg0.N) (r : Fin 1024) (j : Fin 512) (R : Fin 16384) (hR : R.val = t.val * 1024 + r.val) :
    ((outsAt0 m c t).2.2.2.2.1 (ix2 r j) : EReal) = Cert.Reference5Ideal.Read.val_main_v128 (F := Ideal) (tokens m c) (weights m c) (ix2 R j) := by
  refine (gates_at m c t _ rfl _ rfl r j).trans (Eq.trans ?_ (Cert.Reference5Ideal.Proj.gates_at (tokens m c) (weights m c) R j).symm)
  exact product_eq m c t _ rfl _ rfl r R hR _ _ rfl

/-- The sparse attention's queries. -/
theorem out_12 (c : Dev nD) (t : Fin cfg0.N) (r : Fin 1024) (j : Fin 512) (R : Fin 16384) (hR : R.val = t.val * 1024 + r.val) :
    ((outsAt0 m c t).2.2.2.2.2.1 (ix2 j r) : EReal) = Cert.Reference5Ideal.Read.val_main_v133 (F := Ideal) (tokens m c) (weights m c) (ix2 j R) := by
  refine (sparse_queries_at m c t _ rfl _ rfl j r).trans (Eq.trans ?_ (Cert.Reference5Ideal.Proj.sparse_queries_at (tokens m c) (weights m c) j R).symm)
  exact congrArg (fun e : EReal => e * FloatOps.ofBits (F := Ideal) .f32 0x3E38AA3B#32) (product_eq m c t _ rfl _ rfl r R hR _ _ rfl)

/-- The sparse attention's keys. -/
theorem out_13 (c : Dev nD) (t : Fin cfg0.N) (r : Fin 1024) (j : Fin 1024) (R : Fin 16384) (hR : R.val = t.val * 1024 + r.val) :
    ((outsAt0 m c t).2.2.2.2.2.2.1 (ix2 r j) : EReal) = Cert.Reference5Ideal.Read.val_main_v135 (F := Ideal) (tokens m c) (weights m c) (ix2 R j) := by
  refine (sparse_keys_at m c t _ rfl _ rfl r j).trans (Eq.trans ?_ (Cert.Reference5Ideal.Proj.sparse_keys_at (tokens m c) (weights m c) R j).symm)
  exact congrArg (fun f => alternate f j) (funext fun i => product_eq m c t _ rfl _ rfl r R hR _ ⟨2048 + i.val, by omega⟩ rfl)

/-- The indexer's queries. -/
theorem out_15 (c : Dev nD) (t : Fin cfg0.N) (r : Fin 1024) (j : Fin 512) (R : Fin 16384) (hR : R.val = t.val * 1024 + r.val) :
    ((outsAt0 m c t).2.2.2.2.2.2.2.2.1 (ix2 j r) : EReal) = Cert.Reference5Ideal.Read.val_main_v140 (F := Ideal) (tokens m c) (weights m c) (ix2 j R) := by
  refine (index_queries_at m c t _ rfl _ rfl j r).trans (Eq.trans ?_ (Cert.Reference5Ideal.Proj.index_queries_at (tokens m c) (weights m c) j R).symm)
  exact product_eq m c t _ rfl _ rfl r R hR _ _ rfl

/-- The memory attention's queries. -/
theorem out_16 (c : Dev nD) (t : Fin cfg0.N) (r : Fin 1024) (j : Fin 512) (R : Fin 16384) (hR : R.val = t.val * 1024 + r.val) :
    ((outsAt0 m c t).2.2.2.2.2.2.2.2.2.1 (ix2 r j) : EReal) = Cert.Reference5Ideal.Read.val_main_v142 (F := Ideal) (tokens m c) (weights m c) (ix2 R j) := by
  refine (memory_queries_at m c t _ rfl _ rfl r j).trans (Eq.trans ?_ (Cert.Reference5Ideal.Proj.memory_queries_at (tokens m c) (weights m c) R j).symm)
  exact memory_product_eq m c t _ rfl _ rfl r R hR j

/-- The indexer's keys and weights. -/
theorem out_17 (c : Dev nD) (t : Fin cfg0.N) (r : Fin 1024) (j : Fin 128) (R : Fin 16384) (hR : R.val = t.val * 1024 + r.val) :
    ((outsAt0 m c t).2.2.2.2.2.2.2.2.2.2.1 (ix2 j r) : EReal) = Cert.Reference5Ideal.Read.val_main_v145 (F := Ideal) (tokens m c) (weights m c) (ix2 j R) := by
  refine (index_keys_at m c t _ rfl _ rfl j r).trans (Eq.trans ?_ (Cert.Reference5Ideal.Proj.index_keys_at (tokens m c) (weights m c) j R).symm)
  exact turned_product_eq m c t _ rfl _ rfl r R hR _ _ (by show 3584 + j.val = if 512 + j.val < 512 then 2560 + (512 + j.val) else 3072 + (512 + j.val); rw [if_neg (by omega)]; omega)

/-- The indexer's keys, at both ends of a row. -/
theorem out_18 (c : Dev nD) (t : Fin cfg0.N) (r : Fin 1024) (j : Fin 256) (R : Fin 16384) (hR : R.val = t.val * 1024 + r.val) :
    ((outsAt0 m c t).2.2.2.2.2.2.2.2.2.2.2 (ix2 r j) : EReal) = Cert.Reference5Ideal.Read.val_main_v147 (F := Ideal) (tokens m c) (weights m c) (ix2 R j) := by
  refine (wide_index_keys_at m c t _ rfl _ rfl r j).trans (Eq.trans ?_ (Cert.Reference5Ideal.Proj.wide_index_keys_at (tokens m c) (weights m c) R j).symm)
  exact congrArg (fun f => ends f j) (funext fun i => turned_product_eq m c t _ rfl _ rfl r R hR _ ⟨3584 + i.val, by omega⟩
    (by show 3584 + i.val = if 512 + i.val < 512 then 2560 + (512 + i.val) else 3072 + (512 + i.val); rw [if_neg (by omega)]; omega))

/-- The sparse attention's values. -/
theorem out_14 (c : Dev nD) (t : Fin cfg0.N) (s : Fin 4) (i : Fin 640) (k : Fin 256) (S : Fin 64) (hS : S.val = t.val * 4 + s.val) :
    ((outsAt0 m c t).2.2.2.2.2.2.2.1 (ix3 s i k) : EReal) = Cert.Reference5Ideal.Read.val_main_v137 (F := Ideal) (tokens m c) (weights m c) (ix3 S i k) := by
  refine (sparse_values_at m c t _ rfl _ rfl s i k).trans (Eq.trans ?_ (Cert.Reference5Ideal.Proj.sparse_values_at (tokens m c) (weights m c) S i k).symm)
  unfold onesBelow
  by_cases h1 : i.val % 80 < 64
  · refine (if_pos h1).trans (Eq.trans ?_ (if_pos h1).symm)
    refine turned_product_eq m c t _ rfl _ rfl _ _ ?_ _ _ ?_
    · show S.val * 256 + k.val = t.val * 1024 + (s.val * 256 + k.val)
      omega
    · show 2560 + (i.val / 80 * 64 + i.val % 80 % 64) = if i.val / 80 * 64 + i.val % 80 % 64 < 512 then _ else _
      rw [if_pos (by omega)]
  · exact (if_neg h1).trans (if_neg h1).symm

end Cert.Kernel5Ideal.Proj

end
-- ==== Proof.Layer.ProjArray.lean ====
/- The twelve result arrays of the projections are the reference's: the sixteen grid points' blocks tile each of them. -/
module

public import proofs.«01_k».proof.Proof.Layer.ProjOut
public import Idealize.ShloMosaic.Lib.Claim

@[expose] public section

set_option maxRecDepth 16384

noncomputable section

namespace Cert.Kernel5Ideal.Proj

open Cert.Kernel5Ideal Cert.Kernel5Ideal.Gen Cert.Layer Idealize.ShloMosaic Idealize.ShloMosaic.TcCoe Idealize.SL.Sem
open Idealize.ShloMosaic.Pipeline (Dat)

variable (m : (ℓ : Loc nD τ sig) → Buf (Elt Ideal) ℓ)

/-- Where each result's block lies at a grid point. -/
theorem result_index : ∀ t : Fin cfg0.N, win0_7.index t = ![t.val, 0]
    ∧ win0_8.index t = ![t.val, 0]
    ∧ win0_9.index t = ![0, t.val]
    ∧ win0_10.index t = ![t.val, 0]
    ∧ win0_11.index t = ![t.val, 0]
    ∧ win0_12.index t = ![0, t.val]
    ∧ win0_13.index t = ![t.val, 0]
    ∧ win0_14.index t = ![t.val, 0, 0]
    ∧ win0_15.index t = ![0, t.val]
    ∧ win0_16.index t = ![t.val, 0]
    ∧ win0_17.index t = ![0, t.val]
    ∧ win0_18.index t = ![t.val, 0]
    ∧ t.val < 16 :=
  (by decide +kernel : ∀ t : Fin grid0.N, _)

/-- The retention's queries. -/
theorem array_7 (c : Dev nD) : (dats m 0 c).arrAt 7 cfg0.N
    = Cert.Reference5Ideal.Read.val_main_v118 (F := Ideal) (tokens m c) (weights m c) := by
  refine (dats m 0 c).arrAt_eq_of_covers 7 _ (by decide +kernel) fun t hf y => ?_
  blk_simp
  rw [after0_7]
  have hy : y = ix2 (y 0) (y 1) := by funext a; fin_cases a <;> rfl
  rw [hy]
  have h0 : (y 0).val < 1024 := (y 0).isLt
  have ht : t.val < 16 := (result_index t).2.2.2.2.2.2.2.2.2.2.2.2
  refine (out_7 m c t (y 0) (y 1) (⟨t.val * 1024 + (y 0).val, by omega⟩ : Fin 16384) rfl).trans ?_
  have he : (win0_7.blk t).view.emb (ix2 (y 0) (y 1)) = ix2 (⟨t.val * 1024 + (y 0).val, by omega⟩ : Fin 16384) (y 1) := by
    blk_ext [result_index t]
  exact (congrArg (Cert.Reference5Ideal.Read.val_main_v118 (F := Ideal) (tokens m c) (weights m c)) he).symm

/-- The retention's keys. -/
theorem array_8 (c : Dev nD) : (dats m 0 c).arrAt 8 cfg0.N
    = Cert.Reference5Ideal.Read.val_main_v122 (F := Ideal) (tokens m c) (weights m c) := by
  refine (dats m 0 c).arrAt_eq_of_covers 8 _ (by decide +kernel) fun t hf y => ?_
  blk_simp
  rw [after0_8]
  have hy : y = ix2 (y 0) (y 1) := by funext a; fin_cases a <;> rfl
  rw [hy]
  have h0 : (y 0).val < 1024 := (y 0).isLt
  have ht : t.val < 16 := (result_index t).2.2.2.2.2.2.2.2.2.2.2.2
  refine (out_8 m c t (y 0) (y 1) (⟨t.val * 1024 + (y 0).val, by omega⟩ : Fin 16384) rfl).trans ?_
  have he : (win0_8.blk t).view.emb (ix2 (y 0) (y 1)) = ix2 (⟨t.val * 1024 + (y 0).val, by omega⟩ : Fin 16384) (y 1) := by
    blk_ext [result_index t]
  exact (congrArg (Cert.Reference5Ideal.Read.val_main_v122 (F := Ideal) (tokens m c) (weights m c)) he).symm

/-- The retention's keys, decayed. -/
theorem array_9 (c : Dev nD) : (dats m 0 c).arrAt 9 cfg0.N
    = Cert.Reference5Ideal.Read.val_main_v125 (F := Ideal) (tokens m c) (weights m c) := by
  refine (dats m 0 c).arrAt_eq_of_covers 9 _ (by decide +kernel) fun t hf y => ?_
  blk_simp
  rw [after0_9]
  have hy : y = ix2 (y 0) (y 1) := by funext a; fin_cases a <;> rfl
  rw [hy]
  have h0 : (y 1).val < 1024 := (y 1).isLt
  have ht : t.val < 16 := (result_index t).2.2.2.2.2.2.2.2.2.2.2.2
  refine (out_9 m c t (y 1) (y 0) (⟨t.val * 1024 + (y 1).val, by omega⟩ : Fin 16384) rfl).trans ?_
  have he : (win0_9.blk t).view.emb (ix2 (y 0) (y 1)) = ix2 (y 0) (⟨t.val * 1024 + (y 1).val, by omega⟩ : Fin 16384) := by
    blk_ext [result_index t]
  exact (congrArg (Cert.Reference5Ideal.Read.val_main_v125 (F := Ideal) (tokens m c) (weights m c)) he).symm

/-- The retention's values. -/
theorem array_10 (c : Dev nD) : (dats m 0 c).arrAt 10 cfg0.N
    = Cert.Reference5Ideal.Read.val_main_v127 (F := Ideal) (tokens m c) (weights m c) := by
  refine (dats m 0 c).arrAt_eq_of_covers 10 _ (by decide +kernel) fun t hf y => ?_
  blk_simp
  rw [after0_10]
  have hy : y = ix2 (y 0) (y 1) := by funext a; fin_cases a <;> rfl
  rw [hy]
  have h0 : (y 0).val < 1024 := (y 0).isLt
  have ht : t.val < 16 := (result_index t).2.2.2.2.2.2.2.2.2.2.2.2
  refine (out_10 m c t (y 0) (y 1) (⟨t.val * 1024 + (y 0).val, by omega⟩ : Fin 16384) rfl).trans ?_
  have he : (win0_10.blk t).view.emb (ix2 (y 0) (y 1)) = ix2 (⟨t.val * 1024 + (y 0).val, by omega⟩ : Fin 16384) (y 1) := by
    blk_ext [result_index t]
  exact (congrArg (Cert.Reference5Ideal.Read.val_main_v127 (F := Ideal) (tokens m c) (weights m c)) he).symm

/-- The retention's gates. -/
theorem array_11 (c : Dev nD) : (dats m 0 c).arrAt 11 cfg0.N
    = Cert.Reference5Ideal.Read.val_main_v128 (F := Ideal) (tokens m c) (weights m c) := by
  refine (dats m 0 c).arrAt_eq_of_covers 11 _ (by decide +kernel) fun t hf y => ?_
  blk_simp
  rw [after0_11]
  have hy : y = ix2 (y 0) (y 1) := by funext a; fin_cases a <;> rfl
  rw [hy]
  have h0 : (y 0).val < 1024 := (y 0).isLt
  have ht : t.val < 16 := (result_index t).2.2.2.2.2.2.2.2.2.2.2.2
  refine (out_11 m c t (y 0) (y 1) (⟨t.val * 1024 + (y 0).val, by omega⟩ : Fin 16384) rfl).trans ?_
  have he : (win0_11.blk t).view.emb (ix2 (y 0) (y 1)) = ix2 (⟨t.val * 1024 + (y 0).val, by omega⟩ : Fin 16384) (y 1) := by
    blk_ext [result_index t]
  exact (congrArg (Cert.Reference5Ideal.Read.val_main_v128 (F := Ideal) (tokens m c) (weights m c)) he).symm

/-- The sparse attention's queries. -/
theorem array_12 (c : Dev nD) : (dats m 0 c).arrAt 12 cfg0.N
    = Cert.Reference5Ideal.Read.val_main_v133 (F := Ideal) (tokens m c) (weights m c) := by
  refine (dats m 0 c).arrAt_eq_of_covers 12 _ (by decide +kernel) fun t hf y => ?_
  blk_simp
  rw [after0_12]
  have hy : y = ix2 (y 0) (y 1) := by funext a; fin_cases a <;> rfl
  rw [hy]
  have h0 : (y 1).val < 1024 := (y 1).isLt
  have ht : t.val < 16 := (result_index t).2.2.2.2.2.2.2.2.2.2.2.2
  refine (out_12 m c t (y 1) (y 0) (⟨t.val * 1024 + (y 1).val, by omega⟩ : Fin 16384) rfl).trans ?_
  have he : (win0_12.blk t).view.emb (ix2 (y 0) (y 1)) = ix2 (y 0) (⟨t.val * 1024 + (y 1).val, by omega⟩ : Fin 16384) := by
    blk_ext [result_index t]
  exact (congrArg (Cert.Reference5Ideal.Read.val_main_v133 (F := Ideal) (tokens m c) (weights m c)) he).symm

/-- The sparse attention's keys. -/
theorem array_13 (c : Dev nD) : (dats m 0 c).arrAt 13 cfg0.N
    = Cert.Reference5Ideal.Read.val_main_v135 (F := Ideal) (tokens m c) (weights m c) := by
  refine (dats m 0 c).arrAt_eq_of_covers 13 _ (by decide +kernel) fun t hf y => ?_
  blk_simp
  rw [after0_13]
  have hy : y = ix2 (y 0) (y 1) := by funext a; fin_cases a <;> rfl
  rw [hy]
  have h0 : (y 0).val < 1024 := (y 0).isLt
  have ht : t.val < 16 := (result_index t).2.2.2.2.2.2.2.2.2.2.2.2
  refine (out_13 m c t (y 0) (y 1) (⟨t.val * 1024 + (y 0).val, by omega⟩ : Fin 16384) rfl).trans ?_
  have he : (win0_13.blk t).view.emb (ix2 (y 0) (y 1)) = ix2 (⟨t.val * 1024 + (y 0).val, by omega⟩ : Fin 16384) (y 1) := by
    blk_ext [result_index t]
  exact (congrArg (Cert.Reference5Ideal.Read.val_main_v135 (F := Ideal) (tokens m c) (weights m c)) he).symm

/-- The sparse attention's values. -/
theorem array_14 (c : Dev nD) : (dats m 0 c).arrAt 14 cfg0.N
    = Cert.Reference5Ideal.Read.val_main_v137 (F := Ideal) (tokens m c) (weights m c) := by
  refine (dats m 0 c).arrAt_eq_of_covers 14 _ (by decide +kernel) fun t hf y => ?_
  blk_simp
  rw [after0_14]
  have hy : y = ix3 (y 0) (y 1) (y 2) := by funext a; fin_cases a <;> rfl
  rw [hy]
  have h0 : (y 0).val < 4 := (y 0).isLt
  have ht : t.val < 16 := (result_index t).2.2.2.2.2.2.2.2.2.2.2.2
  refine (out_14 m c t (y 0) (y 1) (y 2) ⟨t.val * 4 + (y 0).val, by omega⟩ rfl).trans ?_
  have he : (win0_14.blk t).view.emb (ix3 (y 0) (y 1) (y 2)) = ix3 (⟨t.val * 4 + (y 0).val, by omega⟩ : Fin 64) (y 1) (y 2) := by
    blk_ext [result_index t]
  exact (congrArg (Cert.Reference5Ideal.Read.val_main_v137 (F := Ideal) (tokens m c) (weights m c)) he).symm

/-- The indexer's queries. -/
theorem array_15 (c : Dev nD) : (dats m 0 c).arrAt 15 cfg0.N
    = Cert.Reference5Ideal.Read.val_main_v140 (F := Ideal) (tokens m c) (weights m c) := by
  refine (dats m 0 c).arrAt_eq_of_covers 15 _ (by decide +kernel) fun t hf y => ?_
  blk_simp
  rw [after0_15]
  have hy : y = ix2 (y 0) (y 1) := by funext a; fin_cases a <;> rfl
  rw [hy]
  have h0 : (y 1).val < 1024 := (y 1).isLt
  have ht : t.val < 16 := (result_index t).2.2.2.2.2.2.2.2.2.2.2.2
  refine (out_15 m c t (y 1) (y 0) (⟨t.val * 1024 + (y 1).val, by omega⟩ : Fin 16384) rfl).trans ?_
  have he : (win0_15.blk t).view.emb (ix2 (y 0) (y 1)) = ix2 (y 0) (⟨t.val * 1024 + (y 1).val, by omega⟩ : Fin 16384) := by
    blk_ext [result_index t]
  exact (congrArg (Cert.Reference5Ideal.Read.val_main_v140 (F := Ideal) (tokens m c) (weights m c)) he).symm

/-- The memory attention's queries. -/
theorem array_16 (c : Dev nD) : (dats m 0 c).arrAt 16 cfg0.N
    = Cert.Reference5Ideal.Read.val_main_v142 (F := Ideal) (tokens m c) (weights m c) := by
  refine (dats m 0 c).arrAt_eq_of_covers 16 _ (by decide +kernel) fun t hf y => ?_
  blk_simp
  rw [after0_16]
  have hy : y = ix2 (y 0) (y 1) := by funext a; fin_cases a <;> rfl
  rw [hy]
  have h0 : (y 0).val < 1024 := (y 0).isLt
  have ht : t.val < 16 := (result_index t).2.2.2.2.2.2.2.2.2.2.2.2
  refine (out_16 m c t (y 0) (y 1) (⟨t.val * 1024 + (y 0).val, by omega⟩ : Fin 16384) rfl).trans ?_
  have he : (win0_16.blk t).view.emb (ix2 (y 0) (y 1)) = ix2 (⟨t.val * 1024 + (y 0).val, by omega⟩ : Fin 16384) (y 1) := by
    blk_ext [result_index t]
  exact (congrArg (Cert.Reference5Ideal.Read.val_main_v142 (F := Ideal) (tokens m c) (weights m c)) he).symm

/-- The indexer's keys and weights. -/
theorem array_17 (c : Dev nD) : (dats m 0 c).arrAt 17 cfg0.N
    = Cert.Reference5Ideal.Read.val_main_v145 (F := Ideal) (tokens m c) (weights m c) := by
  refine (dats m 0 c).arrAt_eq_of_covers 17 _ (by decide +kernel) fun t hf y => ?_
  blk_simp
  rw [after0_17]
  have hy : y = ix2 (y 0) (y 1) := by funext a; fin_cases a <;> rfl
  rw [hy]
  have h0 : (y 1).val < 1024 := (y 1).isLt
  have ht : t.val < 16 := (result_index t).2.2.2.2.2.2.2.2.2.2.2.2
  refine (out_17 m c t (y 1) (y 0) (⟨t.val * 1024 + (y 1).val, by omega⟩ : Fin 16384) rfl).trans ?_
  have he : (win0_17.blk t).view.emb (ix2 (y 0) (y 1)) = ix2 (y 0) (⟨t.val * 1024 + (y 1).val, by omega⟩ : Fin 16384) := by
    blk_ext [result_index t]
  exact (congrArg (Cert.Reference5Ideal.Read.val_main_v145 (F := Ideal) (tokens m c) (weights m c)) he).symm

/-- The indexer's keys, at both ends of a row. -/
theorem array_18 (c : Dev nD) : (dats m 0 c).arrAt 18 cfg0.N
    = Cert.Reference5Ideal.Read.val_main_v147 (F := Ideal) (tokens m c) (weights m c) := by
  refine (dats m 0 c).arrAt_eq_of_covers 18 _ (by decide +kernel) fun t hf y => ?_
  blk_simp
  rw [after0_18]
  have hy : y = ix2 (y 0) (y 1) := by funext a; fin_cases a <;> rfl
  rw [hy]
  have h0 : (y 0).val < 1024 := (y 0).isLt
  have ht : t.val < 16 := (result_index t).2.2.2.2.2.2.2.2.2.2.2.2
  refine (out_18 m c t (y 0) (y 1) (⟨t.val * 1024 + (y 0).val, by omega⟩ : Fin 16384) rfl).trans ?_
  have he : (win0_18.blk t).view.emb (ix2 (y 0) (y 1)) = ix2 (⟨t.val * 1024 + (y 0).val, by omega⟩ : Fin 16384) (y 1) := by
    blk_ext [result_index t]
  exact (congrArg (Cert.Reference5Ideal.Read.val_main_v147 (F := Ideal) (tokens m c) (weights m c)) he).symm

end Cert.Kernel5Ideal.Proj

end
-- ==== Proof.Layer.ProjClaim.lean ====
/- The projections: the reference's frame, and the two runs end with equal results, all twelve of them. -/
module

public import proofs.«01_k».proof.Defs
public import proofs.«01_k».proof.Proof.Layer.ProjArray
public import proofs.«01_k».proof.Proof.Gen.Kernel5Ideal.Value
public import proofs.«01_k».proof.Proof.Gen.Reference5Ideal.Run
public import proofs.«01_k».proof.Proof.Gen.Reference5Ideal.Read
public import Idealize.ShloMosaic.Lib.Claim
public import Idealize.ShloMosaic.Adequacy
public import Idealize.ShloMosaic.Init

@[expose] public section

set_option maxRecDepth 16384

noncomputable section

namespace Cert.Layer.ProjClaim

open Idealize.ShloMosaic Idealize.ShloMosaic.TcCoe Idealize.SL.Sem

/-- The reference's frame. -/
theorem frame_reference : Cert.quiescent_Reference5Ideal := fun m ρ _ =>
  (θ_run Cert.Reference5Ideal.defs _ _).mono (fun r h => ⟨fun c => (h c).2.2.2.2.2.2.2.2.2.2.2.2, sem_eq_zero_of_no_sems (by decide) r.2⟩) (Cert.Reference5Ideal.Value.run (F := Ideal) m ρ)

set_option maxHeartbeats 4000000 in
/-- THE EQUATION of the two runs: the kernel ends with the reference's twelve values of the same arguments. -/
theorem equal : Cert.algebraic_Kernel5Ideal_Reference5Ideal := fun m ρ m' ρ' _ hag =>
  ⟨fun c => Cert.Reference5Ideal.Read.val_main_v118 (F := Ideal) (Cert.Kernel5Ideal.Proj.tokens m c) (Cert.Kernel5Ideal.Proj.weights m c),
    fun c => Cert.Reference5Ideal.Read.val_main_v122 (F := Ideal) (Cert.Kernel5Ideal.Proj.tokens m c) (Cert.Kernel5Ideal.Proj.weights m c),
    fun c => Cert.Reference5Ideal.Read.val_main_v125 (F := Ideal) (Cert.Kernel5Ideal.Proj.tokens m c) (Cert.Kernel5Ideal.Proj.weights m c),
    fun c => Cert.Reference5Ideal.Read.val_main_v127 (F := Ideal) (Cert.Kernel5Ideal.Proj.tokens m c) (Cert.Kernel5Ideal.Proj.weights m c),
    fun c => Cert.Reference5Ideal.Read.val_main_v128 (F := Ideal) (Cert.Kernel5Ideal.Proj.tokens m c) (Cert.Kernel5Ideal.Proj.weights m c),
    fun c => Cert.Reference5Ideal.Read.val_main_v133 (F := Ideal) (Cert.Kernel5Ideal.Proj.tokens m c) (Cert.Kernel5Ideal.Proj.weights m c),
    fun c => Cert.Reference5Ideal.Read.val_main_v135 (F := Ideal) (Cert.Kernel5Ideal.Proj.tokens m c) (Cert.Kernel5Ideal.Proj.weights m c),
    fun c => Cert.Reference5Ideal.Read.val_main_v137 (F := Ideal) (Cert.Kernel5Ideal.Proj.tokens m c) (Cert.Kernel5Ideal.Proj.weights m c),
    fun c => Cert.Reference5Ideal.Read.val_main_v140 (F := Ideal) (Cert.Kernel5Ideal.Proj.tokens m c) (Cert.Kernel5Ideal.Proj.weights m c),
    fun c => Cert.Reference5Ideal.Read.val_main_v142 (F := Ideal) (Cert.Kernel5Ideal.Proj.tokens m c) (Cert.Kernel5Ideal.Proj.weights m c),
    fun c => Cert.Reference5Ideal.Read.val_main_v145 (F := Ideal) (Cert.Kernel5Ideal.Proj.tokens m c) (Cert.Kernel5Ideal.Proj.weights m c),
    fun c => Cert.Reference5Ideal.Read.val_main_v147 (F := Ideal) (Cert.Kernel5Ideal.Proj.tokens m c) (Cert.Kernel5Ideal.Proj.weights m c),
    (θ_run _ _ _).mono (fun r h c => ⟨(h c).1.trans (Cert.Kernel5Ideal.Proj.array_7 m c),
      (h c).2.1.trans (Cert.Kernel5Ideal.Proj.array_8 m c),
      (h c).2.2.1.trans (Cert.Kernel5Ideal.Proj.array_9 m c),
      (h c).2.2.2.1.trans (Cert.Kernel5Ideal.Proj.array_10 m c),
      (h c).2.2.2.2.1.trans (Cert.Kernel5Ideal.Proj.array_11 m c),
      (h c).2.2.2.2.2.1.trans (Cert.Kernel5Ideal.Proj.array_12 m c),
      (h c).2.2.2.2.2.2.1.trans (Cert.Kernel5Ideal.Proj.array_13 m c),
      (h c).2.2.2.2.2.2.2.1.trans (Cert.Kernel5Ideal.Proj.array_14 m c),
      (h c).2.2.2.2.2.2.2.2.1.trans (Cert.Kernel5Ideal.Proj.array_15 m c),
      (h c).2.2.2.2.2.2.2.2.2.1.trans (Cert.Kernel5Ideal.Proj.array_16 m c),
      (h c).2.2.2.2.2.2.2.2.2.2.1.trans (Cert.Kernel5Ideal.Proj.array_17 m c),
      (h c).2.2.2.2.2.2.2.2.2.2.2.1.trans (Cert.Kernel5Ideal.Proj.array_18 m c),
      (h c).2.2.2.2.2.2.2.2.2.2.2.2⟩) (Cert.Kernel5Ideal.Value.run_blocks m ρ),
    (θ_run _ _ _).mono (fun r h c => ⟨((h c).1.trans (Cert.Reference5Ideal.Read.val_main_v118_eq m' c)).trans (congrArg₂ (Cert.Reference5Ideal.Read.val_main_v118 (F := Ideal)) (hag c).1 (hag c).2),
      ((h c).2.1.trans (Cert.Reference5Ideal.Read.val_main_v122_eq m' c)).trans (congrArg₂ (Cert.Reference5Ideal.Read.val_main_v122 (F := Ideal)) (hag c).1 (hag c).2),
      ((h c).2.2.1.trans (Cert.Reference5Ideal.Read.val_main_v125_eq m' c)).trans (congrArg₂ (Cert.Reference5Ideal.Read.val_main_v125 (F := Ideal)) (hag c).1 (hag c).2),
      ((h c).2.2.2.1.trans (Cert.Reference5Ideal.Read.val_main_v127_eq _ _)).trans (congrArg₂ (Cert.Reference5Ideal.Read.val_main_v127 (F := Ideal)) (hag c).1 (hag c).2),
      ((h c).2.2.2.2.1.trans (Cert.Reference5Ideal.Read.val_main_v128_eq _ _)).trans (congrArg₂ (Cert.Reference5Ideal.Read.val_main_v128 (F := Ideal)) (hag c).1 (hag c).2),
      ((h c).2.2.2.2.2.1.trans (Cert.Reference5Ideal.Read.val_main_v133_eq _ _)).trans (congrArg₂ (Cert.Reference5Ideal.Read.val_main_v133 (F := Ideal)) (hag c).1 (hag c).2),
      ((h c).2.2.2.2.2.2.1.trans (Cert.Reference5Ideal.Read.val_main_v135_eq _ _)).trans (congrArg₂ (Cert.Reference5Ideal.Read.val_main_v135 (F := Ideal)) (hag c).1 (hag c).2),
      ((h c).2.2.2.2.2.2.2.1.trans (Cert.Reference5Ideal.Read.val_main_v137_eq _ _)).trans (congrArg₂ (Cert.Reference5Ideal.Read.val_main_v137 (F := Ideal)) (hag c).1 (hag c).2),
      ((h c).2.2.2.2.2.2.2.2.1.trans (Cert.Reference5Ideal.Read.val_main_v140_eq _ _)).trans (congrArg₂ (Cert.Reference5Ideal.Read.val_main_v140 (F := Ideal)) (hag c).1 (hag c).2),
      ((h c).2.2.2.2.2.2.2.2.2.1.trans (Cert.Reference5Ideal.Read.val_main_v142_eq _ _)).trans (congrArg₂ (Cert.Reference5Ideal.Read.val_main_v142 (F := Ideal)) (hag c).1 (hag c).2),
      ((h c).2.2.2.2.2.2.2.2.2.2.1.trans (Cert.Reference5Ideal.Read.val_main_v145_eq _ _)).trans (congrArg₂ (Cert.Reference5Ideal.Read.val_main_v145 (F := Ideal)) (hag c).1 (hag c).2),
      ((h c).2.2.2.2.2.2.2.2.2.2.2.1.trans (Cert.Reference5Ideal.Read.val_main_v147_eq _ _)).trans (congrArg₂ (Cert.Reference5Ideal.Read.val_main_v147 (F := Ideal)) (hag c).1 (hag c).2),
      (h c).2.2.2.2.2.2.2.2.2.2.2.2⟩) (Cert.Reference5Ideal.Value.run (F := Ideal) m' ρ')⟩

end Cert.Layer.ProjClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Layer.RetClaim
public import proofs.«01_k».proof.Proof.Layer.FfnClaim
public import proofs.«01_k».proof.Proof.Layer.MergeClaim
public import proofs.«01_k».proof.Proof.Layer.MemoryClaim
public import proofs.«01_k».proof.Proof.Layer.ProjClaim
public import Idealize.ShloMosaic.Adequacy
public import Idealize.ShloMosaic.Init

@[expose] public section

noncomputable section

namespace Cert.Proof

open Idealize.ShloMosaic Idealize.SL.Sem Cert.Kernel

/-- All the claims together. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Layer.Finite.facts,
  fun m ρ _ => Cert.Kernel.Gen.frame m ρ,
  fun m ρ _ => Cert.KernelIdeal.Gen.frame m ρ,
  Cert.Layer.RetClaim.frame_reference,
  fun m ρ _ => Cert.Kernel2.Gen.frame m ρ,
  fun m ρ _ => Cert.Kernel2Ideal.Gen.frame m ρ,
  Cert.Layer.FfnClaim.frame_reference,
  fun m ρ _ => Cert.Kernel3.Gen.frame m ρ,
  fun m ρ _ => Cert.Kernel3Ideal.Gen.frame m ρ,
  Cert.Layer.MergeClaim.frame_reference,
  fun m ρ _ => Cert.Kernel4.Gen.frame m ρ,
  fun m ρ _ => Cert.Kernel4Ideal.Gen.frame m ρ,
  Cert.Layer.MemoryClaim.frame_kernel_finite,
  Cert.Layer.MemoryClaim.frame_reference,
  Cert.Layer.MemoryClaim.frame_reference_finite,
  fun m ρ _ => Cert.Kernel5.Gen.frame m ρ,
  fun m ρ _ => Cert.Kernel5Ideal.Gen.frame m ρ,
  Cert.Layer.ProjClaim.frame_reference,
  trivial,
  Cert.Layer.RetClaim.equal,
  trivial,
  Cert.Layer.FfnClaim.equal,
  trivial,
  Cert.Layer.MergeClaim.equal,
  trivial,
  Cert.Layer.MemoryClaim.equal,
  trivial,
  Cert.Layer.ProjClaim.equal⟩

end Cert.Proof

end
